-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueReferenceIdeal (m : (ℓ : Loc Cert.KeyValueReferenceIdeal.nD Cert.KeyValueReferenceIdeal.τ Cert.KeyValueReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_NextConv (m : (ℓ : Loc Cert.NextConv.nD Cert.NextConv.τ Cert.NextConv.sig) → Buf (Elt Bits) ℓ) : Prop :=
  True

def Pre_NextConvIdeal (m : (ℓ : Loc Cert.NextConvIdeal.nD Cert.NextConvIdeal.τ Cert.NextConvIdeal.sig) → Buf (Elt Ideal) ℓ) : Prop :=
  True

def Pre_NextConvReferenceIdeal (m : (ℓ : Loc Cert.NextConvReferenceIdeal.nD Cert.NextConvReferenceIdeal.τ Cert.NextConvReferenceIdeal.sig) → Buf (Elt Ideal) ℓ) : Prop :=
  True

def Pre_LastQuery (m : (ℓ : Loc Cert.LastQuery.nD Cert.LastQuery.τ Cert.LastQuery.sig) → Buf (Elt Bits) ℓ) : Prop :=
  True

def Pre_LastQueryIdeal (m : (ℓ : Loc Cert.LastQueryIdeal.nD Cert.LastQueryIdeal.τ Cert.LastQueryIdeal.sig) → Buf (Elt Ideal) ℓ) : Prop :=
  True

def Pre_LastQueryReferenceIdeal (m : (ℓ : Loc Cert.LastQueryReferenceIdeal.nD Cert.LastQueryReferenceIdeal.τ Cert.LastQueryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2)
      ∧ r.2.mem ((c.tc : Thread Cert.KeyValue.nD Cert.KeyValue.τ).loc Cert.KeyValue.main_arg3) = m ((c.tc : Thread Cert.KeyValue.nD Cert.KeyValue.τ).loc Cert.KeyValue.main_arg3)
      ∧ r.2.mem ((c.tc : Thread Cert.KeyValue.nD Cert.KeyValue.τ).loc Cert.KeyValue.main_arg4) = m ((c.tc : Thread Cert.KeyValue.nD Cert.KeyValue.τ).loc Cert.KeyValue.main_arg4)
      ∧ r.2.mem ((c.tc : Thread Cert.KeyValue.nD Cert.KeyValue.τ).loc Cert.KeyValue.main_arg5) = m ((c.tc : Thread Cert.KeyValue.nD Cert.KeyValue.τ).loc Cert.KeyValue.main_arg5))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
      ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
      ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
      ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ r.2.sem = fun _ => 0)

def quiescent_KeyValueReferenceIdeal [hKeyValueReferenceIdeal : Cert.KeyValueReferenceIdeal.Facts] : Prop :=
  ∀ (m : (ℓ : Loc Cert.KeyValueReferenceIdeal.nD Cert.KeyValueReferenceIdeal.τ Cert.KeyValueReferenceIdeal.sig) → Buf (Elt Ideal) ℓ) (g : Dev Cert.KeyValueReferenceIdeal.nD → PrngReg), Pre_KeyValueReferenceIdeal m →
    θ_run (Cert.KeyValueReferenceIdeal.defs (F := Ideal)) (onTc (τ := Cert.KeyValueReferenceIdeal.τ) (Cert.KeyValueReferenceIdeal.main (F := Ideal))) ⟨m, fun _ => 0, g⟩ (fun r => (∀ c : Dev Cert.KeyValueReferenceIdeal.nD,
      r.2.mem ((c.tc : Thread Cert.KeyValueReferenceIdeal.nD Cert.KeyValueReferenceIdeal.τ).loc Cert.KeyValueReferenceIdeal.main_arg0) = m ((c.tc : Thread Cert.KeyValueReferenceIdeal.nD Cert.KeyValueReferenceIdeal.τ).loc Cert.KeyValueReferenceIdeal.main_arg0)
      ∧ r.2.mem ((c.tc : Thread Cert.KeyValueReferenceIdeal.nD Cert.KeyValueReferenceIdeal.τ).loc Cert.KeyValueReferenceIdeal.main_arg1) = m ((c.tc : Thread Cert.KeyValueReferenceIdeal.nD Cert.KeyValueReferenceIdeal.τ).loc Cert.KeyValueReferenceIdeal.main_arg1)
      ∧ r.2.mem ((c.tc : Thread Cert.KeyValueReferenceIdeal.nD Cert.KeyValueReferenceIdeal.τ).loc Cert.KeyValueReferenceIdeal.main_arg2) = m ((c.tc : Thread Cert.KeyValueReferenceIdeal.nD Cert.KeyValueReferenceIdeal.τ).loc Cert.KeyValueReferenceIdeal.main_arg2)
      ∧ r.2.mem ((c.tc : Thread Cert.KeyValueReferenceIdeal.nD Cert.KeyValueReferenceIdeal.τ).loc Cert.KeyValueReferenceIdeal.main_arg3) = m ((c.tc : Thread Cert.KeyValueReferenceIdeal.nD Cert.KeyValueReferenceIdeal.τ).loc Cert.KeyValueReferenceIdeal.main_arg3)
      ∧ r.2.mem ((c.tc : Thread Cert.KeyValueReferenceIdeal.nD Cert.KeyValueReferenceIdeal.τ).loc Cert.KeyValueReferenceIdeal.main_arg4) = m ((c.tc : Thread Cert.KeyValueReferenceIdeal.nD Cert.KeyValueReferenceIdeal.τ).loc Cert.KeyValueReferenceIdeal.main_arg4)
      ∧ r.2.mem ((c.tc : Thread Cert.KeyValueReferenceIdeal.nD Cert.KeyValueReferenceIdeal.τ).loc Cert.KeyValueReferenceIdeal.main_arg5) = m ((c.tc : Thread Cert.KeyValueReferenceIdeal.nD Cert.KeyValueReferenceIdeal.τ).loc Cert.KeyValueReferenceIdeal.main_arg5))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4))
      ∧ r.2.sem = fun _ => 0)

def quiescent_NextConv [hNextConv : Cert.NextConv.Facts] : Prop :=
  ∀ (m : (ℓ : Loc Cert.NextConv.nD Cert.NextConv.τ Cert.NextConv.sig) → Buf (Elt Bits) ℓ) (g : Dev Cert.NextConv.nD → PrngReg), Pre_NextConv m →
    θ_run (Cert.NextConv.defs (F := Bits)) (onTc (τ := Cert.NextConv.τ) (Cert.NextConv.main (F := Bits))) ⟨m, fun _ => 0, g⟩ (fun r => (∀ c : Dev Cert.NextConv.nD,
      r.2.mem ((c.tc : Thread Cert.NextConv.nD Cert.NextConv.τ).loc Cert.NextConv.main_arg0) = m ((c.tc : Thread Cert.NextConv.nD Cert.NextConv.τ).loc Cert.NextConv.main_arg0)
      ∧ r.2.mem ((c.tc : Thread Cert.NextConv.nD Cert.NextConv.τ).loc Cert.NextConv.main_arg1) = m ((c.tc : Thread Cert.NextConv.nD Cert.NextConv.τ).loc Cert.NextConv.main_arg1)
      ∧ r.2.mem ((c.tc : Thread Cert.NextConv.nD Cert.NextConv.τ).loc Cert.NextConv.main_arg2) = m ((c.tc : Thread Cert.NextConv.nD Cert.NextConv.τ).loc Cert.NextConv.main_arg2)
      ∧ r.2.mem ((c.tc : Thread Cert.NextConv.nD Cert.NextConv.τ).loc Cert.NextConv.main_arg3) = m ((c.tc : Thread Cert.NextConv.nD Cert.NextConv.τ).loc Cert.NextConv.main_arg3)
      ∧ r.2.mem ((c.tc : Thread Cert.NextConv.nD Cert.NextConv.τ).loc Cert.NextConv.main_arg4) = m ((c.tc : Thread Cert.NextConv.nD Cert.NextConv.τ).loc Cert.NextConv.main_arg4)
      ∧ r.2.mem ((c.tc : Thread Cert.NextConv.nD Cert.NextConv.τ).loc Cert.NextConv.main_arg5) = m ((c.tc : Thread Cert.NextConv.nD Cert.NextConv.τ).loc Cert.NextConv.main_arg5)
      ∧ r.2.mem ((c.tc : Thread Cert.NextConv.nD Cert.NextConv.τ).loc Cert.NextConv.main_arg6) = m ((c.tc : Thread Cert.NextConv.nD Cert.NextConv.τ).loc Cert.NextConv.main_arg6)
      ∧ r.2.mem ((c.tc : Thread Cert.NextConv.nD Cert.NextConv.τ).loc Cert.NextConv.main_arg7) = m ((c.tc : Thread Cert.NextConv.nD Cert.NextConv.τ).loc Cert.NextConv.main_arg7))
      ∧ r.2.sem = fun _ => 0)

def quiescent_NextConvIdeal [hNextConvIdeal : Cert.NextConvIdeal.Facts] : Prop :=
  ∀ (m : (ℓ : Loc Cert.NextConvIdeal.nD Cert.NextConvIdeal.τ Cert.NextConvIdeal.sig) → Buf (Elt Ideal) ℓ) (g : Dev Cert.NextConvIdeal.nD → PrngReg), Pre_NextConvIdeal m →
    θ_run (Cert.NextConvIdeal.defs (F := Ideal)) (onTc (τ := Cert.NextConvIdeal.τ) (Cert.NextConvIdeal.main (F := Ideal))) ⟨m, fun _ => 0, g⟩ (fun r => (∀ c : Dev Cert.NextConvIdeal.nD,
      r.2.mem ((c.tc : Thread Cert.NextConvIdeal.nD Cert.NextConvIdeal.τ).loc Cert.NextConvIdeal.main_arg0) = m ((c.tc : Thread Cert.NextConvIdeal.nD Cert.NextConvIdeal.τ).loc Cert.NextConvIdeal.main_arg0)
      ∧ r.2.mem ((c.tc : Thread Cert.NextConvIdeal.nD Cert.NextConvIdeal.τ).loc Cert.NextConvIdeal.main_arg1) = m ((c.tc : Thread Cert.NextConvIdeal.nD Cert.NextConvIdeal.τ).loc Cert.NextConvIdeal.main_arg1)
      ∧ r.2.mem ((c.tc : Thread Cert.NextConvIdeal.nD Cert.NextConvIdeal.τ).loc Cert.NextConvIdeal.main_arg2) = m ((c.tc : Thread Cert.NextConvIdeal.nD Cert.NextConvIdeal.τ).loc Cert.NextConvIdeal.main_arg2)
      ∧ r.2.mem ((c.tc : Thread Cert.NextConvIdeal.nD Cert.NextConvIdeal.τ).loc Cert.NextConvIdeal.main_arg3) = m ((c.tc : Thread Cert.NextConvIdeal.nD Cert.NextConvIdeal.τ).loc Cert.NextConvIdeal.main_arg3)
      ∧ r.2.mem ((c.tc : Thread Cert.NextConvIdeal.nD Cert.NextConvIdeal.τ).loc Cert.NextConvIdeal.main_arg4) = m ((c.tc : Thread Cert.NextConvIdeal.nD Cert.NextConvIdeal.τ).loc Cert.NextConvIdeal.main_arg4)
      ∧ r.2.mem ((c.tc : Thread Cert.NextConvIdeal.nD Cert.NextConvIdeal.τ).loc Cert.NextConvIdeal.main_arg5) = m ((c.tc : Thread Cert.NextConvIdeal.nD Cert.NextConvIdeal.τ).loc Cert.NextConvIdeal.main_arg5)
      ∧ r.2.mem ((c.tc : Thread Cert.NextConvIdeal.nD Cert.NextConvIdeal.τ).loc Cert.NextConvIdeal.main_arg6) = m ((c.tc : Thread Cert.NextConvIdeal.nD Cert.NextConvIdeal.τ).loc Cert.NextConvIdeal.main_arg6)
      ∧ r.2.mem ((c.tc : Thread Cert.NextConvIdeal.nD Cert.NextConvIdeal.τ).loc Cert.NextConvIdeal.main_arg7) = m ((c.tc : Thread Cert.NextConvIdeal.nD Cert.NextConvIdeal.τ).loc Cert.NextConvIdeal.main_arg7))
      ∧ r.2.sem = fun _ => 0)

def quiescent_NextConvReferenceIdeal [hNextConvReferenceIdeal : Cert.NextConvReferenceIdeal.Facts] : Prop :=
  ∀ (m : (ℓ : Loc Cert.NextConvReferenceIdeal.nD Cert.NextConvReferenceIdeal.τ Cert.NextConvReferenceIdeal.sig) → Buf (Elt Ideal) ℓ) (g : Dev Cert.NextConvReferenceIdeal.nD → PrngReg), Pre_NextConvReferenceIdeal m →
    θ_run (Cert.NextConvReferenceIdeal.defs (F := Ideal)) (onTc (τ := Cert.NextConvReferenceIdeal.τ) (Cert.NextConvReferenceIdeal.main (F := Ideal))) ⟨m, fun _ => 0, g⟩ (fun r => (∀ c : Dev Cert.NextConvReferenceIdeal.nD,
      r.2.mem ((c.tc : Thread Cert.NextConvReferenceIdeal.nD Cert.NextConvReferenceIdeal.τ).loc Cert.NextConvReferenceIdeal.main_arg0) = m ((c.tc : Thread Cert.NextConvReferenceIdeal.nD Cert.NextConvReferenceIdeal.τ).loc Cert.NextConvReferenceIdeal.main_arg0)
      ∧ r.2.mem ((c.tc : Thread Cert.NextConvReferenceIdeal.nD Cert.NextConvReferenceIdeal.τ).loc Cert.NextConvReferenceIdeal.main_arg1) = m ((c.tc : Thread Cert.NextConvReferenceIdeal.nD Cert.NextConvReferenceIdeal.τ).loc Cert.NextConvReferenceIdeal.main_arg1)
      ∧ r.2.mem ((c.tc : Thread Cert.NextConvReferenceIdeal.nD Cert.NextConvReferenceIdeal.τ).loc Cert.NextConvReferenceIdeal.main_arg2) = m ((c.tc : Thread Cert.NextConvReferenceIdeal.nD Cert.NextConvReferenceIdeal.τ).loc Cert.NextConvReferenceIdeal.main_arg2)
      ∧ r.2.mem ((c.tc : Thread Cert.NextConvReferenceIdeal.nD Cert.NextConvReferenceIdeal.τ).loc Cert.NextConvReferenceIdeal.main_arg3) = m ((c.tc : Thread Cert.NextConvReferenceIdeal.nD Cert.NextConvReferenceIdeal.τ).loc Cert.NextConvReferenceIdeal.main_arg3)
      ∧ r.2.mem ((c.tc : Thread Cert.NextConvReferenceIdeal.nD Cert.NextConvReferenceIdeal.τ).loc Cert.NextConvReferenceIdeal.main_arg4) = m ((c.tc : Thread Cert.NextConvReferenceIdeal.nD Cert.NextConvReferenceIdeal.τ).loc Cert.NextConvReferenceIdeal.main_arg4)
      ∧ r.2.mem ((c.tc : Thread Cert.NextConvReferenceIdeal.nD Cert.NextConvReferenceIdeal.τ).loc Cert.NextConvReferenceIdeal.main_arg5) = m ((c.tc : Thread Cert.NextConvReferenceIdeal.nD Cert.NextConvReferenceIdeal.τ).loc Cert.NextConvReferenceIdeal.main_arg5)
      ∧ r.2.mem ((c.tc : Thread Cert.NextConvReferenceIdeal.nD Cert.NextConvReferenceIdeal.τ).loc Cert.NextConvReferenceIdeal.main_arg6) = m ((c.tc : Thread Cert.NextConvReferenceIdeal.nD Cert.NextConvReferenceIdeal.τ).loc Cert.NextConvReferenceIdeal.main_arg6)
      ∧ r.2.mem ((c.tc : Thread Cert.NextConvReferenceIdeal.nD Cert.NextConvReferenceIdeal.τ).loc Cert.NextConvReferenceIdeal.main_arg7) = m ((c.tc : Thread Cert.NextConvReferenceIdeal.nD Cert.NextConvReferenceIdeal.τ).loc Cert.NextConvReferenceIdeal.main_arg7))
      ∧ r.2.sem = fun _ => 0)

def quiescent_LastQuery [hLastQuery : Cert.LastQuery.Facts] : Prop :=
  ∀ (m : (ℓ : Loc Cert.LastQuery.nD Cert.LastQuery.τ Cert.LastQuery.sig) → Buf (Elt Bits) ℓ) (g : Dev Cert.LastQuery.nD → PrngReg), Pre_LastQuery m →
    θ_run (Cert.LastQuery.defs (F := Bits)) (onTc (τ := Cert.LastQuery.τ) (Cert.LastQuery.main (F := Bits))) ⟨m, fun _ => 0, g⟩ (fun r => (∀ c : Dev Cert.LastQuery.nD,
      r.2.mem ((c.tc : Thread Cert.LastQuery.nD Cert.LastQuery.τ).loc Cert.LastQuery.main_arg0) = m ((c.tc : Thread Cert.LastQuery.nD Cert.LastQuery.τ).loc Cert.LastQuery.main_arg0)
      ∧ r.2.mem ((c.tc : Thread Cert.LastQuery.nD Cert.LastQuery.τ).loc Cert.LastQuery.main_arg1) = m ((c.tc : Thread Cert.LastQuery.nD Cert.LastQuery.τ).loc Cert.LastQuery.main_arg1)
      ∧ r.2.mem ((c.tc : Thread Cert.LastQuery.nD Cert.LastQuery.τ).loc Cert.LastQuery.main_arg2) = m ((c.tc : Thread Cert.LastQuery.nD Cert.LastQuery.τ).loc Cert.LastQuery.main_arg2)
      ∧ r.2.mem ((c.tc : Thread Cert.LastQuery.nD Cert.LastQuery.τ).loc Cert.LastQuery.main_arg3) = m ((c.tc : Thread Cert.LastQuery.nD Cert.LastQuery.τ).loc Cert.LastQuery.main_arg3)
      ∧ r.2.mem ((c.tc : Thread Cert.LastQuery.nD Cert.LastQuery.τ).loc Cert.LastQuery.main_arg4) = m ((c.tc : Thread Cert.LastQuery.nD Cert.LastQuery.τ).loc Cert.LastQuery.main_arg4))
      ∧ r.2.sem = fun _ => 0)

def quiescent_LastQueryIdeal [hLastQueryIdeal : Cert.LastQueryIdeal.Facts] : Prop :=
  ∀ (m : (ℓ : Loc Cert.LastQueryIdeal.nD Cert.LastQueryIdeal.τ Cert.LastQueryIdeal.sig) → Buf (Elt Ideal) ℓ) (g : Dev Cert.LastQueryIdeal.nD → PrngReg), Pre_LastQueryIdeal m →
    θ_run (Cert.LastQueryIdeal.defs (F := Ideal)) (onTc (τ := Cert.LastQueryIdeal.τ) (Cert.LastQueryIdeal.main (F := Ideal))) ⟨m, fun _ => 0, g⟩ (fun r => (∀ c : Dev Cert.LastQueryIdeal.nD,
      r.2.mem ((c.tc : Thread Cert.LastQueryIdeal.nD Cert.LastQueryIdeal.τ).loc Cert.LastQueryIdeal.main_arg0) = m ((c.tc : Thread Cert.LastQueryIdeal.nD Cert.LastQueryIdeal.τ).loc Cert.LastQueryIdeal.main_arg0)
      ∧ r.2.mem ((c.tc : Thread Cert.LastQueryIdeal.nD Cert.LastQueryIdeal.τ).loc Cert.LastQueryIdeal.main_arg1) = m ((c.tc : Thread Cert.LastQueryIdeal.nD Cert.LastQueryIdeal.τ).loc Cert.LastQueryIdeal.main_arg1)
      ∧ r.2.mem ((c.tc : Thread Cert.LastQueryIdeal.nD Cert.LastQueryIdeal.τ).loc Cert.LastQueryIdeal.main_arg2) = m ((c.tc : Thread Cert.LastQueryIdeal.nD Cert.LastQueryIdeal.τ).loc Cert.LastQueryIdeal.main_arg2)
      ∧ r.2.mem ((c.tc : Thread Cert.LastQueryIdeal.nD Cert.LastQueryIdeal.τ).loc Cert.LastQueryIdeal.main_arg3) = m ((c.tc : Thread Cert.LastQueryIdeal.nD Cert.LastQueryIdeal.τ).loc Cert.LastQueryIdeal.main_arg3)
      ∧ r.2.mem ((c.tc : Thread Cert.LastQueryIdeal.nD Cert.LastQueryIdeal.τ).loc Cert.LastQueryIdeal.main_arg4) = m ((c.tc : Thread Cert.LastQueryIdeal.nD Cert.LastQueryIdeal.τ).loc Cert.LastQueryIdeal.main_arg4))
      ∧ r.2.sem = fun _ => 0)

def quiescent_LastQueryReferenceIdeal [hLastQueryReferenceIdeal : Cert.LastQueryReferenceIdeal.Facts] : Prop :=
  ∀ (m : (ℓ : Loc Cert.LastQueryReferenceIdeal.nD Cert.LastQueryReferenceIdeal.τ Cert.LastQueryReferenceIdeal.sig) → Buf (Elt Ideal) ℓ) (g : Dev Cert.LastQueryReferenceIdeal.nD → PrngReg), Pre_LastQueryReferenceIdeal m →
    θ_run (Cert.LastQueryReferenceIdeal.defs (F := Ideal)) (onTc (τ := Cert.LastQueryReferenceIdeal.τ) (Cert.LastQueryReferenceIdeal.main (F := Ideal))) ⟨m, fun _ => 0, g⟩ (fun r => (∀ c : Dev Cert.LastQueryReferenceIdeal.nD,
      r.2.mem ((c.tc : Thread Cert.LastQueryReferenceIdeal.nD Cert.LastQueryReferenceIdeal.τ).loc Cert.LastQueryReferenceIdeal.main_arg0) = m ((c.tc : Thread Cert.LastQueryReferenceIdeal.nD Cert.LastQueryReferenceIdeal.τ).loc Cert.LastQueryReferenceIdeal.main_arg0)
      ∧ r.2.mem ((c.tc : Thread Cert.LastQueryReferenceIdeal.nD Cert.LastQueryReferenceIdeal.τ).loc Cert.LastQueryReferenceIdeal.main_arg1) = m ((c.tc : Thread Cert.LastQueryReferenceIdeal.nD Cert.LastQueryReferenceIdeal.τ).loc Cert.LastQueryReferenceIdeal.main_arg1)
      ∧ r.2.mem ((c.tc : Thread Cert.LastQueryReferenceIdeal.nD Cert.LastQueryReferenceIdeal.τ).loc Cert.LastQueryReferenceIdeal.main_arg2) = m ((c.tc : Thread Cert.LastQueryReferenceIdeal.nD Cert.LastQueryReferenceIdeal.τ).loc Cert.LastQueryReferenceIdeal.main_arg2)
      ∧ r.2.mem ((c.tc : Thread Cert.LastQueryReferenceIdeal.nD Cert.LastQueryReferenceIdeal.τ).loc Cert.LastQueryReferenceIdeal.main_arg3) = m ((c.tc : Thread Cert.LastQueryReferenceIdeal.nD Cert.LastQueryReferenceIdeal.τ).loc Cert.LastQueryReferenceIdeal.main_arg3)
      ∧ r.2.mem ((c.tc : Thread Cert.LastQueryReferenceIdeal.nD Cert.LastQueryReferenceIdeal.τ).loc Cert.LastQueryReferenceIdeal.main_arg4) = m ((c.tc : Thread Cert.LastQueryReferenceIdeal.nD Cert.LastQueryReferenceIdeal.τ).loc Cert.LastQueryReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v24)) (v1 : (c : Dev Cert.ConvIdeal.nD) → Buf (Elt Ideal) ((c.tc : Thread Cert.ConvIdeal.nD Cert.ConvIdeal.τ).loc Cert.ConvIdeal.main_v25)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v24) = v0 c
          ∧ r.2.mem ((c.tc : Thread Cert.ConvIdeal.nD Cert.ConvIdeal.τ).loc Cert.ConvIdeal.main_v25) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v108) = v0 c
          ∧ r.2.mem ((c.tc : Thread Cert.ConvReferenceIdeal.nD Cert.ConvReferenceIdeal.τ).loc Cert.ConvReferenceIdeal.main_v109) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v21)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v21) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v61) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9))

def preserves_KeyValue_KeyValueIdeal : Prop :=
  True

def algebraic_KeyValueIdeal_KeyValueReferenceIdeal [hKeyValueIdeal : Cert.KeyValueIdeal.Facts] [hKeyValueReferenceIdeal : Cert.KeyValueReferenceIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueReferenceIdeal.nD Cert.KeyValueReferenceIdeal.τ Cert.KeyValueReferenceIdeal.sig) → Buf (Elt Ideal) ℓ) (g' : Dev Cert.KeyValueReferenceIdeal.nD → PrngReg), Pre_KeyValueIdeal m →
    (∀ c : Dev Cert.KeyValueIdeal.nD,
      m' ((c.tc : Thread Cert.KeyValueReferenceIdeal.nD Cert.KeyValueReferenceIdeal.τ).loc Cert.KeyValueReferenceIdeal.main_arg0) = m ((c.tc : Thread Cert.KeyValueIdeal.nD Cert.KeyValueIdeal.τ).loc Cert.KeyValueIdeal.main_arg0)
      ∧ m' ((c.tc : Thread Cert.KeyValueReferenceIdeal.nD Cert.KeyValueReferenceIdeal.τ).loc Cert.KeyValueReferenceIdeal.main_arg1) = m ((c.tc : Thread Cert.KeyValueIdeal.nD Cert.KeyValueIdeal.τ).loc Cert.KeyValueIdeal.main_arg1)
      ∧ m' ((c.tc : Thread Cert.KeyValueReferenceIdeal.nD Cert.KeyValueReferenceIdeal.τ).loc Cert.KeyValueReferenceIdeal.main_arg2) = m ((c.tc : Thread Cert.KeyValueIdeal.nD Cert.KeyValueIdeal.τ).loc Cert.KeyValueIdeal.main_arg2)
      ∧ m' ((c.tc : Thread Cert.KeyValueReferenceIdeal.nD Cert.KeyValueReferenceIdeal.τ).loc Cert.KeyValueReferenceIdeal.main_arg3) = m ((c.tc : Thread Cert.KeyValueIdeal.nD Cert.KeyValueIdeal.τ).loc Cert.KeyValueIdeal.main_arg3)
      ∧ m' ((c.tc : Thread Cert.KeyValueReferenceIdeal.nD Cert.KeyValueReferenceIdeal.τ).loc Cert.KeyValueReferenceIdeal.main_arg4) = m ((c.tc : Thread Cert.KeyValueIdeal.nD Cert.KeyValueIdeal.τ).loc Cert.KeyValueIdeal.main_arg4)
      ∧ m' ((c.tc : Thread Cert.KeyValueReferenceIdeal.nD Cert.KeyValueReferenceIdeal.τ).loc Cert.KeyValueReferenceIdeal.main_arg5) = m ((c.tc : Thread Cert.KeyValueIdeal.nD Cert.KeyValueIdeal.τ).loc Cert.KeyValueIdeal.main_arg5)) →
    ∃ (v0 : (c : Dev Cert.KeyValueIdeal.nD) → Buf (Elt Ideal) ((c.tc : Thread Cert.KeyValueIdeal.nD Cert.KeyValueIdeal.τ).loc Cert.KeyValueIdeal.main_v11)) (v1 : (c : Dev Cert.KeyValueIdeal.nD) → Buf (Elt Ideal) ((c.tc : Thread Cert.KeyValueIdeal.nD Cert.KeyValueIdeal.τ).loc Cert.KeyValueIdeal.main_v13)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v11) = v0 c
          ∧ r.2.mem ((c.tc : Thread Cert.KeyValueIdeal.nD Cert.KeyValueIdeal.τ).loc Cert.KeyValueIdeal.main_v13) = v1 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
          ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3)
          ∧ r.2.mem ((c.tc : Thread Cert.KeyValueIdeal.nD Cert.KeyValueIdeal.τ).loc Cert.KeyValueIdeal.main_arg4) = m ((c.tc : Thread Cert.KeyValueIdeal.nD Cert.KeyValueIdeal.τ).loc Cert.KeyValueIdeal.main_arg4)
          ∧ r.2.mem ((c.tc : Thread Cert.KeyValueIdeal.nD Cert.KeyValueIdeal.τ).loc Cert.KeyValueIdeal.main_arg5) = m ((c.tc : Thread Cert.KeyValueIdeal.nD Cert.KeyValueIdeal.τ).loc Cert.KeyValueIdeal.main_arg5))
      ∧ θ_run (Cert.KeyValueReferenceIdeal.defs (F := Ideal)) (onTc (τ := Cert.KeyValueReferenceIdeal.τ) (Cert.KeyValueReferenceIdeal.main (F := Ideal))) ⟨m', fun _ => 0, g'⟩ (fun r => ∀ c : Dev Cert.KeyValueReferenceIdeal.nD,
          r.2.mem ((c.tc : Thread Cert.KeyValueReferenceIdeal.nD Cert.KeyValueReferenceIdeal.τ).loc Cert.KeyValueReferenceIdeal.main_v15) = v0 c
          ∧ r.2.mem ((c.tc : Thread Cert.KeyValueReferenceIdeal.nD Cert.KeyValueReferenceIdeal.τ).loc Cert.KeyValueReferenceIdeal.main_v18) = v1 c
          ∧ r.2.mem ((c.tc : Thread Cert.KeyValueReferenceIdeal.nD Cert.KeyValueReferenceIdeal.τ).loc Cert.KeyValueReferenceIdeal.main_arg0) = m' ((c.tc : Thread Cert.KeyValueReferenceIdeal.nD Cert.KeyValueReferenceIdeal.τ).loc Cert.KeyValueReferenceIdeal.main_arg0)
          ∧ r.2.mem ((c.tc : Thread Cert.KeyValueReferenceIdeal.nD Cert.KeyValueReferenceIdeal.τ).loc Cert.KeyValueReferenceIdeal.main_arg1) = m' ((c.tc : Thread Cert.KeyValueReferenceIdeal.nD Cert.KeyValueReferenceIdeal.τ).loc Cert.KeyValueReferenceIdeal.main_arg1)
          ∧ r.2.mem ((c.tc : Thread Cert.KeyValueReferenceIdeal.nD Cert.KeyValueReferenceIdeal.τ).loc Cert.KeyValueReferenceIdeal.main_arg2) = m' ((c.tc : Thread Cert.KeyValueReferenceIdeal.nD Cert.KeyValueReferenceIdeal.τ).loc Cert.KeyValueReferenceIdeal.main_arg2)
          ∧ r.2.mem ((c.tc : Thread Cert.KeyValueReferenceIdeal.nD Cert.KeyValueReferenceIdeal.τ).loc Cert.KeyValueReferenceIdeal.main_arg3) = m' ((c.tc : Thread Cert.KeyValueReferenceIdeal.nD Cert.KeyValueReferenceIdeal.τ).loc Cert.KeyValueReferenceIdeal.main_arg3)
          ∧ r.2.mem ((c.tc : Thread Cert.KeyValueReferenceIdeal.nD Cert.KeyValueReferenceIdeal.τ).loc Cert.KeyValueReferenceIdeal.main_arg4) = m' ((c.tc : Thread Cert.KeyValueReferenceIdeal.nD Cert.KeyValueReferenceIdeal.τ).loc Cert.KeyValueReferenceIdeal.main_arg4)
          ∧ r.2.mem ((c.tc : Thread Cert.KeyValueReferenceIdeal.nD Cert.KeyValueReferenceIdeal.τ).loc Cert.KeyValueReferenceIdeal.main_arg5) = m' ((c.tc : Thread Cert.KeyValueReferenceIdeal.nD Cert.KeyValueReferenceIdeal.τ).loc Cert.KeyValueReferenceIdeal.main_arg5))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)
      ∧ m' ((c.tc : Thread Cert.QueryReferenceIdeal.nD Cert.QueryReferenceIdeal.τ).loc Cert.QueryReferenceIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v15)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v15) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v23) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4))

def preserves_NextConv_NextConvIdeal : Prop :=
  True

def algebraic_NextConvIdeal_NextConvReferenceIdeal [hNextConvIdeal : Cert.NextConvIdeal.Facts] [hNextConvReferenceIdeal : Cert.NextConvReferenceIdeal.Facts] : Prop :=
  ∀ (m : (ℓ : Loc Cert.NextConvIdeal.nD Cert.NextConvIdeal.τ Cert.NextConvIdeal.sig) → Buf (Elt Ideal) ℓ) (g : Dev Cert.NextConvIdeal.nD → PrngReg)
    (m' : (ℓ : Loc Cert.NextConvReferenceIdeal.nD Cert.NextConvReferenceIdeal.τ Cert.NextConvReferenceIdeal.sig) → Buf (Elt Ideal) ℓ) (g' : Dev Cert.NextConvReferenceIdeal.nD → PrngReg), Pre_NextConvIdeal m →
    (∀ c : Dev Cert.NextConvIdeal.nD,
      m' ((c.tc : Thread Cert.NextConvReferenceIdeal.nD Cert.NextConvReferenceIdeal.τ).loc Cert.NextConvReferenceIdeal.main_arg0) = m ((c.tc : Thread Cert.NextConvIdeal.nD Cert.NextConvIdeal.τ).loc Cert.NextConvIdeal.main_arg0)
      ∧ m' ((c.tc : Thread Cert.NextConvReferenceIdeal.nD Cert.NextConvReferenceIdeal.τ).loc Cert.NextConvReferenceIdeal.main_arg1) = m ((c.tc : Thread Cert.NextConvIdeal.nD Cert.NextConvIdeal.τ).loc Cert.NextConvIdeal.main_arg1)
      ∧ m' ((c.tc : Thread Cert.NextConvReferenceIdeal.nD Cert.NextConvReferenceIdeal.τ).loc Cert.NextConvReferenceIdeal.main_arg2) = m ((c.tc : Thread Cert.NextConvIdeal.nD Cert.NextConvIdeal.τ).loc Cert.NextConvIdeal.main_arg2)
      ∧ m' ((c.tc : Thread Cert.NextConvReferenceIdeal.nD Cert.NextConvReferenceIdeal.τ).loc Cert.NextConvReferenceIdeal.main_arg3) = m ((c.tc : Thread Cert.NextConvIdeal.nD Cert.NextConvIdeal.τ).loc Cert.NextConvIdeal.main_arg3)
      ∧ m' ((c.tc : Thread Cert.NextConvReferenceIdeal.nD Cert.NextConvReferenceIdeal.τ).loc Cert.NextConvReferenceIdeal.main_arg4) = m ((c.tc : Thread Cert.NextConvIdeal.nD Cert.NextConvIdeal.τ).loc Cert.NextConvIdeal.main_arg4)
      ∧ m' ((c.tc : Thread Cert.NextConvReferenceIdeal.nD Cert.NextConvReferenceIdeal.τ).loc Cert.NextConvReferenceIdeal.main_arg5) = m ((c.tc : Thread Cert.NextConvIdeal.nD Cert.NextConvIdeal.τ).loc Cert.NextConvIdeal.main_arg5)
      ∧ m' ((c.tc : Thread Cert.NextConvReferenceIdeal.nD Cert.NextConvReferenceIdeal.τ).loc Cert.NextConvReferenceIdeal.main_arg6) = m ((c.tc : Thread Cert.NextConvIdeal.nD Cert.NextConvIdeal.τ).loc Cert.NextConvIdeal.main_arg6)
      ∧ m' ((c.tc : Thread Cert.NextConvReferenceIdeal.nD Cert.NextConvReferenceIdeal.τ).loc Cert.NextConvReferenceIdeal.main_arg7) = m ((c.tc : Thread Cert.NextConvIdeal.nD Cert.NextConvIdeal.τ).loc Cert.NextConvIdeal.main_arg7)) →
    ∃ (v0 : (c : Dev Cert.NextConvIdeal.nD) → Buf (Elt Ideal) ((c.tc : Thread Cert.NextConvIdeal.nD Cert.NextConvIdeal.τ).loc Cert.NextConvIdeal.main_v21)),
      θ_run (Cert.NextConvIdeal.defs (F := Ideal)) (onTc (τ := Cert.NextConvIdeal.τ) (Cert.NextConvIdeal.main (F := Ideal))) ⟨m, fun _ => 0, g⟩ (fun r => ∀ c : Dev Cert.NextConvIdeal.nD,
          r.2.mem ((c.tc : Thread Cert.NextConvIdeal.nD Cert.NextConvIdeal.τ).loc Cert.NextConvIdeal.main_v21) = v0 c
          ∧ r.2.mem ((c.tc : Thread Cert.NextConvIdeal.nD Cert.NextConvIdeal.τ).loc Cert.NextConvIdeal.main_arg0) = m ((c.tc : Thread Cert.NextConvIdeal.nD Cert.NextConvIdeal.τ).loc Cert.NextConvIdeal.main_arg0)
          ∧ r.2.mem ((c.tc : Thread Cert.NextConvIdeal.nD Cert.NextConvIdeal.τ).loc Cert.NextConvIdeal.main_arg1) = m ((c.tc : Thread Cert.NextConvIdeal.nD Cert.NextConvIdeal.τ).loc Cert.NextConvIdeal.main_arg1)
          ∧ r.2.mem ((c.tc : Thread Cert.NextConvIdeal.nD Cert.NextConvIdeal.τ).loc Cert.NextConvIdeal.main_arg2) = m ((c.tc : Thread Cert.NextConvIdeal.nD Cert.NextConvIdeal.τ).loc Cert.NextConvIdeal.main_arg2)
          ∧ r.2.mem ((c.tc : Thread Cert.NextConvIdeal.nD Cert.NextConvIdeal.τ).loc Cert.NextConvIdeal.main_arg3) = m ((c.tc : Thread Cert.NextConvIdeal.nD Cert.NextConvIdeal.τ).loc Cert.NextConvIdeal.main_arg3)
          ∧ r.2.mem ((c.tc : Thread Cert.NextConvIdeal.nD Cert.NextConvIdeal.τ).loc Cert.NextConvIdeal.main_arg4) = m ((c.tc : Thread Cert.NextConvIdeal.nD Cert.NextConvIdeal.τ).loc Cert.NextConvIdeal.main_arg4)
          ∧ r.2.mem ((c.tc : Thread Cert.NextConvIdeal.nD Cert.NextConvIdeal.τ).loc Cert.NextConvIdeal.main_arg5) = m ((c.tc : Thread Cert.NextConvIdeal.nD Cert.NextConvIdeal.τ).loc Cert.NextConvIdeal.main_arg5)
          ∧ r.2.mem ((c.tc : Thread Cert.NextConvIdeal.nD Cert.NextConvIdeal.τ).loc Cert.NextConvIdeal.main_arg6) = m ((c.tc : Thread Cert.NextConvIdeal.nD Cert.NextConvIdeal.τ).loc Cert.NextConvIdeal.main_arg6)
          ∧ r.2.mem ((c.tc : Thread Cert.NextConvIdeal.nD Cert.NextConvIdeal.τ).loc Cert.NextConvIdeal.main_arg7) = m ((c.tc : Thread Cert.NextConvIdeal.nD Cert.NextConvIdeal.τ).loc Cert.NextConvIdeal.main_arg7))
      ∧ θ_run (Cert.NextConvReferenceIdeal.defs (F := Ideal)) (onTc (τ := Cert.NextConvReferenceIdeal.τ) (Cert.NextConvReferenceIdeal.main (F := Ideal))) ⟨m', fun _ => 0, g'⟩ (fun r => ∀ c : Dev Cert.NextConvReferenceIdeal.nD,
          r.2.mem ((c.tc : Thread Cert.NextConvReferenceIdeal.nD Cert.NextConvReferenceIdeal.τ).loc Cert.NextConvReferenceIdeal.main_v105) = v0 c
          ∧ r.2.mem ((c.tc : Thread Cert.NextConvReferenceIdeal.nD Cert.NextConvReferenceIdeal.τ).loc Cert.NextConvReferenceIdeal.main_arg0) = m' ((c.tc : Thread Cert.NextConvReferenceIdeal.nD Cert.NextConvReferenceIdeal.τ).loc Cert.NextConvReferenceIdeal.main_arg0)
          ∧ r.2.mem ((c.tc : Thread Cert.NextConvReferenceIdeal.nD Cert.NextConvReferenceIdeal.τ).loc Cert.NextConvReferenceIdeal.main_arg1) = m' ((c.tc : Thread Cert.NextConvReferenceIdeal.nD Cert.NextConvReferenceIdeal.τ).loc Cert.NextConvReferenceIdeal.main_arg1)
          ∧ r.2.mem ((c.tc : Thread Cert.NextConvReferenceIdeal.nD Cert.NextConvReferenceIdeal.τ).loc Cert.NextConvReferenceIdeal.main_arg2) = m' ((c.tc : Thread Cert.NextConvReferenceIdeal.nD Cert.NextConvReferenceIdeal.τ).loc Cert.NextConvReferenceIdeal.main_arg2)
          ∧ r.2.mem ((c.tc : Thread Cert.NextConvReferenceIdeal.nD Cert.NextConvReferenceIdeal.τ).loc Cert.NextConvReferenceIdeal.main_arg3) = m' ((c.tc : Thread Cert.NextConvReferenceIdeal.nD Cert.NextConvReferenceIdeal.τ).loc Cert.NextConvReferenceIdeal.main_arg3)
          ∧ r.2.mem ((c.tc : Thread Cert.NextConvReferenceIdeal.nD Cert.NextConvReferenceIdeal.τ).loc Cert.NextConvReferenceIdeal.main_arg4) = m' ((c.tc : Thread Cert.NextConvReferenceIdeal.nD Cert.NextConvReferenceIdeal.τ).loc Cert.NextConvReferenceIdeal.main_arg4)
          ∧ r.2.mem ((c.tc : Thread Cert.NextConvReferenceIdeal.nD Cert.NextConvReferenceIdeal.τ).loc Cert.NextConvReferenceIdeal.main_arg5) = m' ((c.tc : Thread Cert.NextConvReferenceIdeal.nD Cert.NextConvReferenceIdeal.τ).loc Cert.NextConvReferenceIdeal.main_arg5)
          ∧ r.2.mem ((c.tc : Thread Cert.NextConvReferenceIdeal.nD Cert.NextConvReferenceIdeal.τ).loc Cert.NextConvReferenceIdeal.main_arg6) = m' ((c.tc : Thread Cert.NextConvReferenceIdeal.nD Cert.NextConvReferenceIdeal.τ).loc Cert.NextConvReferenceIdeal.main_arg6)
          ∧ r.2.mem ((c.tc : Thread Cert.NextConvReferenceIdeal.nD Cert.NextConvReferenceIdeal.τ).loc Cert.NextConvReferenceIdeal.main_arg7) = m' ((c.tc : Thread Cert.NextConvReferenceIdeal.nD Cert.NextConvReferenceIdeal.τ).loc Cert.NextConvReferenceIdeal.main_arg7))

def preserves_LastQuery_LastQueryIdeal : Prop :=
  True

def algebraic_LastQueryIdeal_LastQueryReferenceIdeal [hLastQueryIdeal : Cert.LastQueryIdeal.Facts] [hLastQueryReferenceIdeal : Cert.LastQueryReferenceIdeal.Facts] : Prop :=
  ∀ (m : (ℓ : Loc Cert.LastQueryIdeal.nD Cert.LastQueryIdeal.τ Cert.LastQueryIdeal.sig) → Buf (Elt Ideal) ℓ) (g : Dev Cert.LastQueryIdeal.nD → PrngReg)
    (m' : (ℓ : Loc Cert.LastQueryReferenceIdeal.nD Cert.LastQueryReferenceIdeal.τ Cert.LastQueryReferenceIdeal.sig) → Buf (Elt Ideal) ℓ) (g' : Dev Cert.LastQueryReferenceIdeal.nD → PrngReg), Pre_LastQueryIdeal m →
    (∀ c : Dev Cert.LastQueryIdeal.nD,
      m' ((c.tc : Thread Cert.LastQueryReferenceIdeal.nD Cert.LastQueryReferenceIdeal.τ).loc Cert.LastQueryReferenceIdeal.main_arg0) = m ((c.tc : Thread Cert.LastQueryIdeal.nD Cert.LastQueryIdeal.τ).loc Cert.LastQueryIdeal.main_arg0)
      ∧ m' ((c.tc : Thread Cert.LastQueryReferenceIdeal.nD Cert.LastQueryReferenceIdeal.τ).loc Cert.LastQueryReferenceIdeal.main_arg1) = m ((c.tc : Thread Cert.LastQueryIdeal.nD Cert.LastQueryIdeal.τ).loc Cert.LastQueryIdeal.main_arg1)
      ∧ m' ((c.tc : Thread Cert.LastQueryReferenceIdeal.nD Cert.LastQueryReferenceIdeal.τ).loc Cert.LastQueryReferenceIdeal.main_arg2) = m ((c.tc : Thread Cert.LastQueryIdeal.nD Cert.LastQueryIdeal.τ).loc Cert.LastQueryIdeal.main_arg2)
      ∧ m' ((c.tc : Thread Cert.LastQueryReferenceIdeal.nD Cert.LastQueryReferenceIdeal.τ).loc Cert.LastQueryReferenceIdeal.main_arg3) = m ((c.tc : Thread Cert.LastQueryIdeal.nD Cert.LastQueryIdeal.τ).loc Cert.LastQueryIdeal.main_arg3)
      ∧ m' ((c.tc : Thread Cert.LastQueryReferenceIdeal.nD Cert.LastQueryReferenceIdeal.τ).loc Cert.LastQueryReferenceIdeal.main_arg4) = m ((c.tc : Thread Cert.LastQueryIdeal.nD Cert.LastQueryIdeal.τ).loc Cert.LastQueryIdeal.main_arg4)) →
    ∃ (v0 : (c : Dev Cert.LastQueryIdeal.nD) → Buf (Elt Ideal) ((c.tc : Thread Cert.LastQueryIdeal.nD Cert.LastQueryIdeal.τ).loc Cert.LastQueryIdeal.main_v15)),
      θ_run (Cert.LastQueryIdeal.defs (F := Ideal)) (onTc (τ := Cert.LastQueryIdeal.τ) (Cert.LastQueryIdeal.main (F := Ideal))) ⟨m, fun _ => 0, g⟩ (fun r => ∀ c : Dev Cert.LastQueryIdeal.nD,
          r.2.mem ((c.tc : Thread Cert.LastQueryIdeal.nD Cert.LastQueryIdeal.τ).loc Cert.LastQueryIdeal.main_v15) = v0 c
          ∧ r.2.mem ((c.tc : Thread Cert.LastQueryIdeal.nD Cert.LastQueryIdeal.τ).loc Cert.LastQueryIdeal.main_arg0) = m ((c.tc : Thread Cert.LastQueryIdeal.nD Cert.LastQueryIdeal.τ).loc Cert.LastQueryIdeal.main_arg0)
          ∧ r.2.mem ((c.tc : Thread Cert.LastQueryIdeal.nD Cert.LastQueryIdeal.τ).loc Cert.LastQueryIdeal.main_arg1) = m ((c.tc : Thread Cert.LastQueryIdeal.nD Cert.LastQueryIdeal.τ).loc Cert.LastQueryIdeal.main_arg1)
          ∧ r.2.mem ((c.tc : Thread Cert.LastQueryIdeal.nD Cert.LastQueryIdeal.τ).loc Cert.LastQueryIdeal.main_arg2) = m ((c.tc : Thread Cert.LastQueryIdeal.nD Cert.LastQueryIdeal.τ).loc Cert.LastQueryIdeal.main_arg2)
          ∧ r.2.mem ((c.tc : Thread Cert.LastQueryIdeal.nD Cert.LastQueryIdeal.τ).loc Cert.LastQueryIdeal.main_arg3) = m ((c.tc : Thread Cert.LastQueryIdeal.nD Cert.LastQueryIdeal.τ).loc Cert.LastQueryIdeal.main_arg3)
          ∧ r.2.mem ((c.tc : Thread Cert.LastQueryIdeal.nD Cert.LastQueryIdeal.τ).loc Cert.LastQueryIdeal.main_arg4) = m ((c.tc : Thread Cert.LastQueryIdeal.nD Cert.LastQueryIdeal.τ).loc Cert.LastQueryIdeal.main_arg4))
      ∧ θ_run (Cert.LastQueryReferenceIdeal.defs (F := Ideal)) (onTc (τ := Cert.LastQueryReferenceIdeal.τ) (Cert.LastQueryReferenceIdeal.main (F := Ideal))) ⟨m', fun _ => 0, g'⟩ (fun r => ∀ c : Dev Cert.LastQueryReferenceIdeal.nD,
          r.2.mem ((c.tc : Thread Cert.LastQueryReferenceIdeal.nD Cert.LastQueryReferenceIdeal.τ).loc Cert.LastQueryReferenceIdeal.main_v23) = v0 c
          ∧ r.2.mem ((c.tc : Thread Cert.LastQueryReferenceIdeal.nD Cert.LastQueryReferenceIdeal.τ).loc Cert.LastQueryReferenceIdeal.main_arg0) = m' ((c.tc : Thread Cert.LastQueryReferenceIdeal.nD Cert.LastQueryReferenceIdeal.τ).loc Cert.LastQueryReferenceIdeal.main_arg0)
          ∧ r.2.mem ((c.tc : Thread Cert.LastQueryReferenceIdeal.nD Cert.LastQueryReferenceIdeal.τ).loc Cert.LastQueryReferenceIdeal.main_arg1) = m' ((c.tc : Thread Cert.LastQueryReferenceIdeal.nD Cert.LastQueryReferenceIdeal.τ).loc Cert.LastQueryReferenceIdeal.main_arg1)
          ∧ r.2.mem ((c.tc : Thread Cert.LastQueryReferenceIdeal.nD Cert.LastQueryReferenceIdeal.τ).loc Cert.LastQueryReferenceIdeal.main_arg2) = m' ((c.tc : Thread Cert.LastQueryReferenceIdeal.nD Cert.LastQueryReferenceIdeal.τ).loc Cert.LastQueryReferenceIdeal.main_arg2)
          ∧ r.2.mem ((c.tc : Thread Cert.LastQueryReferenceIdeal.nD Cert.LastQueryReferenceIdeal.τ).loc Cert.LastQueryReferenceIdeal.main_arg3) = m' ((c.tc : Thread Cert.LastQueryReferenceIdeal.nD Cert.LastQueryReferenceIdeal.τ).loc Cert.LastQueryReferenceIdeal.main_arg3)
          ∧ r.2.mem ((c.tc : Thread Cert.LastQueryReferenceIdeal.nD Cert.LastQueryReferenceIdeal.τ).loc Cert.LastQueryReferenceIdeal.main_arg4) = m' ((c.tc : Thread Cert.LastQueryReferenceIdeal.nD Cert.LastQueryReferenceIdeal.τ).loc Cert.LastQueryReferenceIdeal.main_arg4))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvReferenceIdeal : Cert.ConvReferenceIdeal.Facts) (hMlp : Cert.Mlp.Facts) (hMlpIdeal : Cert.MlpIdeal.Facts) (hMlpReferenceIdeal : Cert.MlpReferenceIdeal.Facts) (hKeyValue : Cert.KeyValue.Facts) (hKeyValueIdeal : Cert.KeyValueIdeal.Facts) (hKeyValueReferenceIdeal : Cert.KeyValueReferenceIdeal.Facts) (hQuery : Cert.Query.Facts) (hQueryIdeal : Cert.QueryIdeal.Facts) (hQueryReferenceIdeal : Cert.QueryReferenceIdeal.Facts) (hNextConv : Cert.NextConv.Facts) (hNextConvIdeal : Cert.NextConvIdeal.Facts) (hNextConvReferenceIdeal : Cert.NextConvReferenceIdeal.Facts) (hLastQuery : Cert.LastQuery.Facts) (hLastQueryIdeal : Cert.LastQueryIdeal.Facts) (hLastQueryReferenceIdeal : Cert.LastQueryReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_KeyValue (hKeyValue := hKeyValue)
    ∧ quiescent_KeyValueIdeal (hKeyValueIdeal := hKeyValueIdeal)
    ∧ quiescent_KeyValueReferenceIdeal (hKeyValueReferenceIdeal := hKeyValueReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_NextConv (hNextConv := hNextConv)
    ∧ quiescent_NextConvIdeal (hNextConvIdeal := hNextConvIdeal)
    ∧ quiescent_NextConvReferenceIdeal (hNextConvReferenceIdeal := hNextConvReferenceIdeal)
    ∧ quiescent_LastQuery (hLastQuery := hLastQuery)
    ∧ quiescent_LastQueryIdeal (hLastQueryIdeal := hLastQueryIdeal)
    ∧ quiescent_LastQueryReferenceIdeal (hLastQueryReferenceIdeal := hLastQueryReferenceIdeal)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvReferenceIdeal (hConvIdeal := hConvIdeal) (hConvReferenceIdeal := hConvReferenceIdeal)
    ∧ preserves_Mlp_MlpIdeal
    ∧ algebraic_MlpIdeal_MlpReferenceIdeal (hMlpIdeal := hMlpIdeal) (hMlpReferenceIdeal := hMlpReferenceIdeal)
    ∧ preserves_KeyValue_KeyValueIdeal
    ∧ algebraic_KeyValueIdeal_KeyValueReferenceIdeal (hKeyValueIdeal := hKeyValueIdeal) (hKeyValueReferenceIdeal := hKeyValueReferenceIdeal)
    ∧ preserves_Query_QueryIdeal
    ∧ algebraic_QueryIdeal_QueryReferenceIdeal (hQueryIdeal := hQueryIdeal) (hQueryReferenceIdeal := hQueryReferenceIdeal)
    ∧ preserves_NextConv_NextConvIdeal
    ∧ algebraic_NextConvIdeal_NextConvReferenceIdeal (hNextConvIdeal := hNextConvIdeal) (hNextConvReferenceIdeal := hNextConvReferenceIdeal)
    ∧ preserves_LastQuery_LastQueryIdeal
    ∧ algebraic_LastQueryIdeal_LastQueryReferenceIdeal (hLastQueryIdeal := hLastQueryIdeal) (hLastQueryReferenceIdeal := hLastQueryReferenceIdeal)
-- ==== Kernel.lean ====
abbrev S4x8208x1024 : Shape := ⟨3, ![4, 8208, 1024]⟩
abbrev S4x16x8208x64 : Shape := ⟨4, ![4, 16, 8208, 64]⟩
abbrev S4x4x1024 : Shape := ⟨3, ![4, 4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x128x1024 : Shape := ⟨3, ![4, 128, 1024]⟩
abbrev S4x112x1024 : Shape := ⟨3, ![4, 112, 1024]⟩
abbrev S8x4x128x128 : Shape := ⟨4, ![8, 4, 128, 128]⟩
abbrev S8x4x112x128 : Shape := ⟨4, ![8, 4, 112, 128]⟩
abbrev S4x8448x1024 : Shape := ⟨3, ![4, 8448, 1024]⟩
abbrev S33792x1024 : Shape := ⟨2, ![33792, 1024]⟩
abbrev S4x8x2x8208x64 : Shape := ⟨5, ![4, 8, 2, 8208, 64]⟩
abbrev S8x4x8208x2x64 : Shape := ⟨5, ![8, 4, 8208, 2, 64]⟩
abbrev S8x4x8208x128 : Shape := ⟨4, ![8, 4, 8208, 128]⟩
abbrev S8x4x8448x128 : Shape := ⟨4, ![8, 4, 8448, 128]⟩
abbrev S8x33792x128 : Shape := ⟨3, ![8, 33792, 128]⟩
abbrev S1x4x1024 : Shape := ⟨3, ![1, 4, 1024]⟩
abbrev S4x1024 : Shape := ⟨2, ![4, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S32768x1024 : Shape := ⟨2, ![32768, 1024]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩

abbrev nBuf : Space → Nat
  | .hbm => 30
  | .vmem => 10
  | .smem => 0
  | _ => 0

abbrev bufTy : (tb : Table) → Fin (tcTables nBuf tb) → BufTy
  | .hbm, ⟨0, _⟩ => ⟨S4x8208x1024, .f32⟩
  | .hbm, ⟨1, _⟩ => ⟨S4x16x8208x64, .f32⟩
  | .hbm, ⟨2, _⟩ => ⟨S4x4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S4x128x1024, .f32⟩
  | .hbm, ⟨7, _⟩ => ⟨S4x112x1024, .f32⟩
  | .hbm, ⟨8, _⟩ => ⟨S8x4x128x128, .bf16⟩
  | .hbm, ⟨9, _⟩ => ⟨S8x4x112x128, .bf16⟩
  | .hbm, ⟨10, _⟩ => ⟨S4x8448x1024, .f32⟩
  | .hbm, ⟨11, _⟩ => ⟨S33792x1024, .f32⟩
  | .hbm, ⟨12, _⟩ => ⟨S4x8x2x8208x64, .f32⟩
  | .hbm, ⟨13, _⟩ => ⟨S8x4x8208x2x64, .f32⟩
  | .hbm, ⟨14, _⟩ => ⟨S8x4x8208x128, .f32⟩
  | .hbm, ⟨15, _⟩ => ⟨S8x4x8208x128, .bf16⟩
  | .hbm, ⟨16, _⟩ => ⟨S8x4x8448x128, .bf16⟩
  | .hbm, ⟨17, _⟩ => ⟨S8x33792x128, .bf16⟩
  | .hbm, ⟨18, _⟩ => ⟨S1x4x1024, .f32⟩
  | .hbm, ⟨19, _⟩ => ⟨S4x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S4x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg0 : BitVec 32 := BitVec.ofNat 32 (i 0).val
  let c8448_i32 : BitVec 32 := 8448#32
  let v0 : BitVec 32 := Scalar.muli arg0 c8448_i32
  let c144_i32 : BitVec 32 := 144#32
  let v1 : BitVec 32 := Scalar.addi v0 c144_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c8448_i32 : BitVec 32 := 8448#32
  let v0 : BitVec 32 := Scalar.muli arg0 c8448_i32
  let c144_i32 : BitVec 32 := 144#32
  let v1 : BitVec 32 := Scalar.addi v0 c144_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c144_i32 : BitVec 32 := 144#32
  let v1 : BitVec 32 := Scalar.addi v0 c144_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c144_i32 : BitVec 32 := 144#32
  let v1 : BitVec 32 := Scalar.addi v0 c144_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  let c0_i32_1 : BitVec 32 := 0#32
  ![c0_i32.toNat, v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8208x1024 : Shape := ⟨3, ![4, 8208, 1024]⟩
abbrev S4x16x8208x64 : Shape := ⟨4, ![4, 16, 8208, 64]⟩
abbrev S4x4x1024 : Shape := ⟨3, ![4, 4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x128x1024 : Shape := ⟨3, ![4, 128, 1024]⟩
abbrev S4x112x1024 : Shape := ⟨3, ![4, 112, 1024]⟩
abbrev S8x4x128x128 : Shape := ⟨4, ![8, 4, 128, 128]⟩
abbrev S8x4x112x128 : Shape := ⟨4, ![8, 4, 112, 128]⟩
abbrev S1x4x1024 : Shape := ⟨3, ![1, 4, 1024]⟩
abbrev S4x1024 : Shape := ⟨2, ![4, 1024]⟩
abbrev S4x8208x16x64 : Shape := ⟨4, ![4, 8208, 16, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8208x4096 : Shape := ⟨3, ![4, 8208, 4096]⟩
abbrev S4x8192x1024 : Shape := ⟨3, ![4, 8192, 1024]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x16x8208x64, .f32⟩
  | .hbm, ⟨2, _⟩ => ⟨S4x4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S4x128x1024, .f32⟩
  | .hbm, ⟨7, _⟩ => ⟨S4x112x1024, .f32⟩
  | .hbm, ⟨8, _⟩ => ⟨S8x4x128x128, .bf16⟩
  | .hbm, ⟨9, _⟩ => ⟨S8x4x112x128, .bf16⟩
  | .hbm, ⟨10, _⟩ => ⟨S1x4x1024, .f32⟩
  | .hbm, ⟨11, _⟩ => ⟨S4x1024, .f32⟩
  | .hbm, ⟨12, _⟩ => ⟨S4x8208x16x64, .f32⟩
  | .hbm, ⟨13, _⟩ => ⟨S4x8208x1024, .f32⟩
  | .hbm, ⟨14, _⟩ => ⟨S1x1024x1024, .f32⟩
  | .hbm, ⟨15, _⟩ => ⟨S1024x1024, .f32⟩
  | .hbm, ⟨16, _⟩ => ⟨S4x8208x1024, .f32⟩
  | .hbm, ⟨17, _⟩ => ⟨S1x1024, .f32⟩
  | .hbm, ⟨18, _⟩ => ⟨S1024, .f32⟩
  | .hbm, ⟨19, _⟩ => ⟨S4x8208x1024, .f32⟩
  | .hbm, ⟨20, _⟩ => ⟨S_, .f32⟩
  | .hbm, ⟨21, _⟩ => ⟨S4x8208, .f32⟩
  | .hbm, ⟨22, _⟩ => ⟨S4x8208x1, .f32⟩
  | .hbm, ⟨23, _⟩ => ⟨S_, .f32⟩
  | .hbm, ⟨24, _⟩ => ⟨S4x8208x1, .f32⟩
  | .hbm, ⟨25, _⟩ => ⟨S4x8208x1, .f32⟩
  | .hbm, ⟨26, _⟩ => ⟨S_, .f32⟩
  | .hbm, ⟨27, _⟩ => ⟨S4x8208x1, .f32⟩
  | .hbm, ⟨28, _⟩ => ⟨S4x8208x1, .f32⟩
  | .hbm, ⟨29, _⟩ => ⟨S4x8208x1, .f32⟩
  | .hbm, ⟨30, _⟩ => ⟨S4x8208x1024, .f32⟩
  | .hbm, ⟨31, _⟩ => ⟨S4x8208x1024, .f32⟩
  | .hbm, ⟨32, _⟩ => ⟨S1x1x1024, .f32⟩
  | .hbm, ⟨33, _⟩ => ⟨S4x8208x1024, .f32⟩
  | .hbm, ⟨34, _⟩ => ⟨S4x8208x1024, .f32⟩
  | .hbm, ⟨35, _⟩ => ⟨S4x8208x1024, .f32⟩
  | .hbm, ⟨36, _⟩ => ⟨S1x1024, .f32⟩
  | .hbm, ⟨37, _⟩ => ⟨S1024, .f32⟩
  | .hbm, ⟨38, _⟩ => ⟨S4x8208x1024, .f32⟩
  | .hbm, ⟨39, _⟩ => ⟨S_, .f32⟩
  | .hbm, ⟨40, _⟩ => ⟨S4x8208, .f32⟩
  | .hbm, ⟨41, _⟩ => ⟨S4x8208x1, .f32⟩
  | .hbm, ⟨42, _⟩ => ⟨S_, .f32⟩
  | .hbm, ⟨43, _⟩ => ⟨S4x8208x1, .f32⟩
  | .hbm, ⟨44, _⟩ => ⟨S4x8208x1, .f32⟩
  | .hbm, ⟨45, _⟩ => ⟨S_, .f32⟩
  | .hbm, ⟨46, _⟩ => ⟨S4x8208x1, .f32⟩
  | .hbm, ⟨47, _⟩ => ⟨S4x8208x1, .f32⟩
  | .hbm, ⟨48, _⟩ => ⟨S4x8208x1, .f32⟩
  | .hbm, ⟨49, _⟩ => ⟨S4x8208x1024, .f32⟩
  | .hbm, ⟨50, _⟩ => ⟨S4x8208x1024, .f32⟩
  | .hbm, ⟨51, _⟩ => ⟨S1x1x1024, .f32⟩
  | .hbm, ⟨52, _⟩ => ⟨S4x8208x1024, .f32⟩
  | .hbm, ⟨53, _⟩ => ⟨S4x8208x1024, .f32⟩
  | .hbm, ⟨54, _⟩ => ⟨S1x1024x4096, .f32⟩
  | .hbm, ⟨55, _⟩ => ⟨S1024x4096, .f32⟩
  | .hbm, ⟨56, _⟩ => ⟨S1x4096x1024, .f32⟩
  | .hbm, ⟨57, _⟩ => ⟨S4096x1024, .f32⟩
  | .hbm, ⟨58, _⟩ => ⟨S4x8208x4096, .f32⟩
  | .hbm, ⟨59, _⟩ => ⟨S_, .f32⟩
  | .hbm, ⟨60, _⟩ => ⟨S4x8208x4096, .f32⟩
  | .hbm, ⟨61, _⟩ => ⟨S4x8208x4096, .f32⟩
  | .hbm, ⟨62, _⟩ => ⟨S4x8208x4096, .f32⟩
  | .hbm, ⟨63, _⟩ => ⟨S4x8208x1024, .f32⟩
  | .hbm, ⟨64, _⟩ => ⟨S1x1024, .f32⟩
  | .hbm, ⟨65, _⟩ => ⟨S1024, .f32⟩
  | .hbm, ⟨66, _⟩ => ⟨S4x8208x1024, .f32⟩
  | .hbm, ⟨67, _⟩ => ⟨S_, .f32⟩
  | .hbm, ⟨68, _⟩ => ⟨S4x8208, .f32⟩
  | .hbm, ⟨69, _⟩ => ⟨S4x8208x1, .f32⟩
  | .hbm, ⟨70, _⟩ => ⟨S_, .f32⟩
  | .hbm, ⟨71, _⟩ => ⟨S4x8208x1, .f32⟩
  | .hbm, ⟨72, _⟩ => ⟨S4x8208x1, .f32⟩
  | .hbm, ⟨73, _⟩ => ⟨S_, .f32⟩
  | .hbm, ⟨74, _⟩ => ⟨S4x8208x1, .f32⟩
  | .hbm, ⟨75, _⟩ => ⟨S4x8208x1, .f32⟩
  | .hbm, ⟨76, _⟩ => ⟨S4x8208x1, .f32⟩
  | .hbm, ⟨77, _⟩ => ⟨S4x8208x1024, .f32⟩
  | .hbm, ⟨78, _⟩ => ⟨S4x8208x1024, .f32⟩
  | .hbm, ⟨79, _⟩ => ⟨S1x1x1024, .f32⟩
  | .hbm, ⟨80, _⟩ => ⟨S4x8208x1024, .f32⟩
  | .hbm, ⟨81, _⟩ => ⟨S4x8208x1024, .f32⟩
  | .hbm, ⟨82, _⟩ => ⟨S4x8208x1024, .f32⟩
  | .hbm, ⟨83, _⟩ => ⟨S4x8192x1024, .f32⟩
  | .hbm, ⟨84, _⟩ => ⟨S32768x1024, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Conv.lean ====
abbrev S4x8192x1024 : Shape := ⟨3, ![4, 8192, 1024]⟩
abbrev S16x1024 : Shape := ⟨2, ![16, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x16x1024 : Shape := ⟨3, ![1, 16, 1024]⟩
abbrev S4x16x1024 : Shape := ⟨3, ![4, 16, 1024]⟩
abbrev S_ : Shape := ⟨0, ![]⟩
abbrev S4x128x1024 : Shape := ⟨3, ![4, 128, 1024]⟩
abbrev S4x112x1024 : Shape := ⟨3, ![4, 112, 1024]⟩
abbrev S4x8448x1024 : Shape := ⟨3, ![4, 8448, 1024]⟩
abbrev S33792x1024 : Shape := ⟨2, ![33792, 1024]⟩
abbrev S1x4x1024 : Shape := ⟨3, ![1, 4, 1024]⟩
abbrev S4x1024 : Shape := ⟨2, ![4, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S512x1024 : Shape := ⟨2, ![512, 1024]⟩
abbrev S520x1024 : Shape := ⟨2, ![520, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S4x8208x1024 : Shape := ⟨3, ![4, 8208, 1024]⟩

abbrev nBuf : Space → Nat
  | .hbm => 36
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S4x4x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S4x1024x4096, .f32⟩
  | .hbm, ⟨7, _⟩ => ⟨S4x4096x1024, .f32⟩
  | .hbm, ⟨8, _⟩ => ⟨S1x16x1024, .f32⟩
  | .hbm, ⟨9, _⟩ => ⟨S4x16x1024, .f32⟩
  | .hbm, ⟨10, _⟩ => ⟨S_, .f32⟩
  | .hbm, ⟨11, _⟩ => ⟨S4x128x1024, .f32⟩
  | .hbm, ⟨12, _⟩ => ⟨S_, .f32⟩
  | .hbm, ⟨13, _⟩ => ⟨S4x112x1024, .f32⟩
  | .hbm, ⟨14, _⟩ => ⟨S4x8448x1024, .f32⟩
  | .hbm, ⟨15, _⟩ => ⟨S33792x1024, .f32⟩
  | .hbm, ⟨16, _⟩ => ⟨S1x4x1024, .f32⟩
  | .hbm, ⟨17, _⟩ => ⟨S4x1024, .f32⟩
  | .hbm, ⟨18, _⟩ => ⟨S1x1024x4096, .f32⟩
  | .hbm, ⟨19, _⟩ => ⟨S1024x4096, .f32⟩
  | .hbm, ⟨20, _⟩ => ⟨S1024x4096, .bf16⟩
  | .hbm, ⟨21, _⟩ => ⟨S1x4096x1024, .f32⟩
  | .hbm, ⟨22, _⟩ => ⟨S4096x1024, .f32⟩
  | .hbm, ⟨23, _⟩ => ⟨S4096x1024, .bf16⟩
  | .hbm, ⟨24, _⟩ => ⟨S1x1024x3072, .f32⟩
  | .hbm, ⟨25, _⟩ => ⟨S1024x3072, .f32⟩
  | .hbm, ⟨26, _⟩ => ⟨S1024x3072, .bf16⟩
  | .hbm, ⟨27, _⟩ => ⟨S1x3x1024, .f32⟩
  | .hbm, ⟨28, _⟩ => ⟨S3x1024, .f32⟩
  | .hbm, ⟨29, _⟩ => ⟨S1x1024x1024, .f32⟩
  | .hbm, ⟨30, _⟩ => ⟨S1024x1024, .f32⟩
  | .hbm, ⟨31, _⟩ => ⟨S1024x1024, .bf16⟩
  | .hbm, ⟨32, _⟩ => ⟨S33792x1024, .f32⟩
  | .hbm, ⟨33, _⟩ => ⟨S4x8448x1024, .f32⟩
  | .hbm, ⟨34, _⟩ => ⟨S4x8208x1024, .f32⟩
  | .hbm, ⟨35, _⟩ => ⟨S4x128x1024, .f32⟩
  | .local _ .vmem, ⟨0, _⟩ => ⟨S512x1024, .f32⟩
  | .local _ .vmem, ⟨1, _⟩ => ⟨S512x1024, .f32⟩
  | .local _ .vmem, ⟨2, _⟩ => ⟨S4x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S520x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S4x8192x1024 : Shape := ⟨3, ![4, 8192, 1024]⟩
abbrev S16x1024 : Shape := ⟨2, ![16, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S4x8208x3072 : Shape := ⟨3, ![4, 8208, 3072]⟩
abbrev S4x8210x1024 : Shape := ⟨3, ![4, 8210, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8208x4096 : Shape := ⟨3, ![4, 8208, 4096]⟩
abbrev S4x128x1024 : Shape := ⟨3, ![4, 128, 1024]⟩

abbrev nBuf : Space → Nat
  | .hbm => 135
  | .vmem => 0
  | .smem => 0
  | _ => 0

abbrev hbmTy0_0 (i : Nat) : BufTy := match i % 128 with
  | 0 => ⟨S4x8192x1024, .f32⟩
  | 1 => ⟨S16x1024, .f32⟩
  | 2 => ⟨S4x4x1024, .f32⟩
  | 3 => ⟨S2x1024x3072, .f32⟩
  | 4 => ⟨S2x3x1024, .f32⟩
  | 5 => ⟨S2x1024x1024, .f32⟩
  | 6 => ⟨S4x1024x4096, .f32⟩
  | 7 => ⟨S4x4096x1024, .f32⟩
  | 8 => ⟨S1x16x1024, .f32⟩
  | 9 => ⟨S4x16x1024, .f32⟩
  | 10 => ⟨S4x8208x1024, .f32⟩
  | 11 => ⟨S1x4x1024, .f32⟩
  | 12 => ⟨S4x1024, .f32⟩
  | 13 => ⟨S1x1024, .f32⟩
  | 14 => ⟨S1024, .f32⟩
  | 15 => ⟨S4x8208x1024, .f32⟩
  | 16 => ⟨S_, .f32⟩
  | 17 => ⟨S4x8208, .f32⟩
  | 18 => ⟨S4x8208x1, .f32⟩
  | 19 => ⟨S_, .f32⟩
  | 20 => ⟨S4x8208x1, .f32⟩
  | 21 => ⟨S4x8208x1, .f32⟩
  | 22 => ⟨S_, .f32⟩
  | 23 => ⟨S4x8208x1, .f32⟩
  | 24 => ⟨S4x8208x1, .f32⟩
  | 25 => ⟨S4x8208x1, .f32⟩
  | 26 => ⟨S4x8208x1024, .f32⟩
  | 27 => ⟨S4x8208x1024, .f32⟩
  | 28 => ⟨S1x1x1024, .f32⟩
  | 29 => ⟨S4x8208x1024, .f32⟩
  | 30 => ⟨S4x8208x1024, .f32⟩
  | 31 => ⟨S1x1024x3072, .f32⟩
  | 32 => ⟨S1024x3072, .f32⟩
  | 33 => ⟨S1x3x1024, .f32⟩
  | 34 => ⟨S3x1024, .f32⟩
  | 35 => ⟨S1x1024x1024, .f32⟩
  | 36 => ⟨S1024x1024, .f32⟩
  | 37 => ⟨S4x8208x3072, .f32⟩
  | 38 => ⟨S4x8208x1024, .f32⟩
  | 39 => ⟨S4x8208x1024, .f32⟩
  | 40 => ⟨S4x8208x1024, .f32⟩
  | 41 => ⟨S4x8208x1024, .f32⟩
  | 42 => ⟨S_, .i32⟩
  | 43 => ⟨S_, .f32⟩
  | 44 => ⟨S4x8210x1024, .f32⟩
  | 45 => ⟨S4x8208x1024, .f32⟩
  | 46 => ⟨S1x1024, .f32⟩
  | 47 => ⟨S1024, .f32⟩
  | 48 => ⟨S1x1x1024, .f32⟩
  | 49 => ⟨S4x8208x1024, .f32⟩
  | 50 => ⟨S4x8208x1024, .f32⟩
  | 51 => ⟨S4x8208x1024, .f32⟩
  | 52 => ⟨S1x1024, .f32⟩
  | 53 => ⟨S1024, .f32⟩
  | 54 => ⟨S1x1x1024, .f32⟩
  | 55 => ⟨S4x8208x1024, .f32⟩
  | 56 => ⟨S4x8208x1024, .f32⟩
  | 57 => ⟨S4x8208x1024, .f32⟩
  | 58 => ⟨S4x8208x1024, .f32⟩
  | 59 => ⟨S1x1024, .f32⟩
  | 60 => ⟨S1024, .f32⟩
  | 61 => ⟨S1x1x1024, .f32⟩
  | 62 => ⟨S4x8208x1024, .f32⟩
  | 63 => ⟨S4x8208x1024, .f32⟩
  | 64 => ⟨S4x8208x1024, .f32⟩
  | 65 => ⟨S4x8208x1024, .f32⟩
  | 66 => ⟨S4x8208x1024, .f32⟩
  | 67 => ⟨S1x1024, .f32⟩
  | 68 => ⟨S1024, .f32⟩
  | 69 => ⟨S4x8208x1024, .f32⟩
  | 70 => ⟨S_, .f32⟩
  | 71 => ⟨S4x8208, .f32⟩
  | 72 => ⟨S4x8208x1, .f32⟩
  | 73 => ⟨S_, .f32⟩
  | 74 => ⟨S4x8208x1, .f32⟩
  | 75 => ⟨S4x8208x1, .f32⟩
  | 76 => ⟨S_, .f32⟩
  | 77 => ⟨S4x8208x1, .f32⟩
  | 78 => ⟨S4x8208x1, .f32⟩
  | 79 => ⟨S4x8208x1, .f32⟩
  | 80 => ⟨S4x8208x1024, .f32⟩
  | 81 => ⟨S4x8208x1024, .f32⟩
  | 82 => ⟨S1x1x1024, .f32⟩
  | 83 => ⟨S4x8208x1024, .f32⟩
  | 84 => ⟨S4x8208x1024, .f32⟩
  | 85 => ⟨S4x8208x1024, .f32⟩
  | 86 => ⟨S1x1024, .f32⟩
  | 87 => ⟨S1024, .f32⟩
  | 88 => ⟨S4x8208x1024, .f32⟩
  | 89 => ⟨S_, .f32⟩
  | 90 => ⟨S4x8208, .f32⟩
  | 91 => ⟨S4x8208x1, .f32⟩
  | 92 => ⟨S_, .f32⟩
  | 93 => ⟨S4x8208x1, .f32⟩
  | 94 => ⟨S4x8208x1, .f32⟩
  | 95 => ⟨S_, .f32⟩
  | 96 => ⟨S4x8208x1, .f32⟩
  | 97 => ⟨S4x8208x1, .f32⟩
  | 98 => ⟨S4x8208x1, .f32⟩
  | 99 => ⟨S4x8208x1024, .f32⟩
  | 100 => ⟨S4x8208x1024, .f32⟩
  | 101 => ⟨S1x1x1024, .f32⟩
  | 102 => ⟨S4x8208x1024, .f32⟩
  | 103 => ⟨S4x8208x1024, .f32⟩
  | 104 => ⟨S1x1024x4096, .f32⟩
  | 105 => ⟨S1024x4096, .f32⟩
  | 106 => ⟨S1x4096x1024, .f32⟩
  | 107 => ⟨S4096x1024, .f32⟩
  | 108 => ⟨S4x8208x4096, .f32⟩
  | 109 => ⟨S_, .f32⟩
  | 110 => ⟨S4x8208x4096, .f32⟩
  | 111 => ⟨S4x8208x4096, .f32⟩
  | 112 => ⟨S4x8208x4096, .f32⟩
  | 113 => ⟨S4x8208x1024, .f32⟩
  | 114 => ⟨S1x1024, .f32⟩
  | 115 => ⟨S1024, .f32⟩
  | 116 => ⟨S4x8208x1024, .f32⟩
  | 117 => ⟨S_, .f32⟩
  | 118 => ⟨S4x8208, .f32⟩
  | 119 => ⟨S4x8208x1, .f32⟩
  | 120 => ⟨S_, .f32⟩
  | 121 => ⟨S4x8208x1, .f32⟩
  | 122 => ⟨S4x8208x1, .f32⟩
  | 123 => ⟨S_, .f32⟩
  | 124 => ⟨S4x8208x1, .f32⟩
  | 125 => ⟨S4x8208x1, .f32⟩
  | 126 => ⟨S4x8208x1, .f32⟩
  | 127 => ⟨S4x8208x1024, .f32⟩
  | _ => ⟨S4x8192x1024, .f32⟩

abbrev hbmTy0_1 (i : Nat) : BufTy := match i % 128 with
  | 0 => ⟨S4x8208x1024, .f32⟩
  | 1 => ⟨S1x1x1024, .f32⟩
  | 2 => ⟨S4x8208x1024, .f32⟩
  | 3 => ⟨S4x8208x1024, .f32⟩
  | 4 => ⟨S4x8208x1024, .f32⟩
  | 5 => ⟨S_, .f32⟩
  | 6 => ⟨S4x128x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_v73 : Ref sig .tc := ⟨.hbm, 90, rfl⟩
abbrev main_v74 : Ref sig .tc := ⟨.hbm, 91, rfl⟩
abbrev main_cst_6 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_call1_cst : Ref sig .tc := ⟨.hbm, 109, rfl⟩
abbrev main_call1_v0 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_8 : Ref sig .tc := ⟨.hbm, 117, rfl⟩
abbrev main_v96 : Ref sig .tc := ⟨.hbm, 118, rfl⟩
abbrev main_v97 : Ref sig .tc := ⟨.hbm, 119, rfl⟩
abbrev main_cst_9 : Ref sig .tc := ⟨.hbm, 120, rfl⟩
abbrev main_v98 : Ref sig .tc := ⟨.hbm, 121, rfl⟩
abbrev main_v99 : Ref sig .tc := ⟨.hbm, 122, rfl⟩
abbrev main_cst_10 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_11 : Ref sig .tc := ⟨.hbm, 133, rfl⟩
abbrev main_v109 : Ref sig .tc := ⟨.hbm, 134, rfl⟩

abbrev nD : Nat := 1
abbrev τ : Topo := Topo.v7x

variable {F : FTy → Type} [FloatOps F]
-- ==== Mlp.lean ====
abbrev S4x8208x1024 : Shape := ⟨3, ![4, 8208, 1024]⟩
abbrev S4x16x8208x64 : Shape := ⟨4, ![4, 16, 8208, 64]⟩
abbrev S4x4x1024 : Shape := ⟨3, ![4, 4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x128x1024 : Shape := ⟨3, ![4, 128, 1024]⟩
abbrev S4x112x1024 : Shape := ⟨3, ![4, 112, 1024]⟩
abbrev S8x4x128x128 : Shape := ⟨4, ![8, 4, 128, 128]⟩
abbrev S8x4x112x128 : Shape := ⟨4, ![8, 4, 112, 128]⟩
abbrev S4x8448x1024 : Shape := ⟨3, ![4, 8448, 1024]⟩
abbrev S33792x1024 : Shape := ⟨2, ![33792, 1024]⟩
abbrev S4x8x2x8208x64 : Shape := ⟨5, ![4, 8, 2, 8208, 64]⟩
abbrev S8x4x8208x2x64 : Shape := ⟨5, ![8, 4, 8208, 2, 64]⟩
abbrev S8x4x8208x128 : Shape := ⟨4, ![8, 4, 8208, 128]⟩
abbrev S8x4x8448x128 : Shape := ⟨4, ![8, 4, 8448, 128]⟩
abbrev S8x33792x128 : Shape := ⟨3, ![8, 33792, 128]⟩
abbrev S1x4x1024 : Shape := ⟨3, ![1, 4, 1024]⟩
abbrev S4x1024 : Shape := ⟨2, ![4, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩

abbrev nBuf : Space → Nat
  | .hbm => 32
  | .vmem => 10
  | .smem => 0
  | _ => 0

abbrev bufTy : (tb : Table) → Fin (tcTables nBuf tb) → BufTy
  | .hbm, ⟨0, _⟩ => ⟨S4x8208x1024, .f32⟩
  | .hbm, ⟨1, _⟩ => ⟨S4x16x8208x64, .f32⟩
  | .hbm, ⟨2, _⟩ => ⟨S4x4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S4x128x1024, .f32⟩
  | .hbm, ⟨7, _⟩ => ⟨S4x112x1024, .f32⟩
  | .hbm, ⟨8, _⟩ => ⟨S8x4x128x128, .bf16⟩
  | .hbm, ⟨9, _⟩ => ⟨S8x4x112x128, .bf16⟩
  | .hbm, ⟨10, _⟩ => ⟨S4x8448x1024, .f32⟩
  | .hbm, ⟨11, _⟩ => ⟨S33792x1024, .f32⟩
  | .hbm, ⟨12, _⟩ => ⟨S4x8x2x8208x64, .f32⟩
  | .hbm, ⟨13, _⟩ => ⟨S8x4x8208x2x64, .f32⟩
  | .hbm, ⟨14, _⟩ => ⟨S8x4x8208x128, .f32⟩
  | .hbm, ⟨15, _⟩ => ⟨S8x4x8208x128, .bf16⟩
  | .hbm, ⟨16, _⟩ => ⟨S8x4x8448x128, .bf16⟩
  | .hbm, ⟨17, _⟩ => ⟨S8x33792x128, .bf16⟩
  | .hbm, ⟨18, _⟩ => ⟨S1x4x1024, .f32⟩
  | .hbm, ⟨19, _⟩ => ⟨S4x1024, .f32⟩
  | .hbm, ⟨20, _⟩ => ⟨S1x1024x4096, .f32⟩
  | .hbm, ⟨21, _⟩ => ⟨S1024x4096, .f32⟩
  | .hbm, ⟨22, _⟩ => ⟨S1024x4096, .bf16⟩
  | .hbm, ⟨23, _⟩ => ⟨S1x4096x1024, .f32⟩
  | .hbm, ⟨24, _⟩ => ⟨S4096x1024, .f32⟩
  | .hbm, ⟨25, _⟩ => ⟨S4096x1024, .bf16⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S33792x1024, .f32⟩
  | .hbm, ⟨30, _⟩ => ⟨S4x8448x1024, .f32⟩
  | .hbm, ⟨31, _⟩ => ⟨S4x8208x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S4x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpReferenceIdeal.lean ====
abbrev S4x8208x1024 : Shape := ⟨3, ![4, 8208, 1024]⟩
abbrev S4x16x8208x64 : Shape := ⟨4, ![4, 16, 8208, 64]⟩
abbrev S4x4x1024 : Shape := ⟨3, ![4, 4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S4x128x1024 : Shape := ⟨3, ![4, 128, 1024]⟩
abbrev S4x112x1024 : Shape := ⟨3, ![4, 112, 1024]⟩
abbrev S8x4x128x128 : Shape := ⟨4, ![8, 4, 128, 128]⟩
abbrev S8x4x112x128 : Shape := ⟨4, ![8, 4, 112, 128]⟩
abbrev S1x4x1024 : Shape := ⟨3, ![1, 4, 1024]⟩
abbrev S4x1024 : Shape := ⟨2, ![4, 1024]⟩
abbrev S4x8208x16x64 : Shape := ⟨4, ![4, 8208, 16, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8208x4096 : Shape := ⟨3, ![4, 8208, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x16x8208x64, .f32⟩
  | .hbm, ⟨2, _⟩ => ⟨S4x4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S4x128x1024, .f32⟩
  | .hbm, ⟨7, _⟩ => ⟨S4x112x1024, .f32⟩
  | .hbm, ⟨8, _⟩ => ⟨S8x4x128x128, .bf16⟩
  | .hbm, ⟨9, _⟩ => ⟨S8x4x112x128, .bf16⟩
  | .hbm, ⟨10, _⟩ => ⟨S1x4x1024, .f32⟩
  | .hbm, ⟨11, _⟩ => ⟨S4x1024, .f32⟩
  | .hbm, ⟨12, _⟩ => ⟨S4x8208x16x64, .f32⟩
  | .hbm, ⟨13, _⟩ => ⟨S4x8208x1024, .f32⟩
  | .hbm, ⟨14, _⟩ => ⟨S1x1024x1024, .f32⟩
  | .hbm, ⟨15, _⟩ => ⟨S1024x1024, .f32⟩
  | .hbm, ⟨16, _⟩ => ⟨S4x8208x1024, .f32⟩
  | .hbm, ⟨17, _⟩ => ⟨S1x1024, .f32⟩
  | .hbm, ⟨18, _⟩ => ⟨S1024, .f32⟩
  | .hbm, ⟨19, _⟩ => ⟨S4x8208x1024, .f32⟩
  | .hbm, ⟨20, _⟩ => ⟨S_, .f32⟩
  | .hbm, ⟨21, _⟩ => ⟨S4x8208, .f32⟩
  | .hbm, ⟨22, _⟩ => ⟨S4x8208x1, .f32⟩
  | .hbm, ⟨23, _⟩ => ⟨S_, .f32⟩
  | .hbm, ⟨24, _⟩ => ⟨S4x8208x1, .f32⟩
  | .hbm, ⟨25, _⟩ => ⟨S4x8208x1, .f32⟩
  | .hbm, ⟨26, _⟩ => ⟨S_, .f32⟩
  | .hbm, ⟨27, _⟩ => ⟨S4x8208x1, .f32⟩
  | .hbm, ⟨28, _⟩ => ⟨S4x8208x1, .f32⟩
  | .hbm, ⟨29, _⟩ => ⟨S4x8208x1, .f32⟩
  | .hbm, ⟨30, _⟩ => ⟨S4x8208x1024, .f32⟩
  | .hbm, ⟨31, _⟩ => ⟨S4x8208x1024, .f32⟩
  | .hbm, ⟨32, _⟩ => ⟨S1x1x1024, .f32⟩
  | .hbm, ⟨33, _⟩ => ⟨S4x8208x1024, .f32⟩
  | .hbm, ⟨34, _⟩ => ⟨S4x8208x1024, .f32⟩
  | .hbm, ⟨35, _⟩ => ⟨S4x8208x1024, .f32⟩
  | .hbm, ⟨36, _⟩ => ⟨S1x1024, .f32⟩
  | .hbm, ⟨37, _⟩ => ⟨S1024, .f32⟩
  | .hbm, ⟨38, _⟩ => ⟨S4x8208x1024, .f32⟩
  | .hbm, ⟨39, _⟩ => ⟨S_, .f32⟩
  | .hbm, ⟨40, _⟩ => ⟨S4x8208, .f32⟩
  | .hbm, ⟨41, _⟩ => ⟨S4x8208x1, .f32⟩
  | .hbm, ⟨42, _⟩ => ⟨S_, .f32⟩
  | .hbm, ⟨43, _⟩ => ⟨S4x8208x1, .f32⟩
  | .hbm, ⟨44, _⟩ => ⟨S4x8208x1, .f32⟩
  | .hbm, ⟨45, _⟩ => ⟨S_, .f32⟩
  | .hbm, ⟨46, _⟩ => ⟨S4x8208x1, .f32⟩
  | .hbm, ⟨47, _⟩ => ⟨S4x8208x1, .f32⟩
  | .hbm, ⟨48, _⟩ => ⟨S4x8208x1, .f32⟩
  | .hbm, ⟨49, _⟩ => ⟨S4x8208x1024, .f32⟩
  | .hbm, ⟨50, _⟩ => ⟨S4x8208x1024, .f32⟩
  | .hbm, ⟨51, _⟩ => ⟨S1x1x1024, .f32⟩
  | .hbm, ⟨52, _⟩ => ⟨S4x8208x1024, .f32⟩
  | .hbm, ⟨53, _⟩ => ⟨S4x8208x1024, .f32⟩
  | .hbm, ⟨54, _⟩ => ⟨S1x1024x4096, .f32⟩
  | .hbm, ⟨55, _⟩ => ⟨S1024x4096, .f32⟩
  | .hbm, ⟨56, _⟩ => ⟨S1x4096x1024, .f32⟩
  | .hbm, ⟨57, _⟩ => ⟨S4096x1024, .f32⟩
  | .hbm, ⟨58, _⟩ => ⟨S4x8208x4096, .f32⟩
  | .hbm, ⟨59, _⟩ => ⟨S_, .f32⟩
  | .hbm, ⟨60, _⟩ => ⟨S4x8208x4096, .f32⟩
  | .hbm, ⟨61, _⟩ => ⟨S4x8208x4096, .f32⟩
  | .hbm, ⟨62, _⟩ => ⟨S4x8208x4096, .f32⟩
  | .hbm, ⟨63, _⟩ => ⟨S4x8208x1024, .f32⟩
  | .hbm, ⟨64, _⟩ => ⟨S1x1024, .f32⟩
  | .hbm, ⟨65, _⟩ => ⟨S1024, .f32⟩
  | .hbm, ⟨66, _⟩ => ⟨S4x8208x1024, .f32⟩
  | .hbm, ⟨67, _⟩ => ⟨S_, .f32⟩
  | .hbm, ⟨68, _⟩ => ⟨S4x8208, .f32⟩
  | .hbm, ⟨69, _⟩ => ⟨S4x8208x1, .f32⟩
  | .hbm, ⟨70, _⟩ => ⟨S_, .f32⟩
  | .hbm, ⟨71, _⟩ => ⟨S4x8208x1, .f32⟩
  | .hbm, ⟨72, _⟩ => ⟨S4x8208x1, .f32⟩
  | .hbm, ⟨73, _⟩ => ⟨S_, .f32⟩
  | .hbm, ⟨74, _⟩ => ⟨S4x8208x1, .f32⟩
  | .hbm, ⟨75, _⟩ => ⟨S4x8208x1, .f32⟩
  | .hbm, ⟨76, _⟩ => ⟨S4x8208x1, .f32⟩
  | .hbm, ⟨77, _⟩ => ⟨S4x8208x1024, .f32⟩
  | .hbm, ⟨78, _⟩ => ⟨S4x8208x1024, .f32⟩
  | .hbm, ⟨79, _⟩ => ⟨S1x1x1024, .f32⟩
  | .hbm, ⟨80, _⟩ => ⟨S4x8208x1024, .f32⟩
  | .hbm, ⟨81, _⟩ => ⟨S4x8208x1024, .f32⟩
  | .hbm, ⟨82, _⟩ => ⟨S4x8208x1024, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== KeyValue.lean ====
abbrev S4x8208x1024 : Shape := ⟨3, ![4, 8208, 1024]⟩
abbrev S1024 : Shape := ⟨1, ![1024]⟩
abbrev S1024x1024 : Shape := ⟨2, ![1024, 1024]⟩
abbrev S4x128x1024 : Shape := ⟨3, ![4, 128, 1024]⟩
abbrev S4x112x1024 : Shape := ⟨3, ![4, 112, 1024]⟩
abbrev S4x8448x1024 : Shape := ⟨3, ![4, 8448, 1024]⟩
abbrev S33792x1024 : Shape := ⟨2, ![33792, 1024]⟩
abbrev S1024x2048 : Shape := ⟨2, ![1024, 2048]⟩
abbrev S1x1024 : Shape := ⟨2, ![1, 1024]⟩
abbrev S16x33792x128 : Shape := ⟨3, ![16, 33792, 128]⟩
abbrev S512x1024 : Shape := ⟨2, ![512, 1024]⟩
abbrev S16x512x128 : Shape := ⟨3, ![16, 512, 128]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x512x128 : Shape := ⟨3, ![1, 512, 128]⟩
abbrev S16x4x8448x2x64 : Shape := ⟨5, ![16, 4, 8448, 2, 64]⟩
abbrev S16x4x8208x2x64 : Shape := ⟨5, ![16, 4, 8208, 2, 64]⟩
abbrev S4x16x2x8208x64 : Shape := ⟨5, ![4, 16, 2, 8208, 64]⟩
abbrev S4x32x8208x64 : Shape := ⟨4, ![4, 32, 8208, 64]⟩
abbrev S4x16x8208x64 : Shape := ⟨4, ![4, 16, 8208, 64]⟩

abbrev nBuf : Space → Nat
  | .hbm => 20
  | .vmem => 6
  | .smem => 0
  | _ => 0

abbrev bufTy : (tb : Table) → Fin (tcTables nBuf tb) → BufTy
  | .hbm, ⟨0, _⟩ => ⟨S4x8208x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x128x1024, .f32⟩
  | .hbm, ⟨5, _⟩ => ⟨S4x112x1024, .f32⟩
  | .hbm, ⟨6, _⟩ => ⟨S4x8448x1024, .f32⟩
  | .hbm, ⟨7, _⟩ => ⟨S33792x1024, .f32⟩
  | .hbm, ⟨8, _⟩ => ⟨S1024x2048, .f32⟩
  | .hbm, ⟨9, _⟩ => ⟨S1024x2048, .bf16⟩
  | .hbm, ⟨10, _⟩ => ⟨S1x1024, .f32⟩
  | .hbm, ⟨11, _⟩ => ⟨S16x33792x128, .bf16⟩
  | .hbm, ⟨12, _⟩ => ⟨S16x4x8448x2x64, .bf16⟩
  | .hbm, ⟨13, _⟩ => ⟨S16x4x8208x2x64, .bf16⟩
  | .hbm, ⟨14, _⟩ => ⟨S4x16x2x8208x64, .bf16⟩
  | .hbm, ⟨15, _⟩ => ⟨S4x32x8208x64, .bf16⟩
  | .hbm, ⟨16, _⟩ => ⟨S4x16x8208x64, .bf16⟩
  | .hbm, ⟨17, _⟩ => ⟨S4x16x8208x64, .f32⟩
  | .hbm, ⟨18, _⟩ => ⟨S4x16x8208x64, .bf16⟩
  | .hbm, ⟨19, _⟩ => ⟨S4x16x8208x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S16x512x128, .bf16⟩
  | .local _ .vmem, ⟨5, _⟩ => ⟨S16x512x128, .bf16⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KeyValueReferenceIdeal.lean ====
abbrev S4x8208x1024 : Shape := ⟨3, ![4, 8208, 1024]⟩
abbrev S1024 : Shape := ⟨1, ![1024]⟩
abbrev S1024x1024 : Shape := ⟨2, ![1024, 1024]⟩
abbrev S4x128x1024 : Shape := ⟨3, ![4, 128, 1024]⟩
abbrev S4x112x1024 : Shape := ⟨3, ![4, 112, 1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S4x8208x16x64 : Shape := ⟨4, ![4, 8208, 16, 64]⟩
abbrev S4x16x8208x64 : Shape := ⟨4, ![4, 16, 8208, 64]⟩

abbrev nBuf : Space → Nat
  | .hbm => 28
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4x128x1024, .f32⟩
  | .hbm, ⟨5, _⟩ => ⟨S4x112x1024, .f32⟩
  | .hbm, ⟨6, _⟩ => ⟨S4x8208x1024, .f32⟩
  | .hbm, ⟨7, _⟩ => ⟨S_, .f32⟩
  | .hbm, ⟨8, _⟩ => ⟨S4x8208, .f32⟩
  | .hbm, ⟨9, _⟩ => ⟨S4x8208x1, .f32⟩
  | .hbm, ⟨10, _⟩ => ⟨S_, .f32⟩
  | .hbm, ⟨11, _⟩ => ⟨S4x8208x1, .f32⟩
  | .hbm, ⟨12, _⟩ => ⟨S4x8208x1, .f32⟩
  | .hbm, ⟨13, _⟩ => ⟨S_, .f32⟩
  | .hbm, ⟨14, _⟩ => ⟨S4x8208x1, .f32⟩
  | .hbm, ⟨15, _⟩ => ⟨S4x8208x1, .f32⟩
  | .hbm, ⟨16, _⟩ => ⟨S4x8208x1, .f32⟩
  | .hbm, ⟨17, _⟩ => ⟨S4x8208x1024, .f32⟩
  | .hbm, ⟨18, _⟩ => ⟨S4x8208x1024, .f32⟩
  | .hbm, ⟨19, _⟩ => ⟨S1x1x1024, .f32⟩
  | .hbm, ⟨20, _⟩ => ⟨S4x8208x1024, .f32⟩
  | .hbm, ⟨21, _⟩ => ⟨S4x8208x1024, .f32⟩
  | .hbm, ⟨22, _⟩ => ⟨S4x8208x1024, .f32⟩
  | .hbm, ⟨23, _⟩ => ⟨S4x8208x16x64, .f32⟩
  | .hbm, ⟨24, _⟩ => ⟨S4x16x8208x64, .f32⟩
  | .hbm, ⟨25, _⟩ => ⟨S4x8208x1024, .f32⟩
  | .hbm, ⟨26, _⟩ => ⟨S4x8208x16x64, .f32⟩
  | .hbm, ⟨27, _⟩ => ⟨S4x16x8208x64, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Query.lean ====
abbrev S4x8208x1024 : Shape := ⟨3, ![4, 8208, 1024]⟩
abbrev S4x4x1024 : Shape := ⟨3, ![4, 4, 1024]⟩
abbrev S2x1024x1024 : Shape := ⟨3, ![2, 1024, 1024]⟩
abbrev S4x128x1024 : Shape := ⟨3, ![4, 128, 1024]⟩
abbrev S4x112x1024 : Shape := ⟨3, ![4, 112, 1024]⟩
abbrev S4x8448x1024 : Shape := ⟨3, ![4, 8448, 1024]⟩
abbrev S33792x1024 : Shape := ⟨2, ![33792, 1024]⟩
abbrev S1x4x1024 : Shape := ⟨3, ![1, 4, 1024]⟩
abbrev S4x1024 : Shape := ⟨2, ![4, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S8x33792x128 : Shape := ⟨3, ![8, 33792, 128]⟩
abbrev S512x1024 : Shape := ⟨2, ![512, 1024]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S8x4x8448x2x64 : Shape := ⟨5, ![8, 4, 8448, 2, 64]⟩
abbrev S8x4x8208x2x64 : Shape := ⟨5, ![8, 4, 8208, 2, 64]⟩
abbrev S4x8x2x8208x64 : Shape := ⟨5, ![4, 8, 2, 8208, 64]⟩
abbrev S4x16x8208x64 : Shape := ⟨4, ![4, 16, 8208, 64]⟩

abbrev nBuf : Space → Nat
  | .hbm => 22
  | .vmem => 6
  | .smem => 0
  | _ => 0

abbrev bufTy : (tb : Table) → Fin (tcTables nBuf tb) → BufTy
  | .hbm, ⟨0, _⟩ => ⟨S4x8208x1024, .f32⟩
  | .hbm, ⟨1, _⟩ => ⟨S4x4x1024, .f32⟩
  | .hbm, ⟨2, _⟩ => ⟨S2x1024x1024, .f32⟩
  | .hbm, ⟨3, _⟩ => ⟨S4x128x1024, .f32⟩
  | .hbm, ⟨4, _⟩ => ⟨S4x112x1024, .f32⟩
  | .hbm, ⟨5, _⟩ => ⟨S4x8448x1024, .f32⟩
  | .hbm, ⟨6, _⟩ => ⟨S33792x1024, .f32⟩
  | .hbm, ⟨7, _⟩ => ⟨S1x4x1024, .f32⟩
  | .hbm, ⟨8, _⟩ => ⟨S4x1024, .f32⟩
  | .hbm, ⟨9, _⟩ => ⟨S1x1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x33792x128, .bf16⟩
  | .hbm, ⟨17, _⟩ => ⟨S8x4x8448x2x64, .bf16⟩
  | .hbm, ⟨18, _⟩ => ⟨S8x4x8208x2x64, .bf16⟩
  | .hbm, ⟨19, _⟩ => ⟨S4x8x2x8208x64, .bf16⟩
  | .hbm, ⟨20, _⟩ => ⟨S4x16x8208x64, .bf16⟩
  | .hbm, ⟨21, _⟩ => ⟨S4x16x8208x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S8x512x128, .bf16⟩
  | .local _ .vmem, ⟨5, _⟩ => ⟨S8x512x128, .bf16⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QueryReferenceIdeal.lean ====
abbrev S4x8208x1024 : Shape := ⟨3, ![4, 8208, 1024]⟩
abbrev S4x4x1024 : Shape := ⟨3, ![4, 4, 1024]⟩
abbrev S2x1024x1024 : Shape := ⟨3, ![2, 1024, 1024]⟩
abbrev S4x128x1024 : Shape := ⟨3, ![4, 128, 1024]⟩
abbrev S4x112x1024 : Shape := ⟨3, ![4, 112, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S4x8208x16x64 : Shape := ⟨4, ![4, 8208, 16, 64]⟩
abbrev S4x16x8208x64 : Shape := ⟨4, ![4, 16, 8208, 64]⟩

abbrev nBuf : Space → Nat
  | .hbm => 33
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x4x1024, .f32⟩
  | .hbm, ⟨2, _⟩ => ⟨S2x1024x1024, .f32⟩
  | .hbm, ⟨3, _⟩ => ⟨S4x128x1024, .f32⟩
  | .hbm, ⟨4, _⟩ => ⟨S4x112x1024, .f32⟩
  | .hbm, ⟨5, _⟩ => ⟨S1x4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S4x8208x1024, .f32⟩
  | .hbm, ⟨10, _⟩ => ⟨S_, .f32⟩
  | .hbm, ⟨11, _⟩ => ⟨S4x8208, .f32⟩
  | .hbm, ⟨12, _⟩ => ⟨S4x8208x1, .f32⟩
  | .hbm, ⟨13, _⟩ => ⟨S_, .f32⟩
  | .hbm, ⟨14, _⟩ => ⟨S4x8208x1, .f32⟩
  | .hbm, ⟨15, _⟩ => ⟨S4x8208x1, .f32⟩
  | .hbm, ⟨16, _⟩ => ⟨S_, .f32⟩
  | .hbm, ⟨17, _⟩ => ⟨S4x8208x1, .f32⟩
  | .hbm, ⟨18, _⟩ => ⟨S4x8208x1, .f32⟩
  | .hbm, ⟨19, _⟩ => ⟨S4x8208x1, .f32⟩
  | .hbm, ⟨20, _⟩ => ⟨S4x8208x1024, .f32⟩
  | .hbm, ⟨21, _⟩ => ⟨S4x8208x1024, .f32⟩
  | .hbm, ⟨22, _⟩ => ⟨S1x1x1024, .f32⟩
  | .hbm, ⟨23, _⟩ => ⟨S4x8208x1024, .f32⟩
  | .hbm, ⟨24, _⟩ => ⟨S4x8208x1024, .f32⟩
  | .hbm, ⟨25, _⟩ => ⟨S1x1024x1024, .f32⟩
  | .hbm, ⟨26, _⟩ => ⟨S1024x1024, .f32⟩
  | .hbm, ⟨27, _⟩ => ⟨S4x8208x1024, .f32⟩
  | .hbm, ⟨28, _⟩ => ⟨S4x8208x16x64, .f32⟩
  | .hbm, ⟨29, _⟩ => ⟨S4x16x8208x64, .f32⟩
  | .hbm, ⟨30, _⟩ => ⟨S_, .f32⟩
  | .hbm, ⟨31, _⟩ => ⟨S4x16x8208x64, .f32⟩
  | .hbm, ⟨32, _⟩ => ⟨S4x16x8208x64, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== NextConv.lean ====
abbrev S4x8208x1024 : Shape := ⟨3, ![4, 8208, 1024]⟩
abbrev S4x112x1024 : Shape := ⟨3, ![4, 112, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S_ : Shape := ⟨0, ![]⟩
abbrev S4x128x1024 : Shape := ⟨3, ![4, 128, 1024]⟩
abbrev S4x8448x1024 : Shape := ⟨3, ![4, 8448, 1024]⟩
abbrev S33792x1024 : Shape := ⟨2, ![33792, 1024]⟩
abbrev S1x4x1024 : Shape := ⟨3, ![1, 4, 1024]⟩
abbrev S4x1024 : Shape := ⟨2, ![4, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S512x1024 : Shape := ⟨2, ![512, 1024]⟩
abbrev S520x1024 : Shape := ⟨2, ![520, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 31
  | .vmem => 11
  | .smem => 0
  | _ => 0

abbrev bufTy : (tb : Table) → Fin (tcTables nBuf tb) → BufTy
  | .hbm, ⟨0, _⟩ => ⟨S4x8208x1024, .f32⟩
  | .hbm, ⟨1, _⟩ => ⟨S4x112x1024, .f32⟩
  | .hbm, ⟨2, _⟩ => ⟨S4x4x1024, .f32⟩
  | .hbm, ⟨3, _⟩ => ⟨S2x1024x3072, .f32⟩
  | .hbm, ⟨4, _⟩ => ⟨S2x3x1024, .f32⟩
  | .hbm, ⟨5, _⟩ => ⟨S2x1024x1024, .f32⟩
  | .hbm, ⟨6, _⟩ => ⟨S4x1024x4096, .f32⟩
  | .hbm, ⟨7, _⟩ => ⟨S4x4096x1024, .f32⟩
  | .hbm, ⟨8, _⟩ => ⟨S_, .f32⟩
  | .hbm, ⟨9, _⟩ => ⟨S4x128x1024, .f32⟩
  | .hbm, ⟨10, _⟩ => ⟨S4x8448x1024, .f32⟩
  | .hbm, ⟨11, _⟩ => ⟨S33792x1024, .f32⟩
  | .hbm, ⟨12, _⟩ => ⟨S1x4x1024, .f32⟩
  | .hbm, ⟨13, _⟩ => ⟨S4x1024, .f32⟩
  | .hbm, ⟨14, _⟩ => ⟨S1x1024x4096, .f32⟩
  | .hbm, ⟨15, _⟩ => ⟨S1024x4096, .f32⟩
  | .hbm, ⟨16, _⟩ => ⟨S1024x4096, .bf16⟩
  | .hbm, ⟨17, _⟩ => ⟨S1x4096x1024, .f32⟩
  | .hbm, ⟨18, _⟩ => ⟨S4096x1024, .f32⟩
  | .hbm, ⟨19, _⟩ => ⟨S4096x1024, .bf16⟩
  | .hbm, ⟨20, _⟩ => ⟨S1x1024x3072, .f32⟩
  | .hbm, ⟨21, _⟩ => ⟨S1024x3072, .f32⟩
  | .hbm, ⟨22, _⟩ => ⟨S1024x3072, .bf16⟩
  | .hbm, ⟨23, _⟩ => ⟨S1x3x1024, .f32⟩
  | .hbm, ⟨24, _⟩ => ⟨S3x1024, .f32⟩
  | .hbm, ⟨25, _⟩ => ⟨S1x1024x1024, .f32⟩
  | .hbm, ⟨26, _⟩ => ⟨S1024x1024, .f32⟩
  | .hbm, ⟨27, _⟩ => ⟨S1024x1024, .bf16⟩
  | .hbm, ⟨28, _⟩ => ⟨S33792x1024, .f32⟩
  | .hbm, ⟨29, _⟩ => ⟨S4x8448x1024, .f32⟩
  | .hbm, ⟨30, _⟩ => ⟨S4x8208x1024, .f32⟩
  | .local _ .vmem, ⟨0, _⟩ => ⟨S512x1024, .f32⟩
  | .local _ .vmem, ⟨1, _⟩ => ⟨S512x1024, .f32⟩
  | .local _ .vmem, ⟨2, _⟩ => ⟨S4x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S520x1024, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NextConvReferenceIdeal.lean ====
abbrev S4x8208x1024 : Shape := ⟨3, ![4, 8208, 1024]⟩
abbrev S4x112x1024 : Shape := ⟨3, ![4, 112, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S4x8208x3072 : Shape := ⟨3, ![4, 8208, 3072]⟩
abbrev S4x8210x1024 : Shape := ⟨3, ![4, 8210, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8208x4096 : Shape := ⟨3, ![4, 8208, 4096]⟩

abbrev nBuf : Space → Nat
  | .hbm => 130
  | .vmem => 0
  | .smem => 0
  | _ => 0

abbrev hbmTy0_0 (i : Nat) : BufTy := match i % 128 with
  | 0 => ⟨S4x8208x1024, .f32⟩
  | 1 => ⟨S4x112x1024, .f32⟩
  | 2 => ⟨S4x4x1024, .f32⟩
  | 3 => ⟨S2x1024x3072, .f32⟩
  | 4 => ⟨S2x3x1024, .f32⟩
  | 5 => ⟨S2x1024x1024, .f32⟩
  | 6 => ⟨S4x1024x4096, .f32⟩
  | 7 => ⟨S4x4096x1024, .f32⟩
  | 8 => ⟨S1x4x1024, .f32⟩
  | 9 => ⟨S4x1024, .f32⟩
  | 10 => ⟨S1x1024, .f32⟩
  | 11 => ⟨S1024, .f32⟩
  | 12 => ⟨S4x8208x1024, .f32⟩
  | 13 => ⟨S_, .f32⟩
  | 14 => ⟨S4x8208, .f32⟩
  | 15 => ⟨S4x8208x1, .f32⟩
  | 16 => ⟨S_, .f32⟩
  | 17 => ⟨S4x8208x1, .f32⟩
  | 18 => ⟨S4x8208x1, .f32⟩
  | 19 => ⟨S_, .f32⟩
  | 20 => ⟨S4x8208x1, .f32⟩
  | 21 => ⟨S4x8208x1, .f32⟩
  | 22 => ⟨S4x8208x1, .f32⟩
  | 23 => ⟨S4x8208x1024, .f32⟩
  | 24 => ⟨S4x8208x1024, .f32⟩
  | 25 => ⟨S1x1x1024, .f32⟩
  | 26 => ⟨S4x8208x1024, .f32⟩
  | 27 => ⟨S4x8208x1024, .f32⟩
  | 28 => ⟨S1x1024x3072, .f32⟩
  | 29 => ⟨S1024x3072, .f32⟩
  | 30 => ⟨S1x3x1024, .f32⟩
  | 31 => ⟨S3x1024, .f32⟩
  | 32 => ⟨S1x1024x1024, .f32⟩
  | 33 => ⟨S1024x1024, .f32⟩
  | 34 => ⟨S4x8208x3072, .f32⟩
  | 35 => ⟨S4x8208x1024, .f32⟩
  | 36 => ⟨S4x8208x1024, .f32⟩
  | 37 => ⟨S4x8208x1024, .f32⟩
  | 38 => ⟨S4x8208x1024, .f32⟩
  | 39 => ⟨S_, .i32⟩
  | 40 => ⟨S_, .f32⟩
  | 41 => ⟨S4x8210x1024, .f32⟩
  | 42 => ⟨S4x8208x1024, .f32⟩
  | 43 => ⟨S1x1024, .f32⟩
  | 44 => ⟨S1024, .f32⟩
  | 45 => ⟨S1x1x1024, .f32⟩
  | 46 => ⟨S4x8208x1024, .f32⟩
  | 47 => ⟨S4x8208x1024, .f32⟩
  | 48 => ⟨S4x8208x1024, .f32⟩
  | 49 => ⟨S1x1024, .f32⟩
  | 50 => ⟨S1024, .f32⟩
  | 51 => ⟨S1x1x1024, .f32⟩
  | 52 => ⟨S4x8208x1024, .f32⟩
  | 53 => ⟨S4x8208x1024, .f32⟩
  | 54 => ⟨S4x8208x1024, .f32⟩
  | 55 => ⟨S4x8208x1024, .f32⟩
  | 56 => ⟨S1x1024, .f32⟩
  | 57 => ⟨S1024, .f32⟩
  | 58 => ⟨S1x1x1024, .f32⟩
  | 59 => ⟨S4x8208x1024, .f32⟩
  | 60 => ⟨S4x8208x1024, .f32⟩
  | 61 => ⟨S4x8208x1024, .f32⟩
  | 62 => ⟨S4x8208x1024, .f32⟩
  | 63 => ⟨S4x8208x1024, .f32⟩
  | 64 => ⟨S1x1024, .f32⟩
  | 65 => ⟨S1024, .f32⟩
  | 66 => ⟨S4x8208x1024, .f32⟩
  | 67 => ⟨S_, .f32⟩
  | 68 => ⟨S4x8208, .f32⟩
  | 69 => ⟨S4x8208x1, .f32⟩
  | 70 => ⟨S_, .f32⟩
  | 71 => ⟨S4x8208x1, .f32⟩
  | 72 => ⟨S4x8208x1, .f32⟩
  | 73 => ⟨S_, .f32⟩
  | 74 => ⟨S4x8208x1, .f32⟩
  | 75 => ⟨S4x8208x1, .f32⟩
  | 76 => ⟨S4x8208x1, .f32⟩
  | 77 => ⟨S4x8208x1024, .f32⟩
  | 78 => ⟨S4x8208x1024, .f32⟩
  | 79 => ⟨S1x1x1024, .f32⟩
  | 80 => ⟨S4x8208x1024, .f32⟩
  | 81 => ⟨S4x8208x1024, .f32⟩
  | 82 => ⟨S4x8208x1024, .f32⟩
  | 83 => ⟨S1x1024, .f32⟩
  | 84 => ⟨S1024, .f32⟩
  | 85 => ⟨S4x8208x1024, .f32⟩
  | 86 => ⟨S_, .f32⟩
  | 87 => ⟨S4x8208, .f32⟩
  | 88 => ⟨S4x8208x1, .f32⟩
  | 89 => ⟨S_, .f32⟩
  | 90 => ⟨S4x8208x1, .f32⟩
  | 91 => ⟨S4x8208x1, .f32⟩
  | 92 => ⟨S_, .f32⟩
  | 93 => ⟨S4x8208x1, .f32⟩
  | 94 => ⟨S4x8208x1, .f32⟩
  | 95 => ⟨S4x8208x1, .f32⟩
  | 96 => ⟨S4x8208x1024, .f32⟩
  | 97 => ⟨S4x8208x1024, .f32⟩
  | 98 => ⟨S1x1x1024, .f32⟩
  | 99 => ⟨S4x8208x1024, .f32⟩
  | 100 => ⟨S4x8208x1024, .f32⟩
  | 101 => ⟨S1x1024x4096, .f32⟩
  | 102 => ⟨S1024x4096, .f32⟩
  | 103 => ⟨S1x4096x1024, .f32⟩
  | 104 => ⟨S4096x1024, .f32⟩
  | 105 => ⟨S4x8208x4096, .f32⟩
  | 106 => ⟨S_, .f32⟩
  | 107 => ⟨S4x8208x4096, .f32⟩
  | 108 => ⟨S4x8208x4096, .f32⟩
  | 109 => ⟨S4x8208x4096, .f32⟩
  | 110 => ⟨S4x8208x1024, .f32⟩
  | 111 => ⟨S1x1024, .f32⟩
  | 112 => ⟨S1024, .f32⟩
  | 113 => ⟨S4x8208x1024, .f32⟩
  | 114 => ⟨S_, .f32⟩
  | 115 => ⟨S4x8208, .f32⟩
  | 116 => ⟨S4x8208x1, .f32⟩
  | 117 => ⟨S_, .f32⟩
  | 118 => ⟨S4x8208x1, .f32⟩
  | 119 => ⟨S4x8208x1, .f32⟩
  | 120 => ⟨S_, .f32⟩
  | 121 => ⟨S4x8208x1, .f32⟩
  | 122 => ⟨S4x8208x1, .f32⟩
  | 123 => ⟨S4x8208x1, .f32⟩
  | 124 => ⟨S4x8208x1024, .f32⟩
  | 125 => ⟨S4x8208x1024, .f32⟩
  | 126 => ⟨S1x1x1024, .f32⟩
  | 127 => ⟨S4x8208x1024, .f32⟩
  | _ => ⟨S4x8208x1024, .f32⟩

abbrev hbmTy0_1 (i : Nat) : BufTy := match i % 128 with
  | 0 => ⟨S4x8208x1024, .f32⟩
  | 1 => ⟨S4x8208x1024, .f32⟩
  | _ => ⟨S4x8208x1024, .f32⟩

abbrev hbmTy (i : Nat) : BufTy := match i / 128 with
  | 0 => hbmTy0_0 i
  | 1 => hbmTy0_1 i
  | _ => ⟨S4x8208x1024, .f32⟩

abbrev bufTy : (tb : Table) → Fin (tcTables nBuf tb) → BufTy
  | .hbm, ⟨i, _⟩ => hbmTy i
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_call1_cst : Ref sig .tc := ⟨.hbm, 106, rfl⟩
abbrev main_call1_v0 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_8 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_cst_10 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩

abbrev nD : Nat := 1
abbrev τ : Topo := Topo.v7x

variable {F : FTy → Type} [FloatOps F]
-- ==== LastQuery.lean ====
abbrev S4x8208x1024 : Shape := ⟨3, ![4, 8208, 1024]⟩
abbrev S4x4x1024 : Shape := ⟨3, ![4, 4, 1024]⟩
abbrev S2x1024x1024 : Shape := ⟨3, ![2, 1024, 1024]⟩
abbrev S4x128x1024 : Shape := ⟨3, ![4, 128, 1024]⟩
abbrev S4x112x1024 : Shape := ⟨3, ![4, 112, 1024]⟩
abbrev S4x8448x1024 : Shape := ⟨3, ![4, 8448, 1024]⟩
abbrev S33792x1024 : Shape := ⟨2, ![33792, 1024]⟩
abbrev S1x4x1024 : Shape := ⟨3, ![1, 4, 1024]⟩
abbrev S4x1024 : Shape := ⟨2, ![4, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S8x33792x128 : Shape := ⟨3, ![8, 33792, 128]⟩
abbrev S512x1024 : Shape := ⟨2, ![512, 1024]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S8x4x8448x2x64 : Shape := ⟨5, ![8, 4, 8448, 2, 64]⟩
abbrev S8x4x8208x2x64 : Shape := ⟨5, ![8, 4, 8208, 2, 64]⟩
abbrev S4x8x2x8208x64 : Shape := ⟨5, ![4, 8, 2, 8208, 64]⟩
abbrev S4x16x8208x64 : Shape := ⟨4, ![4, 16, 8208, 64]⟩

abbrev nBuf : Space → Nat
  | .hbm => 22
  | .vmem => 6
  | .smem => 0
  | _ => 0

abbrev bufTy : (tb : Table) → Fin (tcTables nBuf tb) → BufTy
  | .hbm, ⟨0, _⟩ => ⟨S4x8208x1024, .f32⟩
  | .hbm, ⟨1, _⟩ => ⟨S4x4x1024, .f32⟩
  | .hbm, ⟨2, _⟩ => ⟨S2x1024x1024, .f32⟩
  | .hbm, ⟨3, _⟩ => ⟨S4x128x1024, .f32⟩
  | .hbm, ⟨4, _⟩ => ⟨S4x112x1024, .f32⟩
  | .hbm, ⟨5, _⟩ => ⟨S4x8448x1024, .f32⟩
  | .hbm, ⟨6, _⟩ => ⟨S33792x1024, .f32⟩
  | .hbm, ⟨7, _⟩ => ⟨S1x4x1024, .f32⟩
  | .hbm, ⟨8, _⟩ => ⟨S4x1024, .f32⟩
  | .hbm, ⟨9, _⟩ => ⟨S1x1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x33792x128, .bf16⟩
  | .hbm, ⟨17, _⟩ => ⟨S8x4x8448x2x64, .bf16⟩
  | .hbm, ⟨18, _⟩ => ⟨S8x4x8208x2x64, .bf16⟩
  | .hbm, ⟨19, _⟩ => ⟨S4x8x2x8208x64, .bf16⟩
  | .hbm, ⟨20, _⟩ => ⟨S4x16x8208x64, .bf16⟩
  | .hbm, ⟨21, _⟩ => ⟨S4x16x8208x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S8x512x128, .bf16⟩
  | .local _ .vmem, ⟨5, _⟩ => ⟨S8x512x128, .bf16⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastQueryReferenceIdeal.lean ====
abbrev S4x8208x1024 : Shape := ⟨3, ![4, 8208, 1024]⟩
abbrev S4x4x1024 : Shape := ⟨3, ![4, 4, 1024]⟩
abbrev S2x1024x1024 : Shape := ⟨3, ![2, 1024, 1024]⟩
abbrev S4x128x1024 : Shape := ⟨3, ![4, 128, 1024]⟩
abbrev S4x112x1024 : Shape := ⟨3, ![4, 112, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S4x8208x16x64 : Shape := ⟨4, ![4, 8208, 16, 64]⟩
abbrev S4x16x8208x64 : Shape := ⟨4, ![4, 16, 8208, 64]⟩

abbrev nBuf : Space → Nat
  | .hbm => 33
  | .vmem => 0
  | .smem => 0
  | _ => 0

abbrev bufTy : (tb : Table) → Fin (tcTables nBuf tb) → BufTy
  | .hbm, ⟨0, _⟩ => ⟨S4x8208x1024, .f32⟩
  | .hbm, ⟨1, _⟩ => ⟨S4x4x1024, .f32⟩
  | .hbm, ⟨2, _⟩ => ⟨S2x1024x1024, .f32⟩
  | .hbm, ⟨3, _⟩ => ⟨S4x128x1024, .f32⟩
  | .hbm, ⟨4, _⟩ => ⟨S4x112x1024, .f32⟩
  | .hbm, ⟨5, _⟩ => ⟨S1x4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S4x8208x1024, .f32⟩
  | .hbm, ⟨10, _⟩ => ⟨S_, .f32⟩
  | .hbm, ⟨11, _⟩ => ⟨S4x8208, .f32⟩
  | .hbm, ⟨12, _⟩ => ⟨S4x8208x1, .f32⟩
  | .hbm, ⟨13, _⟩ => ⟨S_, .f32⟩
  | .hbm, ⟨14, _⟩ => ⟨S4x8208x1, .f32⟩
  | .hbm, ⟨15, _⟩ => ⟨S4x8208x1, .f32⟩
  | .hbm, ⟨16, _⟩ => ⟨S_, .f32⟩
  | .hbm, ⟨17, _⟩ => ⟨S4x8208x1, .f32⟩
  | .hbm, ⟨18, _⟩ => ⟨S4x8208x1, .f32⟩
  | .hbm, ⟨19, _⟩ => ⟨S4x8208x1, .f32⟩
  | .hbm, ⟨20, _⟩ => ⟨S4x8208x1024, .f32⟩
  | .hbm, ⟨21, _⟩ => ⟨S4x8208x1024, .f32⟩
  | .hbm, ⟨22, _⟩ => ⟨S1x1x1024, .f32⟩
  | .hbm, ⟨23, _⟩ => ⟨S4x8208x1024, .f32⟩
  | .hbm, ⟨24, _⟩ => ⟨S4x8208x1024, .f32⟩
  | .hbm, ⟨25, _⟩ => ⟨S1x1024x1024, .f32⟩
  | .hbm, ⟨26, _⟩ => ⟨S1024x1024, .f32⟩
  | .hbm, ⟨27, _⟩ => ⟨S4x8208x1024, .f32⟩
  | .hbm, ⟨28, _⟩ => ⟨S4x8208x16x64, .f32⟩
  | .hbm, ⟨29, _⟩ => ⟨S4x16x8208x64, .f32⟩
  | .hbm, ⟨30, _⟩ => ⟨S_, .f32⟩
  | .hbm, ⟨31, _⟩ => ⟨S4x16x8208x64, .f32⟩
  | .hbm, ⟨32, _⟩ => ⟨S4x16x8208x64, .f32⟩
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Prep.lean ====
/- The arrays the kernel's region finds, read at an index: the hidden states and the heads' outputs between their padding rows,
   and the layer's gains and weights. -/
module

public import proofs.«01_k».proof.Proof.Gen.KernelIdeal.Frame
public import Idealize.ShloMosaic.Lib.StableHlo.Run
public import Idealize.ShloMosaic.Lib.Pointwise

@[expose] public section

noncomputable section

namespace Cert.KernelIdeal.Prep

open Cert.KernelIdeal Cert.KernelIdeal.Gen Idealize.ShloMosaic Idealize.ShloMosaic.TcCoe
open scoped BigOperators

variable (m : (ℓ : Loc nD τ sig) → Buf (Elt Ideal) ℓ) (c : Dev nD)

/-- The layer's gains. -/
theorem gains_apply (a : Fin 4) (k : Fin 1024) :
    V m c main_v9 (ix2 a k) = m ((c : Thread nD τ).loc main_arg2) (ix3 3 a k) := by
  have e : V m c main_v9 = shapeCast S4x1024 (extractStridedSlice S1x4x1024 ![3, 0, 0] (m ((c : Thread nD τ).loc main_arg2)) slices_S4x4x1024_S1x4x1024_3_0_0) shapeCasts_S1x4x1024_S4x1024 := by
    show StableHlo.after hostOps0 (fun b => m (c, b)) (Proc.devRef .tc main_v9) = _
    after_results_simp
    rfl
  rw [e]
  pointwise

/-- The output projection. -/
theorem wo_apply (k f : Fin 1024) :
    V m c main_v18 (ix2 k f) = m ((c : Thread nD τ).loc main_arg3) (ix3 1 k f) := by
  have e : V m c main_v18 = truncf (F := Ideal) .bf16 (shapeCast S1024x1024 (extractStridedSlice S1x1024x1024 ![1, 0, 0] (m ((c : Thread nD τ).loc main_arg3)) slices_S2x1024x1024_S1x1024x1024_1_0_0) shapeCasts_S1x1024x1024_S1024x1024) bitsLt_bf16_f32 := by
    show StableHlo.after hostOps0 (fun b => m (c, b)) (Proc.devRef .tc main_v18) = _
    after_results_simp
    rfl
  rw [e]
  pointwise

/-- The feed-forward network's first weight. -/
theorem w1_apply (k : Fin 1024) (f : Fin 4096) :
    V m c main_v12 (ix2 k f) = m ((c : Thread nD τ).loc main_arg4) (ix3 3 k f) := by
  have e : V m c main_v12 = truncf (F := Ideal) .bf16 (shapeCast S1024x4096 (extractStridedSlice S1x1024x4096 ![3, 0, 0] (m ((c : Thread nD τ).loc main_arg4)) slices_S4x1024x4096_S1x1024x4096_3_0_0) shapeCasts_S1x1024x4096_S1024x4096) bitsLt_bf16_f32 := by
    show StableHlo.after hostOps0 (fun b => m (c, b)) (Proc.devRef .tc main_v12) = _
    after_results_simp
    rfl
  rw [e]
  pointwise

/-- The feed-forward network's second weight. -/
theorem w2_apply (f : Fin 4096) (k : Fin 1024) :
    V m c main_v15 (ix2 f k) = m ((c : Thread nD τ).loc main_arg5) (ix3 3 f k) := by
  have e : V m c main_v15 = truncf (F := Ideal) .bf16 (shapeCast S4096x1024 (extractStridedSlice S1x4096x1024 ![3, 0, 0] (m ((c : Thread nD τ).loc main_arg5)) slices_S4x4096x1024_S1x4096x1024_3_0_0) shapeCasts_S1x4096x1024_S4096x1024) bitsLt_bf16_f32 := by
    show StableHlo.after hostOps0 (fun b => m (c, b)) (Proc.devRef .tc main_v15) = _
    after_results_simp
    rfl
  rw [e]
  pointwise

/-- The padded hidden states, batch element by batch element. -/
theorem hidden_apply (b : Fin 4) (p : Fin 8208) (j : Fin 1024) :
    V m c main_v1 (ix2 (⟨b.val * 8448 + (128 + p.val), by omega⟩ : Fin 33792) j) = m ((c : Thread nD τ).loc main_arg0) (ix3 b p j) := by
  have e : V m c main_v1 = shapeCast S33792x1024 (concatenate S4x8448x1024 1
      [⟨S4x128x1024, m ((c : Thread nD τ).loc main_arg6)⟩,
        ⟨S4x8208x1024, m ((c : Thread nD τ).loc main_arg0)⟩,
        ⟨S4x112x1024, m ((c : Thread nD τ).loc main_arg7)⟩]
      concatenates_S4x128x1024_S4x8208x1024_S4x112x1024_S4x8448x1024_d1) shapeCasts_S4x8448x1024_S33792x1024 := by
    show StableHlo.after hostOps0 (fun b => m (c, b)) (Proc.devRef .tc main_v1) = _
    after_results_simp
    rfl
  rw [e]
  generalize m ((c : Thread nD τ).loc main_arg0) = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

/-- The padded heads' outputs: head pair `q`, lane `l` is head `2 q + l / 64`, coordinate `l % 64`. -/
theorem heads_apply (b : Fin 4) (p : Fin 8208) (q : Fin 8) (l : Fin 128) :
    V m c main_v7 (ix3 q (⟨b.val * 8448 + (128 + p.val), by omega⟩ : Fin 33792) l)
      = m ((c : Thread nD τ).loc main_arg1) (ix4 b (⟨q.val * 2 + l.val / 64, by omega⟩ : Fin 16) p (⟨l.val % 64, by omega⟩ : Fin 64)) := by
  have e : V m c main_v7 = shapeCast S8x33792x128 (concatenate S8x4x8448x128 2
      [⟨S8x4x128x128, m ((c : Thread nD τ).loc main_arg8)⟩,
        ⟨S8x4x8208x128, truncf (F := Ideal) .bf16 (shapeCast S8x4x8208x128 (transpose S8x4x8208x2x64 [1, 0, 3, 2, 4]
          (shapeCast S4x8x2x8208x64 (m ((c : Thread nD τ).loc main_arg1)) shapeCasts_S4x16x8208x64_S4x8x2x8208x64)
          transposes_S4x8x2x8208x64_S8x4x8208x2x64_1_0_3_2_4) shapeCasts_S8x4x8208x2x64_S8x4x8208x128) bitsLt_bf16_f32⟩,
        ⟨S8x4x112x128, m ((c : Thread nD τ).loc main_arg9)⟩]
      concatenates_S8x4x128x128_S8x4x8208x128_S8x4x112x128_S8x4x8448x128_d2) shapeCasts_S8x4x8448x128_S8x33792x128 := by
    show StableHlo.after hostOps0 (fun b => m (c, b)) (Proc.devRef .tc main_v7) = _
    after_results_simp
    rfl
  have e' : ∀ x : FVec Ideal S4x16x8208x64 .f32, truncf (F := Ideal) .bf16 (shapeCast S8x4x8208x128 (transpose S8x4x8208x2x64 [1, 0, 3, 2, 4]
          (shapeCast S4x8x2x8208x64 x shapeCasts_S4x16x8208x64_S4x8x2x8208x64)
          transposes_S4x8x2x8208x64_S8x4x8208x2x64_1_0_3_2_4) shapeCasts_S8x4x8208x2x64_S8x4x8208x128) bitsLt_bf16_f32 (ix4 q b p l)
        = x (ix4 b (⟨q.val * 2 + l.val / 64, by omega⟩ : Fin 16) p (⟨l.val % 64, by omega⟩ : Fin 64)) := fun x => by
    pointwise
  rw [e, ← e' (m ((c : Thread nD τ).loc main_arg1))]
  generalize truncf (F := Ideal) .bf16 _ _ = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

end Cert.KernelIdeal.Prep

end
-- ==== Proof.Row.lean ====
/- The layer's arithmetic on ONE row of 1024 extended reals: RMS normalization, the squared-ReLU feed-forward network, and
   the residual blocks built of them. Both programs are read as these functions of a row; nothing here mentions a program. -/
module

public import Idealize.ShloMosaic.Lib.Pointwise

@[expose] public section

noncomputable section

namespace Cert.Row

open Idealize.ShloMosaic
open scoped BigOperators

/-- The row length as the programs' f32 constant. -/
def cLen : EReal := Ideal.ofBits .f32 0x44800000#32
/-- The normalization's epsilon as the programs' f32 constant. -/
def cEps : EReal := Ideal.ofBits .f32 0x358637BD#32

/-- RMS normalization of a row `x` with gain `g`. -/
def rms (x g : Fin 1024 → EReal) (j : Fin 1024) : EReal :=
  x j * Ideal.rsqrt (Ideal.div (∑ k, x k * x k) cLen + cEps) * g j

/-- A row times a matrix of 1024 rows. -/
def lin {n : ℕ} (x : Fin 1024 → EReal) (w : Fin 1024 → Fin n → EReal) (j : Fin n) : EReal := ∑ k, x k * w k j

/-- The square of the positive part. -/
def sqrelu (a : EReal) : EReal := max a 0 * max a 0

/-- The squared-ReLU feed-forward network on a row. -/
def ff (x : Fin 1024 → EReal) (w1 : Fin 1024 → Fin 4096 → EReal) (w2 : Fin 4096 → Fin 1024 → EReal) (j : Fin 1024) : EReal :=
  ∑ f, sqrelu (lin x w1 f) * w2 f j

/-- The residual feed-forward block: the network between two normalizations, added to its input. -/
def mlp (h g2 g3 : Fin 1024 → EReal) (w1 : Fin 1024 → Fin 4096 → EReal) (w2 : Fin 4096 → Fin 1024 → EReal) (j : Fin 1024) : EReal :=
  h j + rms (ff (rms h g2) w1 w2) g3 j

/-- The residual mixer block: a mixer's output row normalized and added to the input. -/
def mix (h o g1 : Fin 1024 → EReal) (wo : Fin 1024 → Fin 1024 → EReal) (j : Fin 1024) : EReal :=
  h j + rms (lin o wo) g1 j

/-- The network's sum over 4096 hidden units, taken as four sums of 1024. -/
theorem ff_four (x : Fin 1024 → EReal) (w1 : Fin 1024 → Fin 4096 → EReal) (w2 : Fin 4096 → Fin 1024 → EReal) (j : Fin 1024) :
    ff x w1 w2 j
      = (((∑ t : Fin 1024, sqrelu (lin x w1 ⟨t.val, by omega⟩) * w2 ⟨t.val, by omega⟩ j)
        + ∑ t : Fin 1024, sqrelu (lin x w1 ⟨1024 + t.val, by omega⟩) * w2 ⟨1024 + t.val, by omega⟩ j)
        + ∑ t : Fin 1024, sqrelu (lin x w1 ⟨2048 + t.val, by omega⟩) * w2 ⟨2048 + t.val, by omega⟩ j)
        + ∑ t : Fin 1024, sqrelu (lin x w1 ⟨3072 + t.val, by omega⟩) * w2 ⟨3072 + t.val, by omega⟩ j := by
  unfold ff
  rw [Fin.sum_univ_tiles 4 1024 rfl]
  simp only [Fin.sum_univ_four]
  rfl

/-- A sum over 1024 positions as eight sums over 128, each a given function of its tile. -/
theorem sum_eight (f : Fin 1024 → EReal) (g : Fin 8 → Fin 128 → EReal)
    (h : ∀ (c : Fin 8) (t : Fin 128), f ⟨c.val * 128 + t.val, by omega⟩ = g c t) :
    ∑ k, f k = (∑ t, g 0 t) + ((∑ t, g 1 t) + ((∑ t, g 2 t) + ((∑ t, g 3 t) + ((∑ t, g 4 t) + ((∑ t, g 5 t) + ((∑ t, g 6 t)
      + ∑ t, g 7 t)))))) := by
  rw [Fin.sum_univ_tiles 8 128 rfl]
  simp only [h, Fin.sum_univ_eight, add_assoc]

end Cert.Row

end
-- ==== Proof.Block.lean ====
/- What one grid point of the kernel computes, read at a row and a column of its block: the attention mixer block and the
   feed-forward block of that row (`Cert.Row`). -/
module

public import proofs.«01_k».proof.Proof.Gen.KernelIdeal.Frame
public import proofs.«01_k».proof.Proof.Row
public import Idealize.ShloMosaic.Lib.Pointwise

@[expose] public section

noncomputable section

namespace Cert.KernelIdeal.Block

open Cert.KernelIdeal Cert.KernelIdeal.Gen Cert.Row Idealize.ShloMosaic
open scoped BigOperators

/-- The mixer block's row. -/
theorem pay6_apply (v19 v21 : FVec Ideal S512x1024 .f32) (v23 : FVec Ideal S1x1024 .f32) (v25 : FVec Ideal S512 .f32) (r : Fin 512) (j : Fin 1024) :
    k0_pay6 v19 v21 v23 v25 (ix2 r j)
      = v21 (ix2 r j) + v19 (ix2 r j) * Ideal.rsqrt (Ideal.div (v25 (ix1 r)) cLen + cEps) * v23 (ix2 0 j) := by
  pointwise [k0_pay6, cLen, cEps]

/-- The normalized input of the feed-forward network. -/
theorem pay7_apply (v19 v21 : FVec Ideal S512x1024 .f32) (v23 : FVec Ideal S1x1024 .f32) (v25 : FVec Ideal S512 .f32) (v37 : Vec Ideal S1x1024 .f32) (r : Fin 512) (j : Fin 1024) :
    k0_pay7 v19 v21 v23 v25 v37 (ix2 r j)
      = rms (fun k => k0_pay6 v19 v21 v23 v25 (ix2 r k)) (fun k => v37 (ix2 0 k)) j := by
  unfold k0_pay7 rms cLen cEps
  generalize k0_pay6 v19 v21 v23 v25 = y
  pointwise

/-- One chunk of hidden units of the network. -/
theorem pay8_apply (v19 v21 : FVec Ideal S512x1024 .f32) (v23 : FVec Ideal S1x1024 .f32) (v25 : FVec Ideal S512 .f32) (v37 : Vec Ideal S1x1024 .f32)
    (v53 v60 : Vec Ideal S1024x1024 .bf16) (r : Fin 512) (j : Fin 1024) :
    k0_pay8 v19 v21 v23 v25 v37 v53 v60 (ix2 r j)
      = ∑ t : Fin 1024, sqrelu (lin (fun k => k0_pay7 v19 v21 v23 v25 v37 (ix2 r k)) (fun k f => v53 (ix2 k f)) t) * v60 (ix2 t j) := by
  unfold k0_pay8 sqrelu lin
  generalize k0_pay7 v19 v21 v23 v25 v37 = y
  pointwise [dot_S512x1024_S1024x1024_S512x1024_1_0_0_1_n_n]

/-- The next chunk's hidden units before the activation. -/
theorem pay9_apply (v19 v21 : FVec Ideal S512x1024 .f32) (v23 : FVec Ideal S1x1024 .f32) (v25 : FVec Ideal S512 .f32) (v37 : Vec Ideal S1x1024 .f32)
    (v64 : Vec Ideal S1024x1024 .bf16) (r : Fin 512) (t : Fin 1024) :
    k0_pay9 v19 v21 v23 v25 v37 v64 (ix2 r t)
      = lin (fun k => k0_pay7 v19 v21 v23 v25 v37 (ix2 r k)) (fun k f => v64 (ix2 k f)) t := by
  unfold k0_pay9 lin
  generalize k0_pay7 v19 v21 v23 v25 v37 = y
  pointwise [dot_S512x1024_S1024x1024_S512x1024_1_0_0_1_n_n]

/-- The sum of all four chunks. -/
theorem pay10_apply (v51 : FVec Ideal S512x1024 .bf16) (v63 v66 : FVec Ideal S512x1024 .f32)
    (v71 v75 v82 v86 v93 : Vec Ideal S1024x1024 .bf16) (r : Fin 512) (j : Fin 1024) :
    k0_pay10 v51 v63 v66 (Scalar.ofBits .f32 0x00000000#32) v71 v75 v82 v86 v93 (ix2 r j)
      = ((v63 (ix2 r j) + ∑ t : Fin 1024, sqrelu (v66 (ix2 r t)) * v71 (ix2 t j))
        + ∑ t : Fin 1024, sqrelu (lin (fun k => v51 (ix2 r k)) (fun k f => v75 (ix2 k f)) t) * v82 (ix2 t j))
        + ∑ t : Fin 1024, sqrelu (lin (fun k => v51 (ix2 r k)) (fun k f => v86 (ix2 k f)) t) * v93 (ix2 t j) := by
  unfold k0_pay10 lin sqrelu
  pointwise [dot_S512x1024_S1024x1024_S512x1024_1_0_0_1_n_n]

/-- The kernel's stored value from the mixer block, the network's output and the last gain. -/
theorem pay1_apply (v36 v96 : FVec Ideal S512x1024 .f32) (v98 : FVec Ideal S1x1024 .f32) (v103 v104 : FVec Ideal S512x1 .f32) (r : Fin 512) (j : Fin 1024) :
    k0_pay1 v36 v96 v98 v103 v104 (ix2 r j)
      = v36 (ix2 r j) + v96 (ix2 r j) * Ideal.rsqrt (v103 (ix2 r 0) + v104 (ix2 r 0)) * v98 (ix2 0 j) := by
  pointwise [k0_pay1]

/-- The network output's mean square. -/
theorem pay12_apply (v51 : FVec Ideal S512x1024 .bf16) (v63 v66 : FVec Ideal S512x1024 .f32) (c : Ideal .f32)
    (v71 v75 v82 v86 v93 : Vec Ideal S1024x1024 .bf16) (r : Fin 512) :
    k0_pay12 v51 v63 v66 c v71 v75 v82 v86 v93 (ix2 r 0)
      = Ideal.div (∑ k : Fin 1024, k0_pay10 v51 v63 v66 c v71 v75 v82 v86 v93 (ix2 r k) * k0_pay10 v51 v63 v66 c v71 v75 v82 v86 v93 (ix2 r k)) cLen := by
  unfold k0_pay12 cLen
  generalize k0_pay10 v51 v63 v66 c v71 v75 v82 v86 v93 = y
  pointwise

/-- The epsilon column. -/
theorem pay13_apply (r : Fin 512) : (k0_pay13 (F := Ideal)) (ix2 r 0) = cEps := by
  pointwise [k0_pay13, cEps]

/-- The heads' output row times the output projection: head pair `c`, lane `l` is column `128 c + l`. -/
theorem pay2_apply (x1 : Vec Ideal S8x512x128 .bf16) (x3 : Vec Ideal S1024x1024 .bf16) (r : Fin 512) (j : Fin 1024) :
    k0_pay2 (View.ld x1 r0_0) (View.ld x1 r0_1) (View.ld x1 r0_2) (View.ld x1 r0_3) (View.ld x1 r0_4) (View.ld x1 r0_5)
        (View.ld x1 r0_6) (View.ld x1 r0_7) (View.ld x3 r0_8) (ix2 r j)
      = lin (fun k : Fin 1024 => x1 (ix3 (⟨k.val / 128, by omega⟩ : Fin 8) r (⟨k.val % 128, by omega⟩ : Fin 128))) (fun k f => x3 (ix2 k f)) j := by
  unfold lin
  rw [sum_eight _ (fun c t => x1 (ix3 c r t) * x3 (ix2 (⟨c.val * 128 + t.val, by omega⟩ : Fin 1024) j)) fun c t => by
    have e1 : (⟨(c.val * 128 + t.val) / 128, by omega⟩ : Fin 8) = c := Fin.ext (by show (c.val * 128 + t.val) / 128 = c.val; omega)
    have e2 : (⟨(c.val * 128 + t.val) % 128, by omega⟩ : Fin 128) = t := Fin.ext (by show (c.val * 128 + t.val) % 128 = t.val; omega)
    show x1 (ix3 ⟨(c.val * 128 + t.val) / 128, _⟩ r ⟨(c.val * 128 + t.val) % 128, _⟩) * _ = _
    rw [e1, e2]]
  unfold k0_pay2
  pointwise [dot_S512x1024_S1024x1024_S512x1024_1_0_0_1_n_n, sumSplitAll]
  rfl

/-- The block's output row: the mixer block of the input row and the heads' outputs, then the feed-forward block. -/
theorem out_apply (x0 : Vec Ideal S512x1024 .f32) (x1 : Vec Ideal S8x512x128 .bf16) (x2 : Vec Ideal S4x1024 .f32) (x3 : Vec Ideal S1024x1024 .bf16)
    (x4 : Vec Ideal S1024x4096 .bf16) (x5 : Vec Ideal S4096x1024 .bf16) (r : Fin 512) (j : Fin 1024) :
    out0_6 x0 x1 x2 x3 x4 x5 (ix2 r j)
      = mlp (mix (fun k => x0 (ix2 r k))
            (fun k : Fin 1024 => x1 (ix3 (⟨k.val / 128, by omega⟩ : Fin 8) r (⟨k.val % 128, by omega⟩ : Fin 128)))
            (fun k => x2 (ix2 1 k)) (fun k f => x3 (ix2 k f)))
          (fun k => x2 (ix2 2 k)) (fun k => x2 (ix2 3 k)) (fun k f => x4 (ix2 k f)) (fun f k => x5 (ix2 f k)) j := by
  have g1 : ∀ k : Fin 1024, View.ld x2 r0_10 (ix2 0 k) = x2 (ix2 1 k) := fun k => by pointwise
  have g2 : ∀ k : Fin 1024, View.ld x2 r0_11 (ix2 0 k) = x2 (ix2 2 k) := fun k => by pointwise
  have g3 : ∀ k : Fin 1024, View.ld x2 r0_20 (ix2 0 k) = x2 (ix2 3 k) := fun k => by pointwise
  have w0 : ∀ k f : Fin 1024, View.ld x4 r0_12 (ix2 k f) = x4 (ix2 k (⟨f.val, by omega⟩ : Fin 4096)) := fun k f => by pointwise
  have w1 : ∀ k f : Fin 1024, View.ld x4 r0_14 (ix2 k f) = x4 (ix2 k (⟨1024 + f.val, by omega⟩ : Fin 4096)) := fun k f => by pointwise
  have w2 : ∀ k f : Fin 1024, View.ld x4 r0_16 (ix2 k f) = x4 (ix2 k (⟨2048 + f.val, by omega⟩ : Fin 4096)) := fun k f => by pointwise
  have w3 : ∀ k f : Fin 1024, View.ld x4 r0_18 (ix2 k f) = x4 (ix2 k (⟨3072 + f.val, by omega⟩ : Fin 4096)) := fun k f => by pointwise
  have u0 : ∀ f k : Fin 1024, View.ld x5 r0_13 (ix2 f k) = x5 (ix2 (⟨f.val, by omega⟩ : Fin 4096) k) := fun k f => by pointwise
  have u1 : ∀ f k : Fin 1024, View.ld x5 r0_15 (ix2 f k) = x5 (ix2 (⟨1024 + f.val, by omega⟩ : Fin 4096) k) := fun k f => by pointwise
  have u2 : ∀ f k : Fin 1024, View.ld x5 r0_17 (ix2 f k) = x5 (ix2 (⟨2048 + f.val, by omega⟩ : Fin 4096) k) := fun k f => by pointwise
  have u3 : ∀ f k : Fin 1024, View.ld x5 r0_19 (ix2 f k) = x5 (ix2 (⟨3072 + f.val, by omega⟩ : Fin 4096) k) := fun k f => by pointwise
  have h0 : ∀ k : Fin 1024, k0_pay15 x0 x1 x2 x3 x4 x5 (ix2 r k) = x0 (ix2 r k) := fun k => by
    unfold k0_pay15 k0_pay3; pointwise
  have h1 : ∀ k : Fin 1024, k0_pay16 x0 x1 x2 x3 x4 x5 (ix2 0 k) = x2 (ix2 1 k) := fun k => by
    unfold k0_pay16 k0_pay4; pointwise
  have h2 : k0_pay17 x0 x1 x2 x3 x4 x5 (ix1 r)
      = ∑ k : Fin 1024, k0_pay14 x0 x1 x2 x3 x4 x5 (ix2 r k) * k0_pay14 x0 x1 x2 x3 x4 x5 (ix2 r k) := by
    unfold k0_pay17 k0_pay5 k0_pay14
    generalize k0_pay2 (F := Ideal) _ _ _ _ _ _ _ _ _ = y
    pointwise
  have hg3 : ∀ k : Fin 1024, k0_pay11 (View.ld x2 r0_20) (ix2 0 k) = x2 (ix2 3 k) := fun k => by
    unfold k0_pay11; pointwise
  -- the mixer block
  have hm : ∀ k : Fin 1024, k0_pay6 (k0_pay14 x0 x1 x2 x3 x4 x5) (k0_pay15 x0 x1 x2 x3 x4 x5) (k0_pay16 x0 x1 x2 x3 x4 x5) (k0_pay17 x0 x1 x2 x3 x4 x5) (ix2 r k)
      = mix (fun k => x0 (ix2 r k))
            (fun k : Fin 1024 => x1 (ix3 (⟨k.val / 128, by omega⟩ : Fin 8) r (⟨k.val % 128, by omega⟩ : Fin 128)))
            (fun k => x2 (ix2 1 k)) (fun k f => x3 (ix2 k f)) k := fun k => by
    rw [pay6_apply, h0, h1, h2]
    simp only [k0_pay14, pay2_apply]
    rfl
  -- the network's normalized input, and its output
  have hn : ∀ k : Fin 1024, k0_pay7 (k0_pay14 x0 x1 x2 x3 x4 x5) (k0_pay15 x0 x1 x2 x3 x4 x5) (k0_pay16 x0 x1 x2 x3 x4 x5) (k0_pay17 x0 x1 x2 x3 x4 x5) (View.ld x2 r0_11) (ix2 r k)
      = rms (mix (fun k => x0 (ix2 r k))
            (fun k : Fin 1024 => x1 (ix3 (⟨k.val / 128, by omega⟩ : Fin 8) r (⟨k.val % 128, by omega⟩ : Fin 128)))
            (fun k => x2 (ix2 1 k)) (fun k f => x3 (ix2 k f))) (fun k => x2 (ix2 2 k)) k := fun k => by
    rw [pay7_apply]
    simp only [hm, g2]
  have hf : ∀ k : Fin 1024, k0_pay10 (k0_pay18 x0 x1 x2 x3 x4 x5) (k0_pay19 x0 x1 x2 x3 x4 x5) (k0_pay20 x0 x1 x2 x3 x4 x5) (Scalar.ofBits .f32 0x00000000#32)
        (View.ld x5 r0_15) (View.ld x4 r0_16) (View.ld x5 r0_17) (View.ld x4 r0_18) (View.ld x5 r0_19) (ix2 r k)
      = ff (rms (mix (fun k => x0 (ix2 r k))
            (fun k : Fin 1024 => x1 (ix3 (⟨k.val / 128, by omega⟩ : Fin 8) r (⟨k.val % 128, by omega⟩ : Fin 128)))
            (fun k => x2 (ix2 1 k)) (fun k f => x3 (ix2 k f))) (fun k => x2 (ix2 2 k)))
          (fun k f => x4 (ix2 k f)) (fun f k => x5 (ix2 f k)) k := fun k => by
    rw [pay10_apply, ff_four]
    simp only [k0_pay18, k0_pay19, k0_pay20, pay8_apply, pay9_apply, hn, w0, w1, w2, w3, u0, u1, u2, u3]
    rfl
  unfold out0_6
  rw [View.canon_unit_zero (by funext a; fin_cases a <;> rfl), pay1_apply, hm, hf, hg3, pay12_apply, pay13_apply]
  simp only [hf]
  rfl

end Cert.KernelIdeal.Block

end
-- ==== Proof.Ref.lean ====
/- The reference's result, read at a row and a column: the mixer block and the feed-forward block (`Cert.Row`) of the row's
   input and of its heads' outputs. -/
module

public import proofs.«01_k».proof.Proof.Gen.ReferenceIdeal.Read
public import proofs.«01_k».proof.Proof.Row
public import Idealize.ShloMosaic.Lib.Pointwise

@[expose] public section

noncomputable section

namespace Cert.ReferenceIdeal.Rows

open Cert.ReferenceIdeal Cert.ReferenceIdeal.Gen Cert.ReferenceIdeal.Read Cert.Row Idealize.ShloMosaic
open scoped BigOperators

variable (x0 : (⟨S4x8208x1024, .f32⟩ : BufTy).Contents (Elt Ideal)) (x1 : (⟨S4x16x8208x64, .f32⟩ : BufTy).Contents (Elt Ideal))
  (x2 : (⟨S4x4x1024, .f32⟩ : BufTy).Contents (Elt Ideal)) (x3 : (⟨S2x1024x1024, .f32⟩ : BufTy).Contents (Elt Ideal))
  (x4 : (⟨S4x1024x4096, .f32⟩ : BufTy).Contents (Elt Ideal)) (x5 : (⟨S4x4096x1024, .f32⟩ : BufTy).Contents (Elt Ideal))

/-- The layer's four gain rows. -/
theorem gains_apply (a : Fin 4) (k : Fin 1024) : val_main_v1 (F := Ideal) x2 (ix2 a k) = x2 (ix3 3 a k) := by
  unfold val_main_v1 val_main_v0
  pointwise

/-- The output projection. -/
theorem wo_apply (k f : Fin 1024) : val_main_v5 (F := Ideal) x3 (ix2 k f) = x3 (ix3 1 k f) := by
  unfold val_main_v5 val_main_v4
  pointwise

/-- The heads' outputs, concatenated along a row. -/
theorem heads_apply (b : Fin 4) (p : Fin 8208) (k : Fin 1024) :
    val_main_v3 (F := Ideal) x1 (ix3 b p k) = x1 (ix4 b (⟨k.val / 64, by omega⟩ : Fin 16) p (⟨k.val % 64, by omega⟩ : Fin 64)) := by
  unfold val_main_v3 val_main_v2
  pointwise

/-- The mixer block. -/
theorem mix_apply (b : Fin 4) (p : Fin 8208) (j : Fin 1024) :
    val_main_v22 (F := Ideal) x0 x1 x2 x3 (ix3 b p j)
      = mix (fun k => x0 (ix3 b p k)) (fun k : Fin 1024 => x1 (ix4 b (⟨k.val / 64, by omega⟩ : Fin 16) p (⟨k.val % 64, by omega⟩ : Fin 64)))
          (fun k => x2 (ix3 3 1 k)) (fun k f => x3 (ix3 1 k f)) j := by
  have hd : ∀ j, val_main_v6 (F := Ideal) x1 x3 (ix3 b p j) = lin (fun k : Fin 1024 => x1 (ix4 b (⟨k.val / 64, by omega⟩ : Fin 16) p (⟨k.val % 64, by omega⟩ : Fin 64)))
      (fun k f => x3 (ix3 1 k f)) j := fun j => by
    unfold val_main_v6 lin
    pointwise [dot_S4x8208x1024_S1024x1024_S4x8208x1024_2_0_01_1_n_n, heads_apply, wo_apply]
  unfold val_main_v22 val_main_v21 val_main_v20 val_main_v19 val_main_v18 val_main_v17 val_main_v16 val_main_v15 val_main_v14 val_main_v13 val_main_v12
    val_main_v11 val_main_v10 val_main_v9 val_main_v8 val_main_v7 mix rms cLen cEps val_main_cst val_main_cst_0 val_main_cst_1
  pointwise [hd, gains_apply]

/-- The feed-forward block's normalized input. -/
theorem norm_apply (b : Fin 4) (p : Fin 8208) (j : Fin 1024) :
    val_main_v37 (F := Ideal) x0 x1 x2 x3 (ix3 b p j)
      = rms (fun k => val_main_v22 (F := Ideal) x0 x1 x2 x3 (ix3 b p k)) (fun k => x2 (ix3 3 2 k)) j := by
  unfold val_main_v37 val_main_v36 val_main_v35 val_main_v34 val_main_v33 val_main_v32 val_main_v31 val_main_v30 val_main_v29 val_main_v28
    val_main_v27 val_main_v26 val_main_v25 val_main_v24 val_main_v23 rms cLen cEps val_main_cst_2 val_main_cst_3 val_main_cst_4
  generalize val_main_v22 (F := Ideal) x0 x1 x2 x3 = y
  pointwise [gains_apply]

/-- The feed-forward network's output. -/
theorem ff_apply (b : Fin 4) (p : Fin 8208) (j : Fin 1024) :
    val_main_v45 (F := Ideal) x0 x1 x2 x3 x4 x5 (ix3 b p j)
      = ff (fun k => val_main_v37 (F := Ideal) x0 x1 x2 x3 (ix3 b p k)) (fun k f => x4 (ix3 3 k f)) (fun f k => x5 (ix3 3 f k)) j := by
  unfold val_main_v45 val_main_v44 val_main_v43 val_main_call0_v0 val_main_call0_cst val_main_v42 val_main_v41 val_main_v40 val_main_v39 val_main_v38 ff sqrelu lin
  generalize val_main_v37 (F := Ideal) x0 x1 x2 x3 = y
  pointwise [dot_S4x8208x1024_S1024x4096_S4x8208x4096_2_0_01_1_n_n, dot_S4x8208x4096_S4096x1024_S4x8208x1024_2_0_01_1_n_n]

/-- The whole block at a batch element and a position. -/
theorem block_apply (b : Fin 4) (p : Fin 8208) (j : Fin 1024) :
    val_main_v61 (F := Ideal) x0 x1 x2 x3 x4 x5 (ix3 b p j)
      = mlp (mix (fun k => x0 (ix3 b p k)) (fun k : Fin 1024 => x1 (ix4 b (⟨k.val / 64, by omega⟩ : Fin 16) p (⟨k.val % 64, by omega⟩ : Fin 64)))
            (fun k => x2 (ix3 3 1 k)) (fun k f => x3 (ix3 1 k f)))
          (fun k => x2 (ix3 3 2 k)) (fun k => x2 (ix3 3 3 k)) (fun k f => x4 (ix3 3 k f)) (fun f k => x5 (ix3 3 f k)) j := by
  have h : val_main_v61 (F := Ideal) x0 x1 x2 x3 x4 x5 (ix3 b p j)
      = val_main_v22 (F := Ideal) x0 x1 x2 x3 (ix3 b p j)
        + rms (fun k => val_main_v45 (F := Ideal) x0 x1 x2 x3 x4 x5 (ix3 b p k)) (fun k => x2 (ix3 3 3 k)) j := by
    unfold val_main_v61 val_main_v60 val_main_v59 val_main_v58 val_main_v57 val_main_v56 val_main_v55 val_main_v54 val_main_v53 val_main_v52
      val_main_v51 val_main_v50 val_main_v49 val_main_v48 val_main_v47 val_main_v46 rms cLen cEps val_main_cst_5 val_main_cst_6 val_main_cst_7
    generalize val_main_v22 (F := Ideal) x0 x1 x2 x3 = y
    generalize val_main_v45 (F := Ideal) x0 x1 x2 x3 x4 x5 = z
    pointwise [gains_apply]
  rw [h]
  simp only [ff_apply, norm_apply, mix_apply]
  rfl

/-- The result: row `q` is batch element `q / 8192` at position `16 + q % 8192`. -/
theorem result_apply (q : Fin 32768) (j : Fin 1024) :
    val_main_v63 (F := Ideal) x0 x1 x2 x3 x4 x5 (ix2 q j)
      = val_main_v61 (F := Ideal) x0 x1 x2 x3 x4 x5 (ix3 (⟨q.val / 8192, by omega⟩ : Fin 4) (⟨16 + q.val % 8192, by omega⟩ : Fin 8208) j) := by
  unfold val_main_v63 val_main_v62
  generalize val_main_v61 (F := Ideal) x0 x1 x2 x3 x4 x5 = y
  pointwise

end Cert.ReferenceIdeal.Rows

end
-- ==== Proof.Array.lean ====
/- The kernel's result array as one function of its arguments: the blocks the grid's points read lie at the real rows of the
   padded arrays, the blocks they write tile the result, and each written element is the reference's. -/
module

public import proofs.«01_k».proof.Proof.Gen.KernelIdeal.Value
public import proofs.«01_k».proof.Proof.Prep
public import Idealize.ShloMosaic.Lib.Pipeline.ValueKit
public import proofs.«01_k».proof.Proof.Block
public import proofs.«01_k».proof.Proof.Ref

@[expose] public section

noncomputable section

namespace Cert.KernelIdeal.Array

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- Where point `t`'s blocks begin: the two element windows at row `512 (t % 16)` of the real rows of batch element `t / 16`,
    every other input at zero, the output at block `t`. -/
theorem index_facts : ∀ t : Fin grid0.N,
    (win0_0.index t 0 = t.val / 16 * 8448 + 144 + t.val % 16 * 512 ∧ win0_0.index t 1 = 0)
    ∧ (win0_1.index t 0 = 0 ∧ win0_1.index t 1 = t.val / 16 * 8448 + 144 + t.val % 16 * 512 ∧ win0_1.index t 2 = 0)
    ∧ (win0_6.index t 0 = t.val ∧ win0_6.index t 1 = 0) := by
  decide +kernel

/-- The windows of the gains and the weights begin at zero at every point. -/
theorem index_zero : ∀ (t : Fin grid0.N) (a : Fin 2),
    win0_2.index t a = 0 ∧ win0_3.index t a = 0 ∧ win0_4.index t a = 0 ∧ win0_5.index t a = 0 := by
  decide +kernel

/-- Point `t`'s batch element. -/
def bat (t : Fin grid0.N) : Fin 4 := ⟨t.val / 16, by have := t.isLt; have := N_0; omega⟩
/-- Point `t`'s row `r` as a position of the sequence with its meta tokens. -/
def pos (t : Fin grid0.N) (r : Fin 512) : Fin 8208 := ⟨16 + (t.val % 16 * 512 + r.val), by omega⟩

/-- Point `t`'s block of the hidden states. -/
theorem hidden_block (t : Fin grid0.N) (r : Fin 512) (k : Fin 1024) :
    iblk m c 0 t (ix2 r k) = m ((c : Thread nD τ).loc main_arg0) (ix3 (bat t) (pos t r) k) := by
  rw [← Prep.hidden_apply m c (bat t) (pos t r) k]
  show V m c main_v1 ((win0_0.rect t).emb (ix2 r k)) = _
  congr 1
  obtain ⟨⟨h0, h1⟩, -, -⟩ := index_facts t
  funext a
  apply Fin.ext
  rw [Pipeline.Window.rect_emb_val_off]
  fin_cases a
  · show win0_0.index t 0 + r.val = t.val / 16 * 8448 + (128 + (16 + (t.val % 16 * 512 + r.val)))
    rw [h0]; omega
  · show win0_0.index t 1 + k.val = k.val
    rw [h1]; omega

/-- An array read through point `t`'s block of the heads' outputs, at an index. -/
theorem heads_read (x : Buf (Elt Ideal) ((c : Thread nD τ).loc main_v7)) (t : Fin grid0.N) (y : S8x512x128.Idx) :
    ((cfg0.win 1).blk t).view.read (Elt Ideal) x y = x ((win0_1.rect t).emb y) := rfl

/-- Point `t`'s block of the heads' outputs. -/
theorem heads_block (t : Fin grid0.N) (q : Fin 8) (r : Fin 512) (l : Fin 128) :
    iblk m c 1 t (ix3 q r l)
      = m ((c : Thread nD τ).loc main_arg1) (ix4 (bat t) (⟨q.val * 2 + l.val / 64, by omega⟩ : Fin 16) (pos t r) (⟨l.val % 64, by omega⟩ : Fin 64)) := by
  have e : (win0_1.rect t).emb (ix3 q r l) = ix3 q (⟨(bat t).val * 8448 + (128 + (pos t r).val), by have := (bat t).isLt; have := (pos t r).isLt; omega⟩ : Fin 33792) l := by
    obtain ⟨-, ⟨h0, h1, h2⟩, -⟩ := index_facts t
    funext a
    apply Fin.ext
    rw [Pipeline.Window.rect_emb_val_off]
    fin_cases a
    · show win0_1.index t 0 + q.val = q.val
      rw [h0, Nat.zero_add]
    · show win0_1.index t 1 + r.val = (bat t).val * 8448 + (128 + (pos t r).val)
      rw [h1]; unfold bat pos; dsimp only; omega
    · show win0_1.index t 2 + l.val = l.val
      rw [h2, Nat.zero_add]
  exact (heads_read c (V m c main_v7) t _).trans ((congrArg (V m c main_v7) e).trans (Prep.heads_apply m c (bat t) (pos t r) q l))

/-- Every point's block of the gains is the whole array. -/
theorem gains_block (t : Fin grid0.N) (a : Fin 4) (k : Fin 1024) :
    iblk m c 2 t (ix2 a k) = m ((c : Thread nD τ).loc main_arg2) (ix3 3 a k) := by
  rw [← Prep.gains_apply m c a k]
  show V m c main_v9 ((win0_2.rect t).emb (ix2 a k)) = _
  congr 1
  funext b
  apply Fin.ext
  rw [Pipeline.Window.rect_emb_val_of_index_zero _ _ _ (index_zero t b).1]

/-- Every point's block of the output projection is the whole array. -/
theorem wo_block (t : Fin grid0.N) (k f : Fin 1024) :
    iblk m c 3 t (ix2 k f) = m ((c : Thread nD τ).loc main_arg3) (ix3 1 k f) := by
  rw [← Prep.wo_apply m c k f]
  show V m c main_v18 ((win0_3.rect t).emb (ix2 k f)) = _
  congr 1
  funext b
  apply Fin.ext
  rw [Pipeline.Window.rect_emb_val_of_index_zero _ _ _ (index_zero t b).2.1]

/-- Every point's block of the first feed-forward weight is the whole array. -/
theorem w1_block (t : Fin grid0.N) (k : Fin 1024) (f : Fin 4096) :
    iblk m c 4 t (ix2 k f) = m ((c : Thread nD τ).loc main_arg4) (ix3 3 k f) := by
  rw [← Prep.w1_apply m c k f]
  show V m c main_v12 ((win0_4.rect t).emb (ix2 k f)) = _
  congr 1
  funext b
  apply Fin.ext
  rw [Pipeline.Window.rect_emb_val_of_index_zero _ _ _ (index_zero t b).2.2.1]

/-- Every point's block of the second feed-forward weight is the whole array. -/
theorem w2_block (t : Fin grid0.N) (f : Fin 4096) (k : Fin 1024) :
    iblk m c 5 t (ix2 f k) = m ((c : Thread nD τ).loc main_arg5) (ix3 3 f k) := by
  rw [← Prep.w2_apply m c f k]
  show V m c main_v15 ((win0_5.rect t).emb (ix2 f k)) = _
  congr 1
  funext b
  apply Fin.ext
  rw [Pipeline.Window.rect_emb_val_of_index_zero _ _ _ (index_zero t b).2.2.2]

/-- The reference's result of the kernel's arguments. -/
def val : Buf (Elt Ideal) ((c : Thread nD τ).loc main_v19) :=
  Cert.ReferenceIdeal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The body's output at point `t`, row `r`, is the reference's block function at that point's batch element and position. -/
theorem out_block (t : Fin grid0.N) (r : Fin 512) (j : Fin 1024) :
    out0_6 (iblk m c 0 t) (iblk m c 1 t) (iblk m c 2 t) (iblk m c 3 t) (iblk m c 4 t) (iblk m c 5 t) (ix2 r j)
      = val m c (ix2 (⟨t.val * 512 + r.val, by have := t.isLt; have := N_0; omega⟩ : Fin 32768) j) := by
  have hb : (⟨(t.val * 512 + r.val) / 8192, by have := t.isLt; have := N_0; omega⟩ : Fin 4) = bat t := Fin.ext (by show _ / 8192 = t.val / 16; omega)
  have hp : (⟨16 + (t.val * 512 + r.val) % 8192, by omega⟩ : Fin 8208) = pos t r := Fin.ext (by show 16 + _ % 8192 = 16 + (t.val % 16 * 512 + r.val); omega)
  unfold val
  rw [Block.out_apply, Cert.ReferenceIdeal.Rows.result_apply, Cert.ReferenceIdeal.Rows.block_apply]
  simp only [hidden_block, heads_block, gains_block, wo_block, w1_block, w2_block, hb, hp]
  have e : ∀ k : Fin 1024, (ix4 (bat t) (⟨k.val / 128 * 2 + k.val % 128 / 64, by omega⟩ : Fin 16) (pos t r) (⟨k.val % 128 % 64, by omega⟩ : Fin 64))
      = ix4 (bat t) (⟨k.val / 64, by omega⟩ : Fin 16) (pos t r) (⟨k.val % 64, by omega⟩ : Fin 64) := fun k => by
    congr 1 <;> exact Fin.ext (by show _ = _; simp only; omega)
  simp only [e]

/-- WHAT POINT `t` WRITES BACK is its block of the reference's result. -/
theorem flushed_eq (t : Fin cfg0.N) :
    (dats m 0 c).flushed 6 t = ((cfg0.win 6).blk t).view.read (Elt Ideal) (val m c) := by
  rw [Value.flushed6]
  obtain ⟨-, -, h0, h1⟩ := index_facts t
  funext y
  obtain ⟨r, j, rfl⟩ : ∃ (r : Fin 512) (j : Fin 1024), y = ix2 r j := ⟨y 0, y 1, by funext a; fin_cases a <;> rfl⟩
  refine (out_block m c t r j).trans ?_
  show val m c _ = val m c ((win0_6.rect t).emb (ix2 r j))
  congr 1
  funext a
  apply Fin.ext
  rw [Pipeline.Window.rect_emb_val_off]
  fin_cases a
  · show t.val * 512 + r.val = win0_6.index t 0 * 512 + r.val
    rw [h0]
  · show j.val = win0_6.index t 1 * 1024 + j.val
    rw [h1]; omega

/-- The written blocks tile the result. -/
theorem cover (i : S32768x1024.Idx) : ∃ t : Fin cfg0.N, (cfg0.win 6).flush t = true ∧ i ∈ ((cfg0.win 6).blk t).view.set := by
  have hi : (i 0).val < 32768 := (i 0).isLt
  have hj : (i 1).val < 1024 := (i 1).isLt
  let t : Fin cfg0.N := ⟨(i 0).val / 512, by have : cfg0.N = 64 := N_0; omega⟩
  refine ⟨t, flush0_6 t, ?_⟩
  obtain ⟨-, -, h0, h1⟩ := index_facts t
  show i ∈ ((View.whole main_v19).slice ((cfg0.win 6).rect t)).set
  erw [View.set_slice_whole]
  refine (Pipeline.Window.mem_rect_iff (cfg0.win 6) t i (by rfl)).mpr fun a => ?_
  fin_cases a
  · show win0_6.index t 0 * 512 ≤ (i 0).val ∧ (i 0).val < win0_6.index t 0 * 512 + 512
    rw [h0]; show (i 0).val / 512 * 512 ≤ _ ∧ _ < (i 0).val / 512 * 512 + 512
    omega
  · show win0_6.index t 1 * 1024 ≤ (i 1).val ∧ (i 1).val < win0_6.index t 1 * 1024 + 1024
    rw [h1]; omega

/-- THE RESULT ARRAY after the run is the reference's result. -/
theorem final : (dats m 0 c).arrAt 6 cfg0.N = val m c :=
  (dats m 0 c).arrAt_eq_of_cover 6 (val m c) (fun t _ => flushed_eq m c t) cover

end Cert.KernelIdeal.Array

end
-- ==== Proof.Claims.lean ====
/- The claims about the real-rows call: its frames, its idealization's ledger, and its equality with the reference over the
   extended reals. -/
module

public import proofs.«01_k».proof.Defs
public import proofs.«01_k».proof.Proof.Array
public import proofs.«01_k».proof.Proof.Gen.Kernel.Frame
public import proofs.«01_k».proof.Proof.Gen.ReferenceIdeal.Run

@[expose] public section

noncomputable section

namespace Cert.Proof.RealRows

open Idealize.ShloMosaic Idealize.SL.Sem

/-- The kernel terminates, leaves its arguments, and ends with every semaphore at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference, which has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization replaced nothing, so there is nothing to preserve. -/
theorem preserves : Cert.preserves_Kernel_KernelIdeal := trivial

/-- On arguments that agree, the kernel's result and the reference's are one array of extended reals. -/
theorem algebraic : Cert.algebraic_KernelIdeal_ReferenceIdeal := by
  intro m ρ m' ρ' _ hagree
  refine ⟨fun c => Cert.KernelIdeal.Array.val m c, ?_, ?_⟩
  · refine (θ_run Cert.KernelIdeal.defs _ _).mono (fun r h c => ?_) (Cert.KernelIdeal.Value.run_blocks (F := Ideal) m ρ)
    exact ⟨(h c).1.trans (Cert.KernelIdeal.Array.final m c), (h c).2⟩
  · refine (θ_run Cert.ReferenceIdeal.defs _ _).mono (fun r h c => ?_) (Cert.ReferenceIdeal.Value.run (F := Ideal) m' ρ')
    refine ⟨(h c).1.trans ((Cert.ReferenceIdeal.Read.val_main_v63_eq (F := Ideal) m' c).trans ?_), (h c).2⟩
    obtain ⟨h0, h1, h2, h3, h4, h5, _⟩ := hagree c
    rw [h0, h1, h2, h3, h4, h5]
    rfl

end Cert.Proof.RealRows

end
-- ==== Proof.Conv.Prep.lean ====
/- The arrays the short-convolution call's region finds, read at an index: the rows of the sequence with its meta tokens between
   their padding rows, which are zeros, and the layer's gains and weights. -/
module

public import proofs.«01_k».proof.Proof.Gen.ConvIdeal.Frame
public import Idealize.ShloMosaic.Lib.StableHlo.Run
public import Idealize.ShloMosaic.Lib.Pointwise

@[expose] public section

noncomputable section

namespace Cert.ConvIdeal.Prep

open Cert.ConvIdeal Cert.ConvIdeal.Gen Idealize.ShloMosaic Idealize.ShloMosaic.TcCoe
open scoped BigOperators

variable (m : (ℓ : Loc nD τ sig) → Buf (Elt Ideal) ℓ) (c : Dev nD)

/-- The layer's gains. -/
theorem gains_apply (k : Fin 4) (f : Fin 1024) :
    V m c main_v7 (ix2 k f) = m ((c : Thread nD τ).loc main_arg2) (ix3 0 k f) := by
  have e : V m c main_v7 = shapeCast S4x1024 (extractStridedSlice S1x4x1024 ![0, 0, 0] (m ((c : Thread nD τ).loc main_arg2)) slices_S4x4x1024_S1x4x1024_0_0_0) shapeCasts_S1x4x1024_S4x1024 := by
    show StableHlo.after hostOps0 (fun b => m (c, b)) (Proc.devRef .tc main_v7) = _
    after_results_simp
    rfl
  rw [e]
  pointwise

/-- The mixer's input projection. -/
theorem wi_apply (k : Fin 1024) (f : Fin 3072) :
    V m c main_v16 (ix2 k f) = m ((c : Thread nD τ).loc main_arg3) (ix3 0 k f) := by
  have e : V m c main_v16 = truncf (F := Ideal) .bf16 (shapeCast S1024x3072 (extractStridedSlice S1x1024x3072 ![0, 0, 0] (m ((c : Thread nD τ).loc main_arg3)) slices_S2x1024x3072_S1x1024x3072_0_0_0) shapeCasts_S1x1024x3072_S1024x3072) bitsLt_bf16_f32 := by
    show StableHlo.after hostOps0 (fun b => m (c, b)) (Proc.devRef .tc main_v16) = _
    after_results_simp
    rfl
  rw [e]
  pointwise

/-- The convolution's weights. -/
theorem cw_apply (k : Fin 3) (f : Fin 1024) :
    V m c main_v18 (ix2 k f) = m ((c : Thread nD τ).loc main_arg4) (ix3 0 k f) := by
  have e : V m c main_v18 = shapeCast S3x1024 (extractStridedSlice S1x3x1024 ![0, 0, 0] (m ((c : Thread nD τ).loc main_arg4)) slices_S2x3x1024_S1x3x1024_0_0_0) shapeCasts_S1x3x1024_S3x1024 := by
    show StableHlo.after hostOps0 (fun b => m (c, b)) (Proc.devRef .tc main_v18) = _
    after_results_simp
    rfl
  rw [e]
  pointwise

/-- The mixer's output projection. -/
theorem wo_apply (k : Fin 1024) (f : Fin 1024) :
    V m c main_v21 (ix2 k f) = m ((c : Thread nD τ).loc main_arg5) (ix3 0 k f) := by
  have e : V m c main_v21 = truncf (F := Ideal) .bf16 (shapeCast S1024x1024 (extractStridedSlice S1x1024x1024 ![0, 0, 0] (m ((c : Thread nD τ).loc main_arg5)) slices_S2x1024x1024_S1x1024x1024_0_0_0) shapeCasts_S1x1024x1024_S1024x1024) bitsLt_bf16_f32 := by
    show StableHlo.after hostOps0 (fun b => m (c, b)) (Proc.devRef .tc main_v21) = _
    after_results_simp
    rfl
  rw [e]
  pointwise

/-- The feed-forward network's first weight. -/
theorem w1_apply (k : Fin 1024) (f : Fin 4096) :
    V m c main_v10 (ix2 k f) = m ((c : Thread nD τ).loc main_arg6) (ix3 0 k f) := by
  have e : V m c main_v10 = truncf (F := Ideal) .bf16 (shapeCast S1024x4096 (extractStridedSlice S1x1024x4096 ![0, 0, 0] (m ((c : Thread nD τ).loc main_arg6)) slices_S4x1024x4096_S1x1024x4096_0_0_0) shapeCasts_S1x1024x4096_S1024x4096) bitsLt_bf16_f32 := by
    show StableHlo.after hostOps0 (fun b => m (c, b)) (Proc.devRef .tc main_v10) = _
    after_results_simp
    rfl
  rw [e]
  pointwise

/-- The feed-forward network's second weight. -/
theorem w2_apply (k : Fin 4096) (f : Fin 1024) :
    V m c main_v13 (ix2 k f) = m ((c : Thread nD τ).loc main_arg7) (ix3 0 k f) := by
  have e : V m c main_v13 = truncf (F := Ideal) .bf16 (shapeCast S4096x1024 (extractStridedSlice S1x4096x1024 ![0, 0, 0] (m ((c : Thread nD τ).loc main_arg7)) slices_S4x4096x1024_S1x4096x1024_0_0_0) shapeCasts_S1x4096x1024_S4096x1024) bitsLt_bf16_f32 := by
    show StableHlo.after hostOps0 (fun b => m (c, b)) (Proc.devRef .tc main_v13) = _
    after_results_simp
    rfl
  rw [e]
  pointwise

/-- The padded rows as one array of the tokens and the meta tokens. -/
theorem hidden_eq :
    V m c main_v5 = shapeCast S33792x1024 (concatenate S4x8448x1024 1
      [⟨S4x128x1024, broadcastInDim S4x128x1024 ![] bcast_S_S4x128x1024 (constant (F := Ideal) S_ .f32 0x00000000#32)⟩,
        ⟨S4x16x1024, broadcastInDim S4x16x1024 ![0, 1, 2] bcast_S1x16x1024_S4x16x1024_0_1_2 (broadcastInDim S1x16x1024 ![1, 2] bcast_S16x1024_S1x16x1024_1_2 (m ((c : Thread nD τ).loc main_arg1)))⟩,
        ⟨S4x8192x1024, m ((c : Thread nD τ).loc main_arg0)⟩,
        ⟨S4x112x1024, broadcastInDim S4x112x1024 ![] bcast_S_S4x112x1024 (constant (F := Ideal) S_ .f32 0x00000000#32)⟩]
      concatenates_S4x128x1024_S4x16x1024_S4x8192x1024_S4x112x1024_S4x8448x1024_d1) shapeCasts_S4x8448x1024_S33792x1024 := by
  show StableHlo.after hostOps0 (fun b => m (c, b)) (Proc.devRef .tc main_v5) = _
  after_results_simp
  rfl

/-- A batch element's meta tokens. -/
theorem hidden_meta (b : Fin 4) (p : Fin 16) (j : Fin 1024) :
    V m c main_v5 (ix2 (⟨b.val * 8448 + (128 + p.val), by omega⟩ : Fin 33792) j) = m ((c : Thread nD τ).loc main_arg1) (ix2 p j) := by
  rw [hidden_eq]
  generalize m ((c : Thread nD τ).loc main_arg0) = x
  generalize m ((c : Thread nD τ).loc main_arg1) = y
  pointwise
  have hp := p.isLt
  have hb := b.isLt
  rw [dif_neg (by omega), dif_pos (by omega)]
  congr 2
  exact Fin.ext (by show (b.val * 8448 + (128 + p.val)) % 8448 - 128 = p.val; omega)

/-- A batch element's tokens. -/
theorem hidden_token (b : Fin 4) (p : Fin 8192) (j : Fin 1024) :
    V m c main_v5 (ix2 (⟨b.val * 8448 + (144 + p.val), by omega⟩ : Fin 33792) j) = m ((c : Thread nD τ).loc main_arg0) (ix3 b p j) := by
  rw [hidden_eq]
  generalize m ((c : Thread nD τ).loc main_arg0) = x
  generalize m ((c : Thread nD τ).loc main_arg1) = y
  pointwise
  have hp := p.isLt
  have hb := b.isLt
  rw [dif_neg (by omega), dif_neg (by omega), dif_pos (by omega)]
  congr 2
  exact Fin.ext (by show (b.val * 8448 + (144 + p.val)) % 8448 - 128 - 16 = p.val; omega)

/-- The rows before a batch element's meta tokens are zeros. -/
theorem hidden_pad (b : Fin 4) (p : Fin 128) (j : Fin 1024) :
    V m c main_v5 (ix2 (⟨b.val * 8448 + p.val, by omega⟩ : Fin 33792) j) = (0 : EReal) := by
  rw [hidden_eq]
  generalize m ((c : Thread nD τ).loc main_arg0) = x
  generalize m ((c : Thread nD τ).loc main_arg1) = y
  pointwise
  have hp := p.isLt
  have hb := b.isLt
  rw [dif_pos (by omega)]

end Cert.ConvIdeal.Prep

end
-- ==== Proof.Conv.Row.lean ====
/- The short-convolution mixer on rows of 1024 extended reals: the gated input a row contributes, the three taps over a row and
   the two before it, and the residual blocks built of them. Nothing here mentions a program. -/
module

public import proofs.«01_k».proof.Proof.Row

@[expose] public section

noncomputable section

namespace Cert.Row

open Idealize.ShloMosaic
open scoped BigOperators

/-- Columns `o` to `o + 1024` of the mixer's input projection. -/
def third (wi : Fin 1024 → Fin 3072 → EReal) (o : ℕ) (ho : o ≤ 2048) (k f : Fin 1024) : EReal := wi k ⟨o + f.val, by omega⟩

/-- What a row puts into the convolution: two projections of the normalized row, multiplied. -/
def gated (h g0 : Fin 1024 → EReal) (wi : Fin 1024 → Fin 3072 → EReal) (j : Fin 1024) : EReal :=
  lin (rms h g0) (third wi 1024 (by omega)) j * lin (rms h g0) (third wi 2048 (by omega)) j

/-- The convolution at a row: the row two before, the row before and the row itself, each with its weights. -/
def taps (a b u : Fin 1024 → EReal) (cw : Fin 3 → Fin 1024 → EReal) (j : Fin 1024) : EReal :=
  a j * cw 0 j + b j * cw 1 j + u j * cw 2 j

/-- The mixer's row before the output projection: the gate times the convolution, `a` and `b` being what the two rows before
put into it. -/
def convRow (h a b g0 : Fin 1024 → EReal) (wi : Fin 1024 → Fin 3072 → EReal) (cw : Fin 3 → Fin 1024 → EReal) (j : Fin 1024) : EReal :=
  lin (rms h g0) (third wi 0 (by omega)) j * taps a b (gated h g0 wi) cw j

/-- A row of zeros normalizes to zeros. -/
theorem rms_zero (g : Fin 1024 → EReal) : rms (fun _ => 0) g = fun _ => 0 := by
  funext j; unfold rms; rw [zero_mul, zero_mul]

/-- A row of zeros times a matrix is zeros. -/
theorem lin_zero {n : ℕ} (w : Fin 1024 → Fin n → EReal) (j : Fin n) : lin (fun _ => 0) w j = 0 := by
  unfold lin; simp only [zero_mul, Finset.sum_const_zero]

/-- A row of zeros puts zeros into the convolution. -/
theorem gated_zero (g0 : Fin 1024 → EReal) (wi : Fin 1024 → Fin 3072 → EReal) : gated (fun _ => 0) g0 wi = fun _ => 0 := by
  funext j; unfold gated; rw [rms_zero, lin_zero, zero_mul]

/-- The mixer's gate is zero at a row of zeros, whatever stands before it. -/
theorem convRow_zero (a b g0 : Fin 1024 → EReal) (wi : Fin 1024 → Fin 3072 → EReal) (cw : Fin 3 → Fin 1024 → EReal) :
    convRow (fun _ => 0) a b g0 wi cw = fun _ => 0 := by
  funext j; unfold convRow; rw [rms_zero, lin_zero, zero_mul]

/-- The mixer block of zeros is zeros. -/
theorem mix_zero (g1 : Fin 1024 → EReal) (wo : Fin 1024 → Fin 1024 → EReal) : mix (fun _ => 0) (fun _ => 0) g1 wo = fun _ => 0 := by
  have e : lin (fun _ => 0) wo = fun _ => 0 := funext fun j => lin_zero wo j
  funext j; unfold mix; rw [e, rms_zero, zero_add]

/-- The feed-forward block of zeros is zeros. -/
theorem mlp_zero (g2 g3 : Fin 1024 → EReal) (w1 : Fin 1024 → Fin 4096 → EReal) (w2 : Fin 4096 → Fin 1024 → EReal) :
    mlp (fun _ => 0) g2 g3 w1 w2 = fun _ => 0 := by
  have e : ff (fun _ => 0) w1 w2 = fun _ => 0 := by
    funext j; unfold ff sqrelu; simp only [lin_zero, max_self, zero_mul, Finset.sum_const_zero]
  funext j; unfold mlp; rw [rms_zero, e, rms_zero, zero_add]

end Cert.Row

end
-- ==== Proof.Conv.Block.lean ====
/- What the convolution kernel's payloads compute, read at a row and a column of its block: the mixer block and the
   feed-forward block of that row (`Cert.Row`), the rows before it as the scratch buffer gives them. -/
module

public import proofs.«01_k».proof.Proof.Gen.ConvIdeal.Skeleton
public import proofs.«01_k».proof.Proof.Conv.Row
public import Idealize.ShloMosaic.Lib.Pointwise

@[expose] public section

noncomputable section

namespace Cert.ConvIdeal.Block

open Cert.ConvIdeal Cert.ConvIdeal.Gen Cert.Row Idealize.ShloMosaic
open scoped BigOperators

/-- The normalized input row. -/
theorem pay3_apply (v3 : Vec Ideal S512x1024 .f32) (v5 : Vec Ideal S1x1024 .f32) (r : Fin 512) (j : Fin 1024) :
    k0_pay3 v3 v5 (ix2 r j) = rms (fun k => v3 (ix2 r k)) (fun k => v5 (ix2 0 k)) j := by
  unfold k0_pay3 k0_pay2 rms cLen cEps
  pointwise

/-- What the row puts into the convolution. -/
theorem pay4_apply (v3 : Vec Ideal S512x1024 .f32) (v5 : Vec Ideal S1x1024 .f32) (v20 v23 : Vec Ideal S1024x1024 .bf16) (r : Fin 512) (j : Fin 1024) :
    k0_pay4 v3 v5 v20 v23 (ix2 r j)
      = lin (fun k => k0_pay3 v3 v5 (ix2 r k)) (fun k f => v20 (ix2 k f)) j
        * lin (fun k => k0_pay3 v3 v5 (ix2 r k)) (fun k f => v23 (ix2 k f)) j := by
  unfold k0_pay4 lin
  generalize k0_pay3 v3 v5 = y
  pointwise [dot_S512x1024_S1024x1024_S512x1024_1_0_0_1_n_n]

/-- The same stored. -/
theorem pay5_apply (v3 : Vec Ideal S512x1024 .f32) (v5 : Vec Ideal S1x1024 .f32) (v20 v23 : Vec Ideal S1024x1024 .bf16) (r : Fin 512) (j : Fin 1024) :
    k0_pay5 v3 v5 v20 v23 (ix2 r j) = k0_pay4 v3 v5 v20 v23 (ix2 r j) := by
  unfold k0_pay5
  generalize k0_pay4 v3 v5 v20 v23 = y
  pointwise

/-- The projected mixer row. -/
def mixed (v19 : FVec Ideal S512x1024 .bf16) (v26 v34 : FVec Ideal S512x1024 .f32) (v35 : Vec Ideal S512x1024 .f32) (v36 v41 : Vec Ideal S1x1024 .f32)
    (v50 v55 : Vec Ideal S1024x1024 .bf16) (r : Fin 512) : Fin 1024 → EReal :=
  lin (fun k => lin (fun k => v19 (ix2 r k)) (fun k f => v50 (ix2 k f)) k
    * (v34 (ix2 r k) + v35 (ix2 r k) * v36 (ix2 0 k) + v26 (ix2 r k) * v41 (ix2 0 k))) (fun k f => v55 (ix2 k f))

/-- The mixer block's row. -/
theorem pay8_apply (v4 : FVec Ideal S512x1024 .f32) (v19 : FVec Ideal S512x1024 .bf16) (v26 v34 : FVec Ideal S512x1024 .f32) (v35 : Vec Ideal S512x1024 .f32)
    (v36 v41 : Vec Ideal S1x1024 .f32) (v50 v55 : Vec Ideal S1024x1024 .bf16) (v58 : Vec Ideal S1x1024 .f32) (r : Fin 512) (j : Fin 1024) :
    k0_pay8 v4 v19 v26 v34 v35 v36 v41 v50 v55 v58 (ix2 r j)
      = v4 (ix2 r j) + rms (mixed v19 v26 v34 v35 v36 v41 v50 v55 r) (fun k => v58 (ix2 0 k)) j := by
  unfold k0_pay8 mixed rms lin cLen cEps
  pointwise [dot_S512x1024_S1024x1024_S512x1024_1_0_0_1_n_n]

/-- The first tap. -/
theorem pay6_apply (v30 : Vec Ideal S512x1024 .f32) (v31 : Vec Ideal S1x1024 .f32) (r : Fin 512) (j : Fin 1024) :
    k0_pay6 v30 v31 (ix2 r j) = v30 (ix2 r j) * v31 (ix2 0 j) := by
  pointwise [k0_pay6]

/-- The normalized input of the feed-forward network. -/
theorem pay9_apply (v72 : FVec Ideal S512x1024 .f32) (v73 : Vec Ideal S1x1024 .f32) (r : Fin 512) (j : Fin 1024) :
    k0_pay9 v72 v73 (ix2 r j) = rms (fun k => v72 (ix2 r k)) (fun k => v73 (ix2 0 k)) j := by
  unfold k0_pay9 rms cLen cEps
  pointwise

/-- The first two chunks of hidden units. -/
theorem pay10_apply (v72 : FVec Ideal S512x1024 .f32) (v73 : Vec Ideal S1x1024 .f32) (v89 v96 v100 v107 : Vec Ideal S1024x1024 .bf16) (r : Fin 512) (j : Fin 1024) :
    k0_pay10 v72 v73 v89 v96 v100 v107 (ix2 r j)
      = (∑ t : Fin 1024, sqrelu (lin (fun k => k0_pay9 v72 v73 (ix2 r k)) (fun k f => v89 (ix2 k f)) t) * v96 (ix2 t j))
        + ∑ t : Fin 1024, sqrelu (lin (fun k => k0_pay9 v72 v73 (ix2 r k)) (fun k f => v100 (ix2 k f)) t) * v107 (ix2 t j) := by
  unfold k0_pay10 lin sqrelu
  generalize k0_pay9 v72 v73 = y
  pointwise [dot_S512x1024_S1024x1024_S512x1024_1_0_0_1_n_n]

/-- The sum of all four chunks. -/
def summed (v87 : FVec Ideal S512x1024 .bf16) (v110 : FVec Ideal S512x1024 .f32) (v111 v118 v122 v129 : Vec Ideal S1024x1024 .bf16) (r : Fin 512) (j : Fin 1024) : EReal :=
  (v110 (ix2 r j) + ∑ t : Fin 1024, sqrelu (lin (fun k => v87 (ix2 r k)) (fun k f => v111 (ix2 k f)) t) * v118 (ix2 t j))
    + ∑ t : Fin 1024, sqrelu (lin (fun k => v87 (ix2 r k)) (fun k f => v122 (ix2 k f)) t) * v129 (ix2 t j)

/-- The kernel's stored value. -/
theorem pay11_apply (v72 : FVec Ideal S512x1024 .f32) (v87 : FVec Ideal S512x1024 .bf16) (v110 : FVec Ideal S512x1024 .f32)
    (v111 v118 v122 v129 : Vec Ideal S1024x1024 .bf16) (v133 : Vec Ideal S1x1024 .f32) (r : Fin 512) (j : Fin 1024) :
    k0_pay11 v72 v87 v110 v111 v118 v122 v129 v133 (ix2 r j)
      = v72 (ix2 r j) + rms (summed v87 v110 v111 v118 v122 v129 r) (fun k => v133 (ix2 0 k)) j := by
  unfold k0_pay11 summed rms lin sqrelu cLen cEps
  pointwise [dot_S512x1024_S1024x1024_S512x1024_1_0_0_1_n_n]

end Cert.ConvIdeal.Block

end
-- ==== Proof.Conv.Body.lean ====
/- What one grid point of the convolution kernel leaves: its output block's rows as the mixer and feed-forward blocks of the
   input rows, and the eight scratch rows it hands to the next point. -/
module

public import proofs.«01_k».proof.Proof.Gen.ConvIdeal.Frame
public import proofs.«01_k».proof.Proof.Conv.Block
public import Idealize.ShloMosaic.Lib.Pipeline.ValueKit
public import Idealize.ShloMosaic.Lib.VecWindow
public import Idealize.ShloMosaic.Lib.WritesUnit

@[expose] public section

noncomputable section

namespace Cert.ConvIdeal.Body

open Cert.ConvIdeal Cert.ConvIdeal.Gen Cert.Row Idealize.ShloMosaic
open scoped BigOperators

theorem hz2 : (![0, 0] : Fin 2 → ℕ) = fun _ => 0 := by funext a; fin_cases a <;> rfl

/-- What a block's rows put into the convolution, as stored. -/
def gates (x0 : Vec Ideal S512x1024 .f32) (x1 : Vec Ideal S4x1024 .f32) (x2 : Vec Ideal S1024x3072 .bf16) : FVec Ideal S512x1024 .f32 :=
  k0_pay5 x0 (View.ld x1 (Rect.unit ![0, 0] S1x1024.size inb_S4x1024_S1x1024_0_0))
    (View.ld x2 (Rect.unit ![0, 1024] S1024x1024.size inb_S1024x3072_S1024x1024_0_1024))
    (View.ld x2 (Rect.unit ![0, 2048] S1024x1024.size inb_S1024x3072_S1024x1024_0_2048))

/-- The residual mixer block as computed, `a` and `b` the scratch read two rows and one row back. -/
def mixer (x0 : Vec Ideal S512x1024 .f32) (x1 : Vec Ideal S4x1024 .f32) (x2 : Vec Ideal S1024x3072 .bf16) (x3 : Vec Ideal S3x1024 .f32)
    (x4 : Vec Ideal S1024x1024 .bf16) (a b : Vec Ideal S512x1024 .f32) : FVec Ideal S512x1024 .f32 :=
  k0_pay8 (k0_pay2 x0) (k0_pay3 x0 (View.ld x1 (Rect.unit ![0, 0] S1x1024.size inb_S4x1024_S1x1024_0_0)))
    (k0_pay4 x0 (View.ld x1 (Rect.unit ![0, 0] S1x1024.size inb_S4x1024_S1x1024_0_0))
      (View.ld x2 (Rect.unit ![0, 1024] S1024x1024.size inb_S1024x3072_S1024x1024_0_1024))
      (View.ld x2 (Rect.unit ![0, 2048] S1024x1024.size inb_S1024x3072_S1024x1024_0_2048)))
    (k0_pay6 a (View.ld x3 (Rect.unit ![0, 0] S1x1024.size inb_S3x1024_S1x1024_0_0))) b
    (View.ld x3 (Rect.unit ![1, 0] S1x1024.size inb_S3x1024_S1x1024_1_0))
    (View.ld x3 (Rect.unit ![2, 0] S1x1024.size inb_S3x1024_S1x1024_2_0))
    (View.ld x2 (Rect.unit ![0, 0] S1024x1024.size inb_S1024x3072_S1024x1024_0_0)) x4
    (View.ld x1 (Rect.unit ![1, 0] S1x1024.size inb_S4x1024_S1x1024_1_0))

/-- The stored block as computed. -/
def stored (x0 : Vec Ideal S512x1024 .f32) (x1 : Vec Ideal S4x1024 .f32) (x2 : Vec Ideal S1024x3072 .bf16) (x3 : Vec Ideal S3x1024 .f32)
    (x4 : Vec Ideal S1024x1024 .bf16) (x5 : Vec Ideal S1024x4096 .bf16) (x6 : Vec Ideal S4096x1024 .bf16) (a b : Vec Ideal S512x1024 .f32) :
    FVec Ideal S512x1024 .f32 :=
  k0_pay11 (mixer x0 x1 x2 x3 x4 a b)
    (k0_pay9 (mixer x0 x1 x2 x3 x4 a b) (View.ld x1 (Rect.unit ![2, 0] S1x1024.size inb_S4x1024_S1x1024_2_0)))
    (k0_pay10 (mixer x0 x1 x2 x3 x4 a b) (View.ld x1 (Rect.unit ![2, 0] S1x1024.size inb_S4x1024_S1x1024_2_0))
      (View.ld x5 (Rect.unit ![0, 0] S1024x1024.size inb_S1024x4096_S1024x1024_0_0))
      (View.ld x6 (Rect.unit ![0, 0] S1024x1024.size inb_S4096x1024_S1024x1024_0_0))
      (View.ld x5 (Rect.unit ![0, 1024] S1024x1024.size inb_S1024x4096_S1024x1024_0_1024))
      (View.ld x6 (Rect.unit ![1024, 0] S1024x1024.size inb_S4096x1024_S1024x1024_1024_0)))
    (View.ld x5 (Rect.unit ![0, 2048] S1024x1024.size inb_S1024x4096_S1024x1024_0_2048))
    (View.ld x6 (Rect.unit ![2048, 0] S1024x1024.size inb_S4096x1024_S1024x1024_2048_0))
    (View.ld x5 (Rect.unit ![0, 3072] S1024x1024.size inb_S1024x4096_S1024x1024_0_3072))
    (View.ld x6 (Rect.unit ![3072, 0] S1024x1024.size inb_S4096x1024_S1024x1024_3072_0))
    (View.ld x1 (Rect.unit ![3, 0] S1x1024.size inb_S4x1024_S1x1024_3_0))

section rows

variable (x0 : Vec Ideal S512x1024 .f32) (x1 : Vec Ideal S4x1024 .f32) (x2 : Vec Ideal S1024x3072 .bf16) (x3 : Vec Ideal S3x1024 .f32)
  (x4 : Vec Ideal S1024x1024 .bf16) (x5 : Vec Ideal S1024x4096 .bf16) (x6 : Vec Ideal S4096x1024 .bf16) (a b : Vec Ideal S512x1024 .f32)

/-- A row of the gains' array loaded on its own. -/
theorem ld_x1 (k : Fin 1024) :
    View.ld x1 (Rect.unit ![0, 0] S1x1024.size inb_S4x1024_S1x1024_0_0) (ix2 0 k) = x1 (ix2 0 k)
    ∧ View.ld x1 (Rect.unit ![1, 0] S1x1024.size inb_S4x1024_S1x1024_1_0) (ix2 0 k) = x1 (ix2 1 k)
    ∧ View.ld x1 (Rect.unit ![2, 0] S1x1024.size inb_S4x1024_S1x1024_2_0) (ix2 0 k) = x1 (ix2 2 k)
    ∧ View.ld x1 (Rect.unit ![3, 0] S1x1024.size inb_S4x1024_S1x1024_3_0) (ix2 0 k) = x1 (ix2 3 k) := by
  refine ⟨?_, ?_, ?_, ?_⟩ <;> pointwise

/-- A row of the convolution's weights loaded on its own. -/
theorem ld_x3 (k : Fin 1024) :
    View.ld x3 (Rect.unit ![0, 0] S1x1024.size inb_S3x1024_S1x1024_0_0) (ix2 0 k) = x3 (ix2 0 k)
    ∧ View.ld x3 (Rect.unit ![1, 0] S1x1024.size inb_S3x1024_S1x1024_1_0) (ix2 0 k) = x3 (ix2 1 k)
    ∧ View.ld x3 (Rect.unit ![2, 0] S1x1024.size inb_S3x1024_S1x1024_2_0) (ix2 0 k) = x3 (ix2 2 k) := by
  refine ⟨?_, ?_, ?_⟩ <;> pointwise

/-- A third of the input projection loaded on its own. -/
theorem ld_x2 (k f : Fin 1024) :
    View.ld x2 (Rect.unit ![0, 0] S1024x1024.size inb_S1024x3072_S1024x1024_0_0) (ix2 k f) = third (fun k f => x2 (ix2 k f)) 0 (by omega) k f
    ∧ View.ld x2 (Rect.unit ![0, 1024] S1024x1024.size inb_S1024x3072_S1024x1024_0_1024) (ix2 k f) = third (fun k f => x2 (ix2 k f)) 1024 (by omega) k f
    ∧ View.ld x2 (Rect.unit ![0, 2048] S1024x1024.size inb_S1024x3072_S1024x1024_0_2048) (ix2 k f) = third (fun k f => x2 (ix2 k f)) 2048 (by omega) k f := by
  unfold third
  refine ⟨?_, ?_, ?_⟩
  · pointwise
  · pointwise
  · pointwise

/-- A block of the network's first matrix loaded on its own. -/
theorem ld_x5 (k f : Fin 1024) :
    View.ld x5 (Rect.unit ![0, 0] S1024x1024.size inb_S1024x4096_S1024x1024_0_0) (ix2 k f) = x5 (ix2 k (⟨f.val, by omega⟩ : Fin 4096))
    ∧ View.ld x5 (Rect.unit ![0, 1024] S1024x1024.size inb_S1024x4096_S1024x1024_0_1024) (ix2 k f) = x5 (ix2 k (⟨1024 + f.val, by omega⟩ : Fin 4096))
    ∧ View.ld x5 (Rect.unit ![0, 2048] S1024x1024.size inb_S1024x4096_S1024x1024_0_2048) (ix2 k f) = x5 (ix2 k (⟨2048 + f.val, by omega⟩ : Fin 4096))
    ∧ View.ld x5 (Rect.unit ![0, 3072] S1024x1024.size inb_S1024x4096_S1024x1024_0_3072) (ix2 k f) = x5 (ix2 k (⟨3072 + f.val, by omega⟩ : Fin 4096)) := by
  refine ⟨?_, ?_, ?_, ?_⟩ <;> pointwise

/-- A block of the network's second matrix loaded on its own. -/
theorem ld_x6 (f k : Fin 1024) :
    View.ld x6 (Rect.unit ![0, 0] S1024x1024.size inb_S4096x1024_S1024x1024_0_0) (ix2 f k) = x6 (ix2 (⟨f.val, by omega⟩ : Fin 4096) k)
    ∧ View.ld x6 (Rect.unit ![1024, 0] S1024x1024.size inb_S4096x1024_S1024x1024_1024_0) (ix2 f k) = x6 (ix2 (⟨1024 + f.val, by omega⟩ : Fin 4096) k)
    ∧ View.ld x6 (Rect.unit ![2048, 0] S1024x1024.size inb_S4096x1024_S1024x1024_2048_0) (ix2 f k) = x6 (ix2 (⟨2048 + f.val, by omega⟩ : Fin 4096) k)
    ∧ View.ld x6 (Rect.unit ![3072, 0] S1024x1024.size inb_S4096x1024_S1024x1024_3072_0) (ix2 f k) = x6 (ix2 (⟨3072 + f.val, by omega⟩ : Fin 4096) k) := by
  refine ⟨?_, ?_, ?_, ?_⟩ <;> pointwise

/-- A row of what the block puts into the convolution. -/
theorem gates_apply (r : Fin 512) (j : Fin 1024) :
    gates x0 x1 x2 (ix2 r j) = gated (fun k => x0 (ix2 r k)) (fun k => x1 (ix2 0 k)) (fun k f => x2 (ix2 k f)) j := by
  unfold gates gated
  rw [Block.pay5_apply, Block.pay4_apply]
  simp only [Block.pay3_apply, (ld_x1 x1 _).1, (ld_x2 x2 _ _).2.1, (ld_x2 x2 _ _).2.2]

/-- A row of the mixer block. -/
theorem mixer_apply (r : Fin 512) (j : Fin 1024) :
    mixer x0 x1 x2 x3 x4 a b (ix2 r j)
      = mix (fun k => x0 (ix2 r k)) (convRow (fun k => x0 (ix2 r k)) (fun k => a (ix2 r k)) (fun k => b (ix2 r k)) (fun k => x1 (ix2 0 k))
          (fun k f => x2 (ix2 k f)) (fun c k => x3 (ix2 c k))) (fun k => x1 (ix2 1 k)) (fun k f => x4 (ix2 k f)) j := by
  have h : k0_pay2 x0 (ix2 r j) = x0 (ix2 r j) := by unfold k0_pay2; pointwise
  unfold mixer mix convRow
  rw [Block.pay8_apply, h]
  unfold Block.mixed taps gated
  simp only [Block.pay6_apply, Block.pay4_apply, Block.pay3_apply, (ld_x1 x1 _).1, (ld_x1 x1 _).2.1, (ld_x2 x2 _ _).1, (ld_x2 x2 _ _).2.1, (ld_x2 x2 _ _).2.2,
    (ld_x3 x3 _).1, (ld_x3 x3 _).2.1, (ld_x3 x3 _).2.2]

/-- A row of the stored block: the mixer block, then the feed-forward block. -/
theorem stored_apply (r : Fin 512) (j : Fin 1024) :
    stored x0 x1 x2 x3 x4 x5 x6 a b (ix2 r j)
      = mlp (mix (fun k => x0 (ix2 r k)) (convRow (fun k => x0 (ix2 r k)) (fun k => a (ix2 r k)) (fun k => b (ix2 r k)) (fun k => x1 (ix2 0 k))
          (fun k f => x2 (ix2 k f)) (fun c k => x3 (ix2 c k))) (fun k => x1 (ix2 1 k)) (fun k f => x4 (ix2 k f)))
          (fun k => x1 (ix2 2 k)) (fun k => x1 (ix2 3 k)) (fun k f => x5 (ix2 k f)) (fun f k => x6 (ix2 f k)) j := by
  unfold stored mlp
  rw [Block.pay11_apply, mixer_apply]
  congr 2
  · funext k
    rw [ff_four]
    unfold Block.summed
    simp only [Block.pay10_apply, Block.pay9_apply, mixer_apply, (ld_x1 x1 _).2.2.1, (ld_x5 x5 _ _).1, (ld_x5 x5 _ _).2.1, (ld_x5 x5 _ _).2.2.1,
      (ld_x5 x5 _ _).2.2.2, (ld_x6 x6 _ _).1, (ld_x6 x6 _ _).2.1, (ld_x6 x6 _ _).2.2.1, (ld_x6 x6 _ _).2.2.2]
    rfl
  · funext k; exact (ld_x1 x1 k).2.2.2

end rows

/-! ## The run's pieces -/

/-- A load through a whole memref held at the contents that read `x` is a load of `x`. -/
theorem load_unread {κ : Kind} {sp : Space} {s : Shape} {e : EltTy} {mr : Memref sig κ sp s e} (h : mr.IsWhole) (x : Vec Ideal s e) (R : Rect s) :
    View.readAt (Elt Ideal) mr.view R.toLoadRect (h.unread x) = View.ld x R := by
  rw [View.readAt_eq_ld, h.read_unread]

section scratch

variable {κ : Kind} {sp : Space} (v : View sig κ sp S520x1024 .f32) (u : Vec Ideal S512x1024 .f32)

/-- The scratch after the block's rows are stored from row 8 on: those rows. -/
theorem canon_block (L : List (View.Piece (Elt Ideal) S520x1024 .f32)) (r : Fin 512) (k : Fin 1024) :
    View.canon (⟨Rect.unit (s := S520x1024) ![8, 0] S512x1024.size inb_S520x1024_S512x1024_8_0, u⟩ :: L) (ix2 ⟨8 + r.val, by omega⟩ k) = u (ix2 r k) := by
  have e : (Rect.unit (s := S520x1024) ![8, 0] S512x1024.size inb_S520x1024_S512x1024_8_0).emb (ix2 r k) = ix2 (⟨8 + r.val, by omega⟩ : Fin 520) k := by
    funext a; apply Fin.ext; fin_cases a
    · show 8 + 1 * r.val = 8 + r.val; omega
    · show 0 + 1 * k.val = k.val; omega
  rw [← e]
  exact View.canon_cons_emb _ _ _ _

/-- The eight rows copied to the top are the block's last eight. -/
theorem carried (L : List (View.Piece (Elt Ideal) S520x1024 .f32)) (r : Fin 8) (k : Fin 1024) :
    View.canon (⟨Rect.unit (s := S520x1024) ![0, 0] S8x1024.size inb_S520x1024_S8x1024_0_0,
        k0_pay7 (v.readCov (⟨Rect.unit (s := S520x1024) ![8, 0] S512x1024.size inb_S520x1024_S512x1024_8_0, u⟩ :: L)
          (Rect.unit (s := S520x1024) ![512, 0] S8x1024.size inb_S520x1024_S8x1024_512_0).toLoadRect)⟩
        :: (⟨Rect.unit (s := S520x1024) ![8, 0] S512x1024.size inb_S520x1024_S512x1024_8_0, u⟩ :: L)) (ix2 ⟨r.val, by omega⟩ k)
      = u (ix2 ⟨504 + r.val, by omega⟩ k) := by
  have e : (Rect.unit (s := S520x1024) ![0, 0] S8x1024.size inb_S520x1024_S8x1024_0_0).emb (ix2 r k) = ix2 (⟨r.val, by omega⟩ : Fin 520) k := by
    funext a; apply Fin.ext; fin_cases a
    · show 0 + 1 * r.val = r.val; omega
    · show 0 + 1 * k.val = k.val; omega
  have e2 : (Rect.unit (s := S520x1024) ![512, 0] S8x1024.size inb_S520x1024_S8x1024_512_0).toLoadRect.idx (ix2 r k)
      = ix2 (⟨8 + (⟨504 + r.val, by omega⟩ : Fin 512).val, by show 8 + (504 + r.val) < 520; omega⟩ : Fin 520) k := by
    funext a; apply Fin.ext; fin_cases a
    · show 512 + 1 * r.val = 8 + (504 + r.val); omega
    · show 0 + 1 * k.val = k.val; omega
  have e3 : ∀ y : Vec Ideal S8x1024 .f32, k0_pay7 y (ix2 r k) = y (ix2 r k) := fun y => by unfold k0_pay7; pointwise
  rw [← e]
  refine (View.canon_cons_emb _ _ _ _).trans ((e3 _).trans ?_)
  rw [View.readCov_eq_canon']
  show View.canon _ ((Rect.unit (s := S520x1024) ![512, 0] S8x1024.size inb_S520x1024_S8x1024_512_0).toLoadRect.idx (ix2 r k)) = _
  rw [e2]
  exact canon_block u L _ k

/-- The scratch read at or past row 8 after the block's rows are stored from row 8 on, whatever it held: the block's row. -/
theorem read_block (f : v.ty.Contents (Elt Ideal)) (L : List (View.Piece (Elt Ideal) S520x1024 .f32)) (q : Fin 520) (k : Fin 1024) (hq : 8 ≤ q.val) :
    v.read (Elt Ideal) (v.writes (Elt Ideal) f (⟨Rect.unit (s := S520x1024) ![8, 0] S512x1024.size inb_S520x1024_S512x1024_8_0, u⟩ :: L)) (ix2 q k)
      = u (ix2 ⟨q.val - 8, by omega⟩ k) :=
  View.read_writes_cons_rows_of_mem (o := 8) v f inb_S520x1024_S512x1024_8_0 u L (ix2 q k) (ix2 ⟨q.val - 8, by omega⟩ k) rfl
    (by show q.val = 8 + (q.val - 8); omega) rfl

/-- Before row 8 it reads what it held. -/
theorem read_before (f : v.ty.Contents (Elt Ideal)) (L : List (View.Piece (Elt Ideal) S520x1024 .f32)) (q : Fin 520) (k : Fin 1024) (hq : q.val < 8) :
    v.read (Elt Ideal) (v.writes (Elt Ideal) f (⟨Rect.unit (s := S520x1024) ![8, 0] S512x1024.size inb_S520x1024_S512x1024_8_0, u⟩ :: L)) (ix2 q k)
      = v.read (Elt Ideal) (v.writes (Elt Ideal) f L) (ix2 q k) :=
  View.read_writes_cons_rows_of_not_mem (o := 8) (W := 512) v f inb_S520x1024_S512x1024_8_0 u L (ix2 q k) rfl rfl (.inl hq)

/-- The zero fill's rows read zero. -/
theorem read_zeros (f : v.ty.Contents (Elt Ideal)) (q : Fin 520) (k : Fin 1024) (hq : q.val < 8) :
    v.read (Elt Ideal) (v.writes (Elt Ideal) f [⟨Rect.unit (s := S520x1024) ![0, 0] S8x1024.size inb_S520x1024_S8x1024_0_0, (k0_pay1 (F := Ideal))⟩]) (ix2 q k) = 0 := by
  refine (View.read_writes_cons_rows_of_mem (o := 0) v f inb_S520x1024_S8x1024_0_0 (k0_pay1 (F := Ideal)) [] (ix2 q k) (ix2 ⟨q.val, hq⟩ k) rfl
    (by show q.val = 0 + q.val; omega) rfl).trans ?_
  pointwise [k0_pay1]

/-- A load of 512 rows from row `o` on reads row `o + r`. -/
theorem load_rows (f : v.ty.Contents (Elt Ideal)) (o : ℕ) (inb : ∀ a, (![o, 0] : Fin 2 → ℕ) a + S512x1024.size a ≤ S520x1024.size a) (ho : o ≤ 8) (r : Fin 512) (k : Fin 1024) :
    View.readAt (Elt Ideal) v (Rect.unit (s := S520x1024) ![o, 0] S512x1024.size inb).toLoadRect f (ix2 r k)
      = v.read (Elt Ideal) f (ix2 (⟨o + r.val, by omega⟩ : Fin 520) k) := by
  rw [View.readAt_apply]
  congr 1
  funext a; apply Fin.ext; fin_cases a
  · show o + 1 * r.val = o + r.val; omega
  · show 0 + 1 * k.val = k.val; omega

end scratch

/-- The row `d` rows before row `r` of a block, as the scratch gives it: the rows `top` handed over where it lies before the block. -/
def back (top : Fin 8 → Fin 1024 → EReal) (u : Fin 512 → Fin 1024 → EReal) (d : ℕ) (hd : d ≤ 8) (r : Fin 512) : Fin 1024 → EReal :=
  if h : r.val < d then top ⟨8 + r.val - d, by omega⟩ else u ⟨r.val - d, by omega⟩

section pieces

variable (c : Dev nD) (i : grid0.Coords) (arg1 : Memref sig .tc .vmem S512x1024 .f32) (harg1 : arg1.IsWhole) (arg2 : Memref sig .tc .vmem S4x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S512x1024 .f32) (harg8 : arg8.IsWhole) (arg9 : Memref sig .tc .vmem S520x1024 .f32) (harg9 : arg9.IsWhole)
  (x0 : Vec Ideal S512x1024 .f32) (x1 : Vec Ideal S4x1024 .f32) (x2 : Vec Ideal S1024x3072 .bf16) (x3 : Vec Ideal S3x1024 .f32) (x4 : Vec Ideal S1024x1024 .bf16) (x5 : Vec Ideal S1024x4096 .bf16) (x6 : Vec Ideal S4096x1024 .bf16) (xs0 : Vec Ideal S520x1024 .f32)

/-- The block a later point leaves is the stored block with the scratch rows read before and after the block's own store. -/
theorem out_B (hc0 : ¬cond0_0 i) :
    out0_B_7 c i arg1 harg1 arg2 harg2 arg3 harg3 arg4 harg4 arg5 harg5 arg6 harg6 arg7 harg7 arg8 harg8 arg9 harg9 hc0 x0 x1 x2 x3 x4 x5 x6 xs0
      = stored x0 x1 x2 x3 x4 x5 x6
          (View.readAt (Elt Ideal) arg9.view (Rect.unit (s := S520x1024) ![6, 0] S512x1024.size inb_S520x1024_S512x1024_6_0).toLoadRect
            (arg9.view.writes (Elt Ideal) (harg9.unread xs0) [⟨Rect.unit (s := S520x1024) ![8, 0] S512x1024.size inb_S520x1024_S512x1024_8_0, gates x0 x1 x2⟩]))
          (View.readAt (Elt Ideal) arg9.view (Rect.unit (s := S520x1024) ![7, 0] S512x1024.size inb_S520x1024_S512x1024_7_0).toLoadRect
            (arg9.view.writes (Elt Ideal) (harg9.unread xs0) [⟨Rect.unit (s := S520x1024) ![8, 0] S512x1024.size inb_S520x1024_S512x1024_8_0, gates x0 x1 x2⟩])) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  rw [View.canon_unit_zero hz2]
  unfold kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  unfold stored mixer gates kernelRun0_B.sl.HS0_1
  simp only [load_unread, View.ld_unit_zero (S := S512x1024) hz2, View.ld_unit_zero (S := S1024x1024) hz2]

/-- The block the first point leaves is the stored block with the scratch rows read after the zero fill and the block's own store. -/
theorem out_A (hc0 : cond0_0 i) :
    out0_A_7 c i arg1 harg1 arg2 harg2 arg3 harg3 arg4 harg4 arg5 harg5 arg6 harg6 arg7 harg7 arg8 harg8 arg9 harg9 hc0 x0 x1 x2 x3 x4 x5 x6
      = stored x0 x1 x2 x3 x4 x5 x6
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![6, 0] S512x1024.size inb_S520x1024_S512x1024_6_0).toLoadRect)
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![7, 0] S512x1024.size inb_S520x1024_S512x1024_7_0).toLoadRect) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  rw [View.canon_unit_zero hz2]
  have hg : kernelRun0_A.sl.HS0_2 c arg1 harg1 arg2 harg2 arg3 harg3 x0 x1 x2
      = [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩] := by
    unfold kernelRun0_A.sl.HS0_2 gates
    simp only [load_unread, View.ld_unit_zero (S := S512x1024) hz2, View.ld_unit_zero (S := S1024x1024) hz2]
  have hm : kernelRun0_A.sl.r_4 c arg1 harg1 arg2 harg2 arg3 harg3 arg4 harg4 arg5 harg5 arg9 x0 x1 x2 x3 x4
      = mixer x0 x1 x2 x3 x4
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![6, 0] S512x1024.size inb_S520x1024_S512x1024_6_0).toLoadRect)
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![7, 0] S512x1024.size inb_S520x1024_S512x1024_7_0).toLoadRect) := by
    unfold kernelRun0_A.sl.r_4 kernelRun0_A.sl.r_3 kernelRun0_A.sl.r_2 kernelRun0_A.sl.r_1 kernelRun0_A.sl.r kernelRun0_A.sl.v30 kernelRun0_A.sl.v35
    rw [hg]
    generalize arg9.view.readCov (Val := Elt Ideal) _ (Rect.unit (s := S520x1024) ![6, 0] S512x1024.size inb_S520x1024_S512x1024_6_0).toLoadRect = a
    generalize arg9.view.readCov (Val := Elt Ideal) _ (Rect.unit (s := S520x1024) ![7, 0] S512x1024.size inb_S520x1024_S512x1024_7_0).toLoadRect = b
    unfold mixer
    simp only [load_unread, View.ld_unit_zero (S := S512x1024) hz2, View.ld_unit_zero (S := S1024x1024) hz2]
  unfold kernelRun0_A.sl.r_7 kernelRun0_A.sl.r_6 kernelRun0_A.sl.r_5
  rw [hm]
  unfold stored
  generalize mixer x0 x1 x2 x3 x4 _ _ = y
  simp only [load_unread, View.ld_unit_zero (S := S512x1024) hz2, View.ld_unit_zero (S := S1024x1024) hz2]

/-- The last scratch rows a point leaves at the top are the last rows its block put into the convolution. -/
theorem sout_B (hc0 : ¬cond0_0 i) (r : Fin 8) (k : Fin 1024) :
    sout0_B_0 c i arg1 harg1 arg2 harg2 arg3 harg3 arg4 harg4 arg5 harg5 arg6 harg6 arg7 harg7 arg8 harg8 arg9 harg9 hc0 x0 x1 x2 x3 x4 x5 x6 xs0 (ix2 ⟨r.val, by omega⟩ k)
      = gates x0 x1 x2 (ix2 ⟨504 + r.val, by omega⟩ k) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  unfold kernelRun0_B.sl.v46 kernelRun0_B.sl.HS0_1
  simp only [load_unread, View.ld_unit_zero (S := S512x1024) hz2, View.ld_unit_zero (S := S1024x1024) hz2]
  exact carried arg9.view (gates x0 x1 x2) _ r k

/-- The same at the first point. -/
theorem sout_A (hc0 : cond0_0 i) (r : Fin 8) (k : Fin 1024) :
    sout0_A_0 c i arg1 harg1 arg2 harg2 arg3 harg3 arg4 harg4 arg5 harg5 arg6 harg6 arg7 harg7 arg8 harg8 arg9 harg9 hc0 x0 x1 x2 x3 x4 x5 x6 (ix2 ⟨r.val, by omega⟩ k)
      = gates x0 x1 x2 (ix2 ⟨504 + r.val, by omega⟩ k) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  unfold kernelRun0_A.sl.v46 kernelRun0_A.sl.HS0_2
  simp only [load_unread, View.ld_unit_zero (S := S512x1024) hz2, View.ld_unit_zero (S := S1024x1024) hz2]
  exact carried arg9.view (gates x0 x1 x2) _ r k

/-- A load `d` rows back at a later point. -/
theorem load_B (o d : ℕ) (hd : d ≤ 8) (hod : o + d = 8) (inb : ∀ a, (![o, 0] : Fin 2 → ℕ) a + S512x1024.size a ≤ S520x1024.size a) (u : Vec Ideal S512x1024 .f32)
    (r : Fin 512) (k : Fin 1024) :
    View.readAt (Elt Ideal) arg9.view (Rect.unit (s := S520x1024) ![o, 0] S512x1024.size inb).toLoadRect
        (arg9.view.writes (Elt Ideal) (harg9.unread xs0) [⟨Rect.unit (s := S520x1024) ![8, 0] S512x1024.size inb_S520x1024_S512x1024_8_0, u⟩]) (ix2 r k)
      = back (fun q k => xs0 (ix2 ⟨q.val, by omega⟩ k)) (fun r k => u (ix2 r k)) d hd r k := by
  rw [load_rows arg9.view _ o inb (by omega)]
  unfold back
  by_cases h : r.val < d
  · rw [dif_pos h, read_before arg9.view u _ _ _ _ (by show o + r.val < 8; omega), View.writes_nil, harg9.read_unread]
    congr 2; exact Fin.ext (by show o + r.val = 8 + r.val - d; omega)
  · rw [dif_neg h, read_block arg9.view u _ _ _ _ (by show 8 ≤ o + r.val; omega)]
    congr 2; exact Fin.ext (by show o + r.val - 8 = r.val - d; omega)

/-- A load `d` rows back at the first point. -/
theorem load_A (o d : ℕ) (hd : d ≤ 8) (hod : o + d = 8) (inb : ∀ a, (![o, 0] : Fin 2 → ℕ) a + S512x1024.size a ≤ S520x1024.size a) (u : Vec Ideal S512x1024 .f32)
    (r : Fin 512) (k : Fin 1024) :
    arg9.view.readCov (Val := Elt Ideal) [⟨Rect.unit (s := S520x1024) ![8, 0] S512x1024.size inb_S520x1024_S512x1024_8_0, u⟩, ⟨Rect.unit (s := S520x1024) ![0, 0] S8x1024.size inb_S520x1024_S8x1024_0_0, (k0_pay1 (F := Ideal))⟩]
        (Rect.unit (s := S520x1024) ![o, 0] S512x1024.size inb).toLoadRect (ix2 r k)
      = back (fun _ _ => 0) (fun r k => u (ix2 r k)) d hd r k := by
  refine (load_rows arg9.view _ o inb (by omega) r k).trans ?_
  unfold back
  by_cases h : r.val < d
  · rw [dif_pos h, read_before arg9.view u _ _ _ _ (by show o + r.val < 8; omega), read_zeros arg9.view _ _ _ (by show o + r.val < 8; omega)]
  · rw [dif_neg h, read_block arg9.view u _ _ _ _ (by show 8 ≤ o + r.val; omega)]
    congr 2; exact Fin.ext (by show o + r.val - 8 = r.val - d; omega)

/-- The row the kernel stores: `top` the eight rows handed over from the point before. -/
def outRow (x0 : Vec Ideal S512x1024 .f32) (x1 : Vec Ideal S4x1024 .f32) (x2 : Vec Ideal S1024x3072 .bf16) (x3 : Vec Ideal S3x1024 .f32) (x4 : Vec Ideal S1024x1024 .bf16)
    (x5 : Vec Ideal S1024x4096 .bf16) (x6 : Vec Ideal S4096x1024 .bf16) (top : Fin 8 → Fin 1024 → EReal) (r : Fin 512) : Fin 1024 → EReal :=
  mlp (mix (fun k => x0 (ix2 r k)) (convRow (fun k => x0 (ix2 r k)) (back top (fun r k => gates x0 x1 x2 (ix2 r k)) 2 (by omega) r)
        (back top (fun r k => gates x0 x1 x2 (ix2 r k)) 1 (by omega) r) (fun k => x1 (ix2 0 k))
          (fun k f => x2 (ix2 k f)) (fun c k => x3 (ix2 c k))) (fun k => x1 (ix2 1 k)) (fun k f => x4 (ix2 k f)))
          (fun k => x1 (ix2 2 k)) (fun k => x1 (ix2 3 k)) (fun k f => x5 (ix2 k f)) (fun f k => x6 (ix2 f k))

/-- A later point's output block, row by row. -/
theorem out_B_apply (hc0 : ¬cond0_0 i) (r : Fin 512) (j : Fin 1024) :
    out0_B_7 c i arg1 harg1 arg2 harg2 arg3 harg3 arg4 harg4 arg5 harg5 arg6 harg6 arg7 harg7 arg8 harg8 arg9 harg9 hc0 x0 x1 x2 x3 x4 x5 x6 xs0 (ix2 r j)
      = outRow x0 x1 x2 x3 x4 x5 x6 (fun q k => xs0 (ix2 ⟨q.val, by omega⟩ k)) r j := by
  rw [out_B, stored_apply]
  simp only [load_B arg9 harg9 xs0 6 2 (by omega) rfl, load_B arg9 harg9 xs0 7 1 (by omega) rfl]
  rfl

/-- The first point's output block, row by row: zeros stand before the block. -/
theorem out_A_apply (hc0 : cond0_0 i) (r : Fin 512) (j : Fin 1024) :
    out0_A_7 c i arg1 harg1 arg2 harg2 arg3 harg3 arg4 harg4 arg5 harg5 arg6 harg6 arg7 harg7 arg8 harg8 arg9 harg9 hc0 x0 x1 x2 x3 x4 x5 x6 (ix2 r j)
      = outRow x0 x1 x2 x3 x4 x5 x6 (fun _ _ => 0) r j := by
  rw [out_A, stored_apply]
  simp only [load_A arg9 6 2 (by omega) rfl, load_A arg9 7 1 (by omega) rfl]
  rfl

end pieces

end Cert.ConvIdeal.Body

end
-- ==== Proof.Conv.Array.lean ====
/- The short-convolution call's result array as one function of the rows it finds: each point's block is the block function of
   its rows, what a point leaves for the next is what its last eight rows put into the convolution, and the blocks tile the array. -/
module

public import proofs.«01_k».proof.Proof.Gen.ConvIdeal.Frame
public import proofs.«01_k».proof.Proof.Conv.Prep
public import proofs.«01_k».proof.Proof.Conv.Body
public import Idealize.ShloMosaic.Lib.Pipeline.ValueKit

@[expose] public section

noncomputable section

namespace Cert.ConvIdeal.Array

open Cert.ConvIdeal Cert.ConvIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads and of the rows it writes. -/
theorem index_facts : ∀ t : Fin grid0.N,
    (win0_0.index t 0 = t.val ∧ win0_0.index t 1 = 0) ∧ (win0_7.index t 0 = t.val ∧ win0_7.index t 1 = 0) := by
  decide +kernel

/-- The windows of the gains and the weights begin at zero at every point. -/
theorem index_zero : ∀ (t : Fin grid0.N) (a : Fin 2),
    win0_1.index t a = 0 ∧ win0_2.index t a = 0 ∧ win0_3.index t a = 0 ∧ win0_4.index t a = 0 ∧ win0_5.index t a = 0 ∧ win0_6.index t a = 0 := by
  decide +kernel

/-- Row `R` of the padded rows. -/
def hid (R : Fin 33792) (k : Fin 1024) : EReal := V m c main_v5 (ix2 R k)
/-- The layer's gain row `a`. -/
def gain (a : Fin 4) (k : Fin 1024) : EReal := m ((c : Thread nD τ).loc main_arg2) (ix3 0 a k)
/-- The mixer's input projection. -/
def wi (k : Fin 1024) (f : Fin 3072) : EReal := m ((c : Thread nD τ).loc main_arg3) (ix3 0 k f)
/-- The convolution's weights. -/
def cw (a : Fin 3) (k : Fin 1024) : EReal := m ((c : Thread nD τ).loc main_arg4) (ix3 0 a k)
/-- The mixer's output projection. -/
def wo (k f : Fin 1024) : EReal := m ((c : Thread nD τ).loc main_arg5) (ix3 0 k f)
/-- The feed-forward network's first weight. -/
def w1 (k : Fin 1024) (f : Fin 4096) : EReal := m ((c : Thread nD τ).loc main_arg6) (ix3 0 k f)
/-- The feed-forward network's second weight. -/
def w2 (f : Fin 4096) (k : Fin 1024) : EReal := m ((c : Thread nD τ).loc main_arg7) (ix3 0 f k)
/-- What row `R` puts into the convolution. -/
def ent (R : Fin 33792) : Fin 1024 → EReal := gated (hid m c R) (gain m c 0) (wi m c)
/-- What the row `d` before row `R` puts into it, zeros standing before the first row. -/
def prev (d : ℕ) (R : Fin 33792) (k : Fin 1024) : EReal := if d ≤ R.val then ent m c ⟨R.val - d, by omega⟩ k else 0
/-- The layer's result at row `R`. -/
def rowOut (R : Fin 33792) : Fin 1024 → EReal :=
  mlp (mix (hid m c R) (convRow (hid m c R) (prev m c 2 R) (prev m c 1 R) (gain m c 0) (wi m c) (cw m c)) (gain m c 1) (wo m c))
    (gain m c 2) (gain m c 3) (w1 m c) (w2 m c)

/-- Row `r` of point `t`'s block. -/
def at_ (t : Fin grid0.N) (r : Fin 512) : Fin 33792 := ⟨t.val * 512 + r.val, by have := t.isLt; have := N_0; omega⟩

/-- Point `t`'s block of the rows. -/
theorem hidden_block (t : Fin grid0.N) (r : Fin 512) (k : Fin 1024) : iblk m c 0 t (ix2 r k) = hid m c (at_ t r) k := by
  show V m c main_v5 ((win0_0.rect t).emb (ix2 r k)) = V m c main_v5 (ix2 (at_ t r) k)
  congr 1
  obtain ⟨⟨h0, h1⟩, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- Every point's block of the gains is the whole array. -/
theorem gains_block (t : Fin grid0.N) (a : Fin 4) (k : Fin 1024) : iblk m c 1 t (ix2 a k) = gain m c a k := by
  refine Eq.trans ?_ (Prep.gains_apply m c _ _)
  show V m c main_v7 ((win0_1.rect t).emb (ix2 a k)) = _
  congr 1
  funext b
  apply Fin.ext
  rw [Pipeline.Window.rect_emb_val_of_index_zero _ _ _ (index_zero t b).1]

/-- Every point's block of the input projection is the whole array. -/
theorem wi_block (t : Fin grid0.N) (k : Fin 1024) (f : Fin 3072) : iblk m c 2 t (ix2 k f) = wi m c k f := by
  refine Eq.trans ?_ (Prep.wi_apply m c _ _)
  show V m c main_v16 ((win0_2.rect t).emb (ix2 k f)) = _
  congr 1
  funext b
  apply Fin.ext
  rw [Pipeline.Window.rect_emb_val_of_index_zero _ _ _ (index_zero t b).2.1]

/-- Every point's block of the convolution weights is the whole array. -/
theorem cw_block (t : Fin grid0.N) (a : Fin 3) (k : Fin 1024) : iblk m c 3 t (ix2 a k) = cw m c a k := by
  refine Eq.trans ?_ (Prep.cw_apply m c _ _)
  show V m c main_v18 ((win0_3.rect t).emb (ix2 a k)) = _
  congr 1
  funext b
  apply Fin.ext
  rw [Pipeline.Window.rect_emb_val_of_index_zero _ _ _ (index_zero t b).2.2.1]

/-- Every point's block of the output projection is the whole array. -/
theorem wo_block (t : Fin grid0.N) (k f : Fin 1024) : iblk m c 4 t (ix2 k f) = wo m c k f := by
  refine Eq.trans ?_ (Prep.wo_apply m c _ _)
  show V m c main_v21 ((win0_4.rect t).emb (ix2 k f)) = _
  congr 1
  funext b
  apply Fin.ext
  rw [Pipeline.Window.rect_emb_val_of_index_zero _ _ _ (index_zero t b).2.2.2.1]

/-- Every point's block of the first feed-forward weight is the whole array. -/
theorem w1_block (t : Fin grid0.N) (k : Fin 1024) (f : Fin 4096) : iblk m c 5 t (ix2 k f) = w1 m c k f := by
  refine Eq.trans ?_ (Prep.w1_apply m c _ _)
  show V m c main_v10 ((win0_5.rect t).emb (ix2 k f)) = _
  congr 1
  funext b
  apply Fin.ext
  rw [Pipeline.Window.rect_emb_val_of_index_zero _ _ _ (index_zero t b).2.2.2.2.1]

/-- Every point's block of the second feed-forward weight is the whole array. -/
theorem w2_block (t : Fin grid0.N) (f : Fin 4096) (k : Fin 1024) : iblk m c 6 t (ix2 f k) = w2 m c f k := by
  refine Eq.trans ?_ (Prep.w2_apply m c _ _)
  show V m c main_v13 ((win0_6.rect t).emb (ix2 f k)) = _
  congr 1
  funext b
  apply Fin.ext
  rw [Pipeline.Window.rect_emb_val_of_index_zero _ _ _ (index_zero t b).2.2.2.2.2]

/-- What point `t`'s rows put into the convolution. -/
theorem gates_block (t : Fin grid0.N) (r : Fin 512) (k : Fin 1024) :
    Body.gates (iblk m c 0 t) (iblk m c 1 t) (iblk m c 2 t) (ix2 r k) = ent m c (at_ t r) k := by
  rw [Body.gates_apply]
  simp only [hidden_block, gains_block, wi_block]
  rfl

/-- What point `t` leaves for the next: what its last eight rows put into the convolution. -/
theorem carried_block (t : Fin cfg0.N) (q : Fin 8) (k : Fin 1024) :
    (outsAt0 m c t.val t.isLt).2 (ix2 (⟨q.val, by omega⟩ : Fin 520) k) = ent m c (at_ t ⟨504 + q.val, by omega⟩) k := by
  by_cases h0 : t.val % 66 = 0
  · rw [outsAt0_A m c t h0]
    dsimp only
    rw [Body.sout_A, gates_block]
  · rw [outsAt0_B m c t h0]
    dsimp only
    rw [Body.sout_B, gates_block]

/-- Rows back from point `t`'s rows, the first point having zeros before it. -/
theorem back_first (t : Fin cfg0.N) (h0 : t.val = 0) (d : ℕ) (hd : d ≤ 8) (r : Fin 512) :
    Body.back (fun _ _ => 0) (fun r k => Body.gates (iblk m c 0 t) (iblk m c 1 t) (iblk m c 2 t) (ix2 r k)) d hd r = prev m c d (at_ t r) := by
  funext k
  unfold Body.back prev
  by_cases h : r.val < d
  · rw [dif_pos h, if_neg (by show ¬d ≤ t.val * 512 + r.val; omega)]
  · rw [dif_neg h, if_pos (by show d ≤ t.val * 512 + r.val; omega)]
    dsimp only
    rw [gates_block]
    congr 1
    exact Fin.ext (by show t.val * 512 + (r.val - d) = t.val * 512 + r.val - d; omega)

/-- Rows back from a later point's rows, the point before having left what its last rows put in. -/
theorem back_later (t : Fin cfg0.N) (h0 : t.val ≠ 0) (ht : t.val - 1 < cfg0.N) (d : ℕ) (hd : d ≤ 8) (r : Fin 512) :
    Body.back (fun q k => (outsAt0 m c (t.val - 1) ht).2 (ix2 (⟨q.val, by omega⟩ : Fin 520) k))
      (fun r k => Body.gates (iblk m c 0 t) (iblk m c 1 t) (iblk m c 2 t) (ix2 r k)) d hd r = prev m c d (at_ t r) := by
  funext k
  unfold Body.back prev
  rw [if_pos (by show d ≤ t.val * 512 + r.val; omega)]
  by_cases h : r.val < d
  · rw [dif_pos h]
    refine (carried_block m c ⟨t.val - 1, ht⟩ ⟨8 + r.val - d, by omega⟩ k).trans ?_
    congr 1
    exact Fin.ext (by show (t.val - 1) * 512 + (504 + (8 + r.val - d)) = t.val * 512 + r.val - d; omega)
  · rw [dif_neg h]
    dsimp only
    rw [gates_block]
    congr 1
    exact Fin.ext (by show t.val * 512 + (r.val - d) = t.val * 512 + r.val - d; omega)

/-- What point `t` writes at row `r` of its block is the layer's result at that row. -/
theorem out_block (t : Fin cfg0.N) (r : Fin 512) (j : Fin 1024) :
    (outsAt0 m c t.val t.isLt).1 (ix2 r j) = rowOut m c (at_ t r) j := by
  have hN : cfg0.N = 66 := N_0
  by_cases h0 : t.val % 66 = 0
  · rw [outsAt0_A m c t h0]
    dsimp only
    rw [Body.out_A_apply]
    have ht : t.val = 0 := by have := t.isLt; omega
    unfold Body.outRow rowOut
    rw [back_first m c t ht, back_first m c t ht]
    simp only [hidden_block, gains_block, wi_block, cw_block, wo_block, w1_block, w2_block]
  · rw [outsAt0_B m c t h0]
    dsimp only
    rw [Body.out_B_apply]
    have ht : t.val ≠ 0 := by omega
    unfold Body.outRow rowOut
    rw [back_later m c t ht, back_later m c t ht]
    simp only [hidden_block, gains_block, wi_block, cw_block, wo_block, w1_block, w2_block]

/-- The layer's result at every padded row. -/
def rows : Buf (Elt Ideal) ((c : Thread nD τ).loc main_v22) := fun (i : S33792x1024.Idx) => rowOut m c (i 0) (i 1)

/-- WHAT POINT `t` WRITES BACK is its block of the result. -/
theorem flushed_eq (t : Fin cfg0.N) :
    (dats m 0 c).flushed 7 t = ((cfg0.win 7).blk t).view.read (Elt Ideal) (rows m c) := by
  show (cfg0.win 7).cut (grid0.coords t) ((dats m 0 c).after 7 t) = _
  rw [after0_7]
  obtain ⟨-, h0, h1⟩ := index_facts t
  funext y
  obtain ⟨r, j, rfl⟩ : ∃ (r : Fin 512) (j : Fin 1024), y = ix2 r j := ⟨y 0, y 1, by funext a; fin_cases a <;> rfl⟩
  refine (out_block m c t r j).trans ?_
  show rows m c (ix2 (at_ t r) j) = rows m c ((win0_7.rect t).emb (ix2 r j))
  congr 1
  funext a
  apply Fin.ext
  rw [Pipeline.Window.rect_emb_val_off]
  fin_cases a
  · show t.val * 512 + r.val = win0_7.index t 0 * 512 + r.val
    rw [h0]
  · show j.val = win0_7.index t 1 * 1024 + j.val
    rw [h1]; omega

/-- The written blocks tile the array. -/
theorem cover (i : S33792x1024.Idx) : ∃ t : Fin cfg0.N, (cfg0.win 7).flush t = true ∧ i ∈ ((cfg0.win 7).blk t).view.set := by
  have hi : (i 0).val < 33792 := (i 0).isLt
  have hj : (i 1).val < 1024 := (i 1).isLt
  let t : Fin cfg0.N := ⟨(i 0).val / 512, by have : cfg0.N = 66 := N_0; omega⟩
  refine ⟨t, flush0_7 t, ?_⟩
  obtain ⟨-, h0, h1⟩ := index_facts t
  show i ∈ ((View.whole main_v22).slice ((cfg0.win 7).rect t)).set
  erw [View.set_slice_whole]
  refine (Pipeline.Window.mem_rect_iff (cfg0.win 7) t i (by rfl)).mpr fun a => ?_
  fin_cases a
  · show win0_7.index t 0 * 512 ≤ (i 0).val ∧ (i 0).val < win0_7.index t 0 * 512 + 512
    rw [h0]; show (i 0).val / 512 * 512 ≤ _ ∧ _ < (i 0).val / 512 * 512 + 512
    omega
  · show win0_7.index t 1 * 1024 ≤ (i 1).val ∧ (i 1).val < win0_7.index t 1 * 1024 + 1024
    rw [h1]; omega

/-- THE RESULT ARRAY after the run is the layer's result at every row. -/
theorem final : (dats m 0 c).arrAt 7 cfg0.N = rows m c :=
  (dats m 0 c).arrAt_eq_of_cover 7 (rows m c) (fun t _ => flushed_eq m c t) cover

end Cert.ConvIdeal.Array

end
-- ==== Proof.Conv.Ref.lean ====
/- The short-convolution reference's result, read at a batch element, a position and a column: the mixer block and the
   feed-forward block (`Cert.Row`) of the position's row and of the two rows before it. -/
module

public import proofs.«01_k».proof.Proof.Gen.ConvReferenceIdeal.Read
public import proofs.«01_k».proof.Proof.Conv.Row
public import Idealize.ShloMosaic.Lib.Pointwise

@[expose] public section

noncomputable section

namespace Cert.ConvReferenceIdeal.Rows

open Cert.ConvReferenceIdeal Cert.ConvReferenceIdeal.Gen Cert.ConvReferenceIdeal.Read Cert.Row Idealize.ShloMosaic
open scoped BigOperators

variable (x0 : (⟨S4x8192x1024, .f32⟩ : BufTy).Contents (Elt Ideal)) (x1 : (⟨S16x1024, .f32⟩ : BufTy).Contents (Elt Ideal))
  (x2 : (⟨S4x4x1024, .f32⟩ : BufTy).Contents (Elt Ideal)) (x3 : (⟨S2x1024x3072, .f32⟩ : BufTy).Contents (Elt Ideal))
  (x4 : (⟨S2x3x1024, .f32⟩ : BufTy).Contents (Elt Ideal)) (x5 : (⟨S2x1024x1024, .f32⟩ : BufTy).Contents (Elt Ideal))
  (x6 : (⟨S4x1024x4096, .f32⟩ : BufTy).Contents (Elt Ideal)) (x7 : (⟨S4x4096x1024, .f32⟩ : BufTy).Contents (Elt Ideal))

/-- A row of the sequence: a meta token or a token. -/
def seq (b : Fin 4) (p : Fin 8208) (k : Fin 1024) : EReal :=
  if h : p.val < 16 then x1 (ix2 (⟨p.val, h⟩ : Fin 16) k) else x0 (ix3 b (⟨p.val - 16, by omega⟩ : Fin 8192) k)

/-- The sequence, read at an index. -/
theorem seq_apply (b : Fin 4) (p : Fin 8208) (k : Fin 1024) : val_main_v2 (F := Ideal) x0 x1 (ix3 b p k) = seq x0 x1 b p k := by
  unfold val_main_v2 val_main_v1 val_main_v0 seq
  pointwise

/-- The layer's four gain rows. -/
theorem gains_apply (a : Fin 4) (k : Fin 1024) : val_main_v4 (F := Ideal) x2 (ix2 a k) = x2 (ix3 0 a k) := by
  unfold val_main_v4 val_main_v3
  pointwise

/-- The input projection. -/
theorem wi_apply (k : Fin 1024) (f : Fin 3072) : val_main_v21 (F := Ideal) x3 (ix2 k f) = x3 (ix3 0 k f) := by
  unfold val_main_v21 val_main_v20
  pointwise

/-- The convolution's weights. -/
theorem cw_apply (a : Fin 3) (k : Fin 1024) : val_main_v23 (F := Ideal) x4 (ix2 a k) = x4 (ix3 0 a k) := by
  unfold val_main_v23 val_main_v22
  pointwise

/-- The output projection. -/
theorem wo_apply (k f : Fin 1024) : val_main_v25 (F := Ideal) x5 (ix2 k f) = x5 (ix3 0 k f) := by
  unfold val_main_v25 val_main_v24
  pointwise

/-- The mixer's normalized input. -/
theorem enter_apply (b : Fin 4) (p : Fin 8208) (j : Fin 1024) :
    val_main_v19 (F := Ideal) x0 x1 x2 (ix3 b p j) = rms (seq x0 x1 b p) (fun k => x2 (ix3 0 0 k)) j := by
  unfold val_main_v19 val_main_v18 val_main_v17 val_main_v16 val_main_v15 val_main_v14 val_main_v13 val_main_v12 val_main_v11 val_main_v10 val_main_v9 val_main_v8 val_main_v7 val_main_v6 val_main_v5 rms cLen cEps val_main_cst val_main_cst_0 val_main_cst_1
  pointwise [seq_apply, gains_apply]

/-- The input projection of a row, at any of its 3072 columns. -/
theorem project_apply (b : Fin 4) (p : Fin 8208) (f : Fin 3072) :
    val_main_v26 (F := Ideal) x0 x1 x2 x3 (ix3 b p f) = lin (rms (seq x0 x1 b p) (fun k => x2 (ix3 0 0 k))) (fun k f => x3 (ix3 0 k f)) f := by
  unfold val_main_v26 lin
  pointwise [dot_S4x8208x1024_S1024x3072_S4x8208x3072_2_0_01_1_n_n, enter_apply, wi_apply]

/-- What a row puts into the convolution. -/
theorem gated_apply (b : Fin 4) (p : Fin 8208) (j : Fin 1024) :
    val_main_v30 (F := Ideal) x0 x1 x2 x3 (ix3 b p j) = gated (seq x0 x1 b p) (fun k => x2 (ix3 0 0 k)) (fun k f => x3 (ix3 0 k f)) j := by
  unfold val_main_v30 val_main_v29 val_main_v28
  pointwise [project_apply]
  rfl

/-- What the row `d` before puts into the convolution, zeros standing before the first row. -/
def before (d : ℕ) (b : Fin 4) (p : Fin 8208) (j : Fin 1024) : EReal :=
  if d ≤ p.val then gated (seq x0 x1 b ⟨p.val - d, by omega⟩) (fun k => x2 (ix3 0 0 k)) (fun k f => x3 (ix3 0 k f)) j else 0

/-- The convolution's input with two rows of zeros put before it. -/
theorem padded_apply (b : Fin 4) (q : Fin 8210) (j : Fin 1024) :
    val_main_v31 (F := Ideal) x0 x1 x2 x3 (ix3 b q j)
      = if h : 2 ≤ q.val then gated (seq x0 x1 b ⟨q.val - 2, by omega⟩) (fun k => x2 (ix3 0 0 k)) (fun k f => x3 (ix3 0 k f)) j else 0 := by
  unfold val_main_v31 val_main_call0_v0 val_main_c
  pointwise [gated_apply]
  have hz : (FloatOps.sitofp (F := Ideal) FTy.f32 0#32 : EReal) = 0 := by
    show (((0#32 : BitVec 32).toInt : ℝ) : EReal) = 0
    simp
  have hq := q.isLt
  by_cases h : 2 ≤ q.val
  · rw [dif_pos h, dif_pos ⟨h, by omega⟩]
  · rw [dif_neg h, dif_neg (fun h' => h h'.1)]
    exact hz

/-- The gate times the convolution. -/
theorem conv_apply (b : Fin 4) (p : Fin 8208) (j : Fin 1024) :
    val_main_v52 (F := Ideal) x0 x1 x2 x3 x4 (ix3 b p j)
      = convRow (seq x0 x1 b p) (before x0 x1 x2 x3 2 b p) (before x0 x1 x2 x3 1 b p) (fun k => x2 (ix3 0 0 k))
          (fun k f => x3 (ix3 0 k f)) (fun a k => x4 (ix3 0 a k)) j := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v27
  pointwise [project_apply, padded_apply, cw_apply]
  have e2 : (if h : 2 ≤ p.val then gated (seq x0 x1 b ⟨p.val - 2, by omega⟩) (fun k => x2 (ix3 0 0 k)) (fun k f => x3 (ix3 0 k f)) j else 0)
      = before x0 x1 x2 x3 2 b p j := rfl
  have e1 : (if h : 2 ≤ 1 + p.val then gated (seq x0 x1 b ⟨1 + p.val - 2, by omega⟩) (fun k => x2 (ix3 0 0 k)) (fun k f => x3 (ix3 0 k f)) j else 0)
      = before x0 x1 x2 x3 1 b p j := by
    unfold before
    by_cases h : 1 ≤ p.val
    · rw [dif_pos (by omega), if_pos h]
      congr 2
      exact Fin.ext (by show 1 + p.val - 2 = p.val - 1; omega)
    · rw [dif_neg (by omega), if_neg h]
  rw [e2, e1]
  unfold convRow taps lin third
  simp only [Nat.zero_add]

/-- The mixer block. -/
theorem mix_apply (b : Fin 4) (p : Fin 8208) (j : Fin 1024) :
    val_main_v69 (F := Ideal) x0 x1 x2 x3 x4 x5 (ix3 b p j)
      = mix (seq x0 x1 b p) (convRow (seq x0 x1 b p) (before x0 x1 x2 x3 2 b p) (before x0 x1 x2 x3 1 b p) (fun k => x2 (ix3 0 0 k))
          (fun k f => x3 (ix3 0 k f)) (fun a k => x4 (ix3 0 a k))) (fun k => x2 (ix3 0 1 k)) (fun k f => x5 (ix3 0 k f)) j := by
  have hd : ∀ j, val_main_v53 (F := Ideal) x0 x1 x2 x3 x4 x5 (ix3 b p j) = lin (convRow (seq x0 x1 b p) (before x0 x1 x2 x3 2 b p) (before x0 x1 x2 x3 1 b p)
      (fun k => x2 (ix3 0 0 k)) (fun k f => x3 (ix3 0 k f)) (fun a k => x4 (ix3 0 a k))) (fun k f => x5 (ix3 0 k f)) j := fun j => by
    unfold val_main_v53 lin
    pointwise [dot_S4x8208x1024_S1024x1024_S4x8208x1024_2_0_01_1_n_n, conv_apply, wo_apply]
  unfold val_main_v69 val_main_v68 val_main_v67 val_main_v66 val_main_v65 val_main_v64 val_main_v63 val_main_v62 val_main_v61 val_main_v60 val_main_v59 val_main_v58 val_main_v57 val_main_v56 val_main_v55 val_main_v54 mix rms cLen cEps val_main_cst_2 val_main_cst_3 val_main_cst_4
  pointwise [hd, seq_apply, gains_apply]

/-- The feed-forward block's normalized input. -/
theorem norm_apply (b : Fin 4) (p : Fin 8208) (j : Fin 1024) :
    val_main_v84 (F := Ideal) x0 x1 x2 x3 x4 x5 (ix3 b p j)
      = rms (fun k => val_main_v69 (F := Ideal) x0 x1 x2 x3 x4 x5 (ix3 b p k)) (fun k => x2 (ix3 0 2 k)) j := by
  unfold val_main_v84 val_main_v83 val_main_v82 val_main_v81 val_main_v80 val_main_v79 val_main_v78 val_main_v77 val_main_v76 val_main_v75 val_main_v74 val_main_v73 val_main_v72 val_main_v71 val_main_v70 rms cLen cEps val_main_cst_5 val_main_cst_6 val_main_cst_7
  generalize val_main_v69 (F := Ideal) x0 x1 x2 x3 x4 x5 = y
  pointwise [gains_apply]

/-- The feed-forward network's output. -/
theorem ff_apply (b : Fin 4) (p : Fin 8208) (j : Fin 1024) :
    val_main_v92 (F := Ideal) x0 x1 x2 x3 x4 x5 x6 x7 (ix3 b p j)
      = ff (fun k => val_main_v84 (F := Ideal) x0 x1 x2 x3 x4 x5 (ix3 b p k)) (fun k f => x6 (ix3 0 k f)) (fun f k => x7 (ix3 0 f k)) j := by
  unfold val_main_v92 val_main_v91 val_main_v90 val_main_v89 val_main_v88 val_main_v87 val_main_v86 val_main_v85 val_main_call1_v0 val_main_call1_cst ff sqrelu lin
  generalize val_main_v84 (F := Ideal) x0 x1 x2 x3 x4 x5 = y
  pointwise [dot_S4x8208x1024_S1024x4096_S4x8208x4096_2_0_01_1_n_n, dot_S4x8208x4096_S4096x1024_S4x8208x1024_2_0_01_1_n_n]

/-- The result at a batch element and a position. -/
theorem block_apply (b : Fin 4) (p : Fin 8208) (j : Fin 1024) :
    val_main_v108 (F := Ideal) x0 x1 x2 x3 x4 x5 x6 x7 (ix3 b p j)
      = mlp (mix (seq x0 x1 b p) (convRow (seq x0 x1 b p) (before x0 x1 x2 x3 2 b p) (before x0 x1 x2 x3 1 b p) (fun k => x2 (ix3 0 0 k))
            (fun k f => x3 (ix3 0 k f)) (fun a k => x4 (ix3 0 a k))) (fun k => x2 (ix3 0 1 k)) (fun k f => x5 (ix3 0 k f)))
          (fun k => x2 (ix3 0 2 k)) (fun k => x2 (ix3 0 3 k)) (fun k f => x6 (ix3 0 k f)) (fun f k => x7 (ix3 0 f k)) j := by
  have h : val_main_v108 (F := Ideal) x0 x1 x2 x3 x4 x5 x6 x7 (ix3 b p j)
      = val_main_v69 (F := Ideal) x0 x1 x2 x3 x4 x5 (ix3 b p j)
        + rms (fun k => val_main_v92 (F := Ideal) x0 x1 x2 x3 x4 x5 x6 x7 (ix3 b p k)) (fun k => x2 (ix3 0 3 k)) j := by
    unfold val_main_v108 val_main_v107 val_main_v106 val_main_v105 val_main_v104 val_main_v103 val_main_v102 val_main_v101 val_main_v100 val_main_v99 val_main_v98 val_main_v97 val_main_v96 val_main_v95 val_main_v94 val_main_v93 rms cLen cEps val_main_cst_8 val_main_cst_9 val_main_cst_10
    generalize val_main_v69 (F := Ideal) x0 x1 x2 x3 x4 x5 = y
    generalize val_main_v92 (F := Ideal) x0 x1 x2 x3 x4 x5 x6 x7 = z
    pointwise [gains_apply]
  rw [h]
  simp only [ff_apply, norm_apply, mix_apply]
  rfl

end Cert.ConvReferenceIdeal.Rows

end
-- ==== Proof.Conv.Result.lean ====
/- The short-convolution call's result, the real rows of its result array, is the reference's. -/
module

public import proofs.«01_k».proof.Proof.Conv.Array
public import proofs.«01_k».proof.Proof.Conv.Ref

@[expose] public section

noncomputable section

namespace Cert.ConvIdeal.Result

open Cert.ConvIdeal Cert.ConvIdeal.Gen Cert.ConvIdeal.Array Cert.Row Idealize.ShloMosaic Idealize.ShloMosaic.TcCoe

variable (m : (ℓ : Loc nD τ sig) → Buf (Elt Ideal) ℓ) (c : Dev nD)

/-- The reference's result of the kernel's arguments. -/
def val : Buf (Elt Ideal) ((c : Thread nD τ).loc main_v24) :=
  Cert.ConvReferenceIdeal.Read.val_main_v108 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))

/-- Position `p` of batch element `b` among the padded rows. -/
def real (b : Fin 4) (p : Fin 8208) : Fin 33792 := ⟨b.val * 8448 + (128 + p.val), by omega⟩

/-- A batch element's rows of the sequence. -/
theorem hid_real (b : Fin 4) (p : Fin 8208) :
    hid m c (real b p) = Cert.ConvReferenceIdeal.Rows.seq (m ((c : Thread nD τ).loc main_arg0)) (m ((c : Thread nD τ).loc main_arg1)) b p := by
  funext k
  unfold hid real Cert.ConvReferenceIdeal.Rows.seq
  by_cases h : p.val < 16
  · rw [dif_pos h]
    exact Prep.hidden_meta m c b ⟨p.val, h⟩ k
  · rw [dif_neg h]
    refine Eq.trans ?_ (Prep.hidden_token m c b ⟨p.val - 16, by omega⟩ k)
    congr 2
    exact Fin.ext (by show b.val * 8448 + (128 + p.val) = b.val * 8448 + (144 + (p.val - 16)); omega)

/-- The rows back from a position, within its batch element: the rows before the first one are zeros and put zeros in. -/
theorem prev_real (d : ℕ) (hd : d ≤ 2) (b : Fin 4) (p : Fin 8208) :
    prev m c d (real b p) = Cert.ConvReferenceIdeal.Rows.before (m ((c : Thread nD τ).loc main_arg0)) (m ((c : Thread nD τ).loc main_arg1))
      (m ((c : Thread nD τ).loc main_arg2)) (m ((c : Thread nD τ).loc main_arg3)) d b p := by
  funext k
  unfold prev Cert.ConvReferenceIdeal.Rows.before
  rw [if_pos (by show d ≤ b.val * 8448 + (128 + p.val); omega)]
  by_cases h : d ≤ p.val
  · rw [if_pos h, ← hid_real]
    have e : (⟨(real b p).val - d, by omega⟩ : Fin 33792) = real b ⟨p.val - d, by omega⟩ :=
      Fin.ext (by show b.val * 8448 + (128 + p.val) - d = b.val * 8448 + (128 + (p.val - d)); omega)
    rw [e]
    rfl
  · rw [if_neg h]
    have e : hid m c (⟨(real b p).val - d, by omega⟩ : Fin 33792) = fun _ => 0 := by
      funext k
      refine Eq.trans ?_ (Prep.hidden_pad m c b ⟨128 + p.val - d, by omega⟩ k)
      show V m c main_v5 _ = V m c main_v5 _
      congr 2
      exact Fin.ext (by show b.val * 8448 + (128 + p.val) - d = b.val * 8448 + (128 + p.val - d); omega)
    unfold ent
    rw [e, gated_zero]

/-- The layer's result at a real row is the reference's. -/
theorem rowOut_real (b : Fin 4) (p : Fin 8208) (j : Fin 1024) : rowOut m c (real b p) j = val m c (ix3 b p j) := by
  unfold val rowOut
  rw [Cert.ConvReferenceIdeal.Rows.block_apply, hid_real, prev_real m c 2 (by omega), prev_real m c 1 (by omega)]
  rfl

/-- The real rows of an array of padded rows. -/
theorem slice_apply (x : FVec Ideal S33792x1024 .f32) (b : Fin 4) (p : Fin 8208) (j : Fin 1024) :
    extractStridedSlice S4x8208x1024 ![0, 128, 0] (shapeCast S4x8448x1024 x shapeCasts_S33792x1024_S4x8448x1024) slices_S4x8448x1024_S4x8208x1024_0_128_0 (ix3 b p j)
      = x (ix2 (real b p) j) := by
  unfold real
  pointwise

/-- THE RESULT: what the host lines after the region leave is the reference's result. -/
theorem tail_eq : Pipeline.afterTail₀ cfgs (dats m) 0 (V0 m) [hostOps1] c main_v24 = val m c := by
  have e : Pipeline.afterTail₀ cfgs (dats m) 0 (V0 m) [hostOps1] c main_v24
      = extractStridedSlice S4x8208x1024 ![0, 128, 0] (shapeCast S4x8448x1024 (rows m c) shapeCasts_S33792x1024_S4x8448x1024) slices_S4x8448x1024_S4x8208x1024_0_128_0 := by
    have h : Pipeline.withArrays spec0 c (V0 m c) (fun w => (dats m 0 c).arrAt w cfg0.N) (Proc.devRef .tc main_v22) = rows m c :=
      (Pipeline.withArrays_arr spec0 (by decide : Function.Injective (Pipeline.arrRef spec0)) c (V0 m c) (fun w => (dats m 0 c).arrAt w cfg0.N) 7).trans (final m c)
    rw [← h]
    unfold Pipeline.afterTail₀
    show StableHlo.after hostOps1 _ _ = _
    after_results_simp
    rfl
  rw [e]
  funext y
  obtain ⟨b, p, j, rfl⟩ : ∃ (b : Fin 4) (p : Fin 8208) (j : Fin 1024), y = ix3 b p j := ⟨y 0, y 1, y 2, by funext a; fin_cases a <;> rfl⟩
  exact (slice_apply (rows m c) b p j).trans (rowOut_real m c b p j)

/-- The rows before each batch element's real rows in an array of padded rows. -/
theorem front_apply (x : FVec Ideal S33792x1024 .f32) (b : Fin 4) (p : Fin 128) (j : Fin 1024) :
    extractStridedSlice S4x128x1024 ![0, 0, 0] (shapeCast S4x8448x1024 x shapeCasts_S33792x1024_S4x8448x1024) slices_S4x8448x1024_S4x128x1024_0_0_0 (ix3 b p j)
      = x (ix2 (⟨b.val * 8448 + p.val, by omega⟩ : Fin 33792) j) := by
  pointwise

/-- The layer leaves zeros in the rows before each batch element's real rows. -/
theorem rowOut_front (b : Fin 4) (p : Fin 128) (j : Fin 1024) : rowOut m c (⟨b.val * 8448 + p.val, by omega⟩ : Fin 33792) j = 0 := by
  have e : hid m c (⟨b.val * 8448 + p.val, by omega⟩ : Fin 33792) = fun _ => 0 := funext fun k => Prep.hidden_pad m c b p k
  unfold rowOut
  rw [e, convRow_zero, mix_zero, mlp_zero]

/-- Zeros, the reference's second result. -/
def front : Buf (Elt Ideal) ((c : Thread nD τ).loc main_v25) := Cert.ConvReferenceIdeal.Read.val_main_v109 (F := Ideal)

/-- It is zero at every index. -/
theorem front_zero (b : Fin 4) (p : Fin 128) (j : Fin 1024) : Cert.ConvReferenceIdeal.Read.val_main_v109 (F := Ideal) (ix3 b p j) = (0 : EReal) := by
  unfold Cert.ConvReferenceIdeal.Read.val_main_v109 Cert.ConvReferenceIdeal.Read.val_main_cst_11
  pointwise

/-- THE SECOND RESULT: the rows before each batch element's real rows come out as zeros. -/
theorem tail_front : Pipeline.afterTail₀ cfgs (dats m) 0 (V0 m) [hostOps1] c main_v25 = front c := by
  have e : Pipeline.afterTail₀ cfgs (dats m) 0 (V0 m) [hostOps1] c main_v25
      = extractStridedSlice S4x128x1024 ![0, 0, 0] (shapeCast S4x8448x1024 (rows m c) shapeCasts_S33792x1024_S4x8448x1024) slices_S4x8448x1024_S4x128x1024_0_0_0 := by
    have h : Pipeline.withArrays spec0 c (V0 m c) (fun w => (dats m 0 c).arrAt w cfg0.N) (Proc.devRef .tc main_v22) = rows m c :=
      (Pipeline.withArrays_arr spec0 (by decide : Function.Injective (Pipeline.arrRef spec0)) c (V0 m c) (fun w => (dats m 0 c).arrAt w cfg0.N) 7).trans (final m c)
    rw [← h]
    unfold Pipeline.afterTail₀
    show StableHlo.after hostOps1 _ _ = _
    after_results_simp
    rfl
  rw [e]
  funext y
  obtain ⟨b, p, j, rfl⟩ : ∃ (b : Fin 4) (p : Fin 128) (j : Fin 1024), y = ix3 b p j := ⟨y 0, y 1, y 2, by funext a; fin_cases a <;> rfl⟩
  refine (front_apply (rows m c) b p j).trans ((rowOut_front m c b p j).trans (front_zero b p j).symm)

end Cert.ConvIdeal.Result

end
-- ==== Proof.Conv.Claims.lean ====
/- The claims about the short-convolution call: its frames, its idealization's ledger, and its equality with the reference over
   the extended reals. -/
module

public import proofs.«01_k».proof.Defs
public import proofs.«01_k».proof.Proof.Conv.Result
public import proofs.«01_k».proof.Proof.Gen.Conv.Frame
public import proofs.«01_k».proof.Proof.Gen.ConvReferenceIdeal.Run

@[expose] public section

noncomputable section

namespace Cert.Proof.ShortConv

open Idealize.ShloMosaic Idealize.ShloMosaic.TcCoe Idealize.SL.Sem

/-- The call terminates, leaves its arguments, and ends with every semaphore at zero. -/
theorem frame_p : Cert.quiescent_Conv := fun m ρ _ => Cert.Conv.Gen.frame m ρ

/-- So does its idealization. -/
theorem frame_pi : Cert.quiescent_ConvIdeal := fun m ρ _ => Cert.ConvIdeal.Gen.frame m ρ

/-- So does the reference, which has no semaphores. -/
theorem frame_ri : Cert.quiescent_ConvReferenceIdeal := fun m ρ _ =>
  (θ_run Cert.ConvReferenceIdeal.defs _ _).mono (fun r h => ⟨fun c => (h c).2.2, sem_eq_zero_of_no_sems (by decide) r.2⟩)
    (Cert.ConvReferenceIdeal.Value.run (F := Ideal) m ρ)

/-- The idealization replaced nothing, so there is nothing to preserve. -/
theorem preserves : Cert.preserves_Conv_ConvIdeal := trivial

/-- On arguments that agree, the call's result and the reference's are one array of extended reals, and the rows before each batch
element's first come out as zeros. -/
theorem algebraic : Cert.algebraic_ConvIdeal_ConvReferenceIdeal := by
  intro m ρ m' ρ' _ hagree
  refine ⟨fun c => Cert.ConvIdeal.Result.val m c, fun c => Cert.ConvIdeal.Result.front c, ?_, ?_⟩
  · refine (θ_run Cert.ConvIdeal.defs _ _).mono (fun r h c => ?_)
      (θ_run_and (Cert.ConvIdeal.Gen.run_main (F := Ideal) m ρ) (Cert.ConvIdeal.Gen.unchanged m ρ))
    exact ⟨((h.1 c).2 Cert.ConvIdeal.main_v24 (by decide)).trans (Cert.ConvIdeal.Result.tail_eq m c),
      ((h.1 c).2 Cert.ConvIdeal.main_v25 (by decide)).trans (Cert.ConvIdeal.Result.tail_front m c), h.2 c⟩
  · refine (θ_run Cert.ConvReferenceIdeal.defs _ _).mono (fun r h c => ?_) (Cert.ConvReferenceIdeal.Value.run (F := Ideal) m' ρ')
    refine ⟨(h c).1.trans ((Cert.ConvReferenceIdeal.Read.val_main_v108_eq (F := Ideal) (fun b => m' (c, b))).trans ?_), (h c).2.1, (h c).2.2⟩
    obtain ⟨h0, h1, h2, h3, h4, h5, h6, h7⟩ := hagree c
    rw [h0, h1, h2, h3, h4, h5, h6, h7]
    rfl

end Cert.Proof.ShortConv

end
-- ==== Proof.Mlp.Prep.lean ====
/- The arrays the second-to-last layer's feed-forward call finds, read at an index: the hidden states and the heads' outputs between their padding rows,
   and the layer's gains and weights. -/
module

public import proofs.«01_k».proof.Proof.Gen.MlpIdeal.Frame
public import Idealize.ShloMosaic.Lib.StableHlo.Run
public import Idealize.ShloMosaic.Lib.Pointwise

@[expose] public section

noncomputable section

namespace Cert.MlpIdeal.Prep

open Cert.MlpIdeal Cert.MlpIdeal.Gen Idealize.ShloMosaic Idealize.ShloMosaic.TcCoe
open scoped BigOperators

variable (m : (ℓ : Loc nD τ sig) → Buf (Elt Ideal) ℓ) (c : Dev nD)

/-- The layer's gains. -/
theorem gains_apply (a : Fin 4) (k : Fin 1024) :
    V m c main_v9 (ix2 a k) = m ((c : Thread nD τ).loc main_arg2) (ix3 2 a k) := by
  have e : V m c main_v9 = shapeCast S4x1024 (extractStridedSlice S1x4x1024 ![2, 0, 0] (m ((c : Thread nD τ).loc main_arg2)) slices_S4x4x1024_S1x4x1024_2_0_0) shapeCasts_S1x4x1024_S4x1024 := by
    show StableHlo.after hostOps0 (fun b => m (c, b)) (Proc.devRef .tc main_v9) = _
    after_results_simp
    rfl
  rw [e]
  pointwise

/-- The output projection. -/
theorem wo_apply (k f : Fin 1024) :
    V m c main_v18 (ix2 k f) = m ((c : Thread nD τ).loc main_arg3) (ix3 0 k f) := by
  have e : V m c main_v18 = truncf (F := Ideal) .bf16 (shapeCast S1024x1024 (extractStridedSlice S1x1024x1024 ![0, 0, 0] (m ((c : Thread nD τ).loc main_arg3)) slices_S2x1024x1024_S1x1024x1024_0_0_0) shapeCasts_S1x1024x1024_S1024x1024) bitsLt_bf16_f32 := by
    show StableHlo.after hostOps0 (fun b => m (c, b)) (Proc.devRef .tc main_v18) = _
    after_results_simp
    rfl
  rw [e]
  pointwise

/-- The feed-forward network's first weight. -/
theorem w1_apply (k : Fin 1024) (f : Fin 4096) :
    V m c main_v12 (ix2 k f) = m ((c : Thread nD τ).loc main_arg4) (ix3 2 k f) := by
  have e : V m c main_v12 = truncf (F := Ideal) .bf16 (shapeCast S1024x4096 (extractStridedSlice S1x1024x4096 ![2, 0, 0] (m ((c : Thread nD τ).loc main_arg4)) slices_S4x1024x4096_S1x1024x4096_2_0_0) shapeCasts_S1x1024x4096_S1024x4096) bitsLt_bf16_f32 := by
    show StableHlo.after hostOps0 (fun b => m (c, b)) (Proc.devRef .tc main_v12) = _
    after_results_simp
    rfl
  rw [e]
  pointwise

/-- The feed-forward network's second weight. -/
theorem w2_apply (f : Fin 4096) (k : Fin 1024) :
    V m c main_v15 (ix2 f k) = m ((c : Thread nD τ).loc main_arg5) (ix3 2 f k) := by
  have e : V m c main_v15 = truncf (F := Ideal) .bf16 (shapeCast S4096x1024 (extractStridedSlice S1x4096x1024 ![2, 0, 0] (m ((c : Thread nD τ).loc main_arg5)) slices_S4x4096x1024_S1x4096x1024_2_0_0) shapeCasts_S1x4096x1024_S4096x1024) bitsLt_bf16_f32 := by
    show StableHlo.after hostOps0 (fun b => m (c, b)) (Proc.devRef .tc main_v15) = _
    after_results_simp
    rfl
  rw [e]
  pointwise

/-- The padded hidden states, batch element by batch element. -/
theorem hidden_apply (b : Fin 4) (p : Fin 8208) (j : Fin 1024) :
    V m c main_v1 (ix2 (⟨b.val * 8448 + (128 + p.val), by omega⟩ : Fin 33792) j) = m ((c : Thread nD τ).loc main_arg0) (ix3 b p j) := by
  have e : V m c main_v1 = shapeCast S33792x1024 (concatenate S4x8448x1024 1
      [⟨S4x128x1024, m ((c : Thread nD τ).loc main_arg6)⟩,
        ⟨S4x8208x1024, m ((c : Thread nD τ).loc main_arg0)⟩,
        ⟨S4x112x1024, m ((c : Thread nD τ).loc main_arg7)⟩]
      concatenates_S4x128x1024_S4x8208x1024_S4x112x1024_S4x8448x1024_d1) shapeCasts_S4x8448x1024_S33792x1024 := by
    show StableHlo.after hostOps0 (fun b => m (c, b)) (Proc.devRef .tc main_v1) = _
    after_results_simp
    rfl
  rw [e]
  generalize m ((c : Thread nD τ).loc main_arg0) = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

/-- The padded heads' outputs: head pair `q`, lane `l` is head `2 q + l / 64`, coordinate `l % 64`. -/
theorem heads_apply (b : Fin 4) (p : Fin 8208) (q : Fin 8) (l : Fin 128) :
    V m c main_v7 (ix3 q (⟨b.val * 8448 + (128 + p.val), by omega⟩ : Fin 33792) l)
      = m ((c : Thread nD τ).loc main_arg1) (ix4 b (⟨q.val * 2 + l.val / 64, by omega⟩ : Fin 16) p (⟨l.val % 64, by omega⟩ : Fin 64)) := by
  have e : V m c main_v7 = shapeCast S8x33792x128 (concatenate S8x4x8448x128 2
      [⟨S8x4x128x128, m ((c : Thread nD τ).loc main_arg8)⟩,
        ⟨S8x4x8208x128, truncf (F := Ideal) .bf16 (shapeCast S8x4x8208x128 (transpose S8x4x8208x2x64 [1, 0, 3, 2, 4]
          (shapeCast S4x8x2x8208x64 (m ((c : Thread nD τ).loc main_arg1)) shapeCasts_S4x16x8208x64_S4x8x2x8208x64)
          transposes_S4x8x2x8208x64_S8x4x8208x2x64_1_0_3_2_4) shapeCasts_S8x4x8208x2x64_S8x4x8208x128) bitsLt_bf16_f32⟩,
        ⟨S8x4x112x128, m ((c : Thread nD τ).loc main_arg9)⟩]
      concatenates_S8x4x128x128_S8x4x8208x128_S8x4x112x128_S8x4x8448x128_d2) shapeCasts_S8x4x8448x128_S8x33792x128 := by
    show StableHlo.after hostOps0 (fun b => m (c, b)) (Proc.devRef .tc main_v7) = _
    after_results_simp
    rfl
  have e' : ∀ x : FVec Ideal S4x16x8208x64 .f32, truncf (F := Ideal) .bf16 (shapeCast S8x4x8208x128 (transpose S8x4x8208x2x64 [1, 0, 3, 2, 4]
          (shapeCast S4x8x2x8208x64 x shapeCasts_S4x16x8208x64_S4x8x2x8208x64)
          transposes_S4x8x2x8208x64_S8x4x8208x2x64_1_0_3_2_4) shapeCasts_S8x4x8208x2x64_S8x4x8208x128) bitsLt_bf16_f32 (ix4 q b p l)
        = x (ix4 b (⟨q.val * 2 + l.val / 64, by omega⟩ : Fin 16) p (⟨l.val % 64, by omega⟩ : Fin 64)) := fun x => by
    pointwise
  rw [e, ← e' (m ((c : Thread nD τ).loc main_arg1))]
  generalize truncf (F := Ideal) .bf16 _ _ = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

end Cert.MlpIdeal.Prep

end
-- ==== Proof.Mlp.Ref.lean ====
/- The reference's result for the layer before the last, read at a row and a column: the mixer block and the feed-forward block (`Cert.Row`) of the row's
   input and of its heads' outputs. -/
module

public import proofs.«01_k».proof.Proof.Gen.MlpReferenceIdeal.Read
public import proofs.«01_k».proof.Proof.Row
public import Idealize.ShloMosaic.Lib.Pointwise

@[expose] public section

noncomputable section

namespace Cert.MlpReferenceIdeal.Rows

open Cert.MlpReferenceIdeal Cert.MlpReferenceIdeal.Gen Cert.MlpReferenceIdeal.Read Cert.Row Idealize.ShloMosaic
open scoped BigOperators

variable (x0 : (⟨S4x8208x1024, .f32⟩ : BufTy).Contents (Elt Ideal)) (x1 : (⟨S4x16x8208x64, .f32⟩ : BufTy).Contents (Elt Ideal))
  (x2 : (⟨S4x4x1024, .f32⟩ : BufTy).Contents (Elt Ideal)) (x3 : (⟨S2x1024x1024, .f32⟩ : BufTy).Contents (Elt Ideal))
  (x4 : (⟨S4x1024x4096, .f32⟩ : BufTy).Contents (Elt Ideal)) (x5 : (⟨S4x4096x1024, .f32⟩ : BufTy).Contents (Elt Ideal))

/-- The layer's four gain rows. -/
theorem gains_apply (a : Fin 4) (k : Fin 1024) : val_main_v1 (F := Ideal) x2 (ix2 a k) = x2 (ix3 2 a k) := by
  unfold val_main_v1 val_main_v0
  pointwise

/-- The output projection. -/
theorem wo_apply (k f : Fin 1024) : val_main_v5 (F := Ideal) x3 (ix2 k f) = x3 (ix3 0 k f) := by
  unfold val_main_v5 val_main_v4
  pointwise

/-- The heads' outputs, concatenated along a row. -/
theorem heads_apply (b : Fin 4) (p : Fin 8208) (k : Fin 1024) :
    val_main_v3 (F := Ideal) x1 (ix3 b p k) = x1 (ix4 b (⟨k.val / 64, by omega⟩ : Fin 16) p (⟨k.val % 64, by omega⟩ : Fin 64)) := by
  unfold val_main_v3 val_main_v2
  pointwise

/-- The mixer block. -/
theorem mix_apply (b : Fin 4) (p : Fin 8208) (j : Fin 1024) :
    val_main_v22 (F := Ideal) x0 x1 x2 x3 (ix3 b p j)
      = mix (fun k => x0 (ix3 b p k)) (fun k : Fin 1024 => x1 (ix4 b (⟨k.val / 64, by omega⟩ : Fin 16) p (⟨k.val % 64, by omega⟩ : Fin 64)))
          (fun k => x2 (ix3 2 1 k)) (fun k f => x3 (ix3 0 k f)) j := by
  have hd : ∀ j, val_main_v6 (F := Ideal) x1 x3 (ix3 b p j) = lin (fun k : Fin 1024 => x1 (ix4 b (⟨k.val / 64, by omega⟩ : Fin 16) p (⟨k.val % 64, by omega⟩ : Fin 64)))
      (fun k f => x3 (ix3 0 k f)) j := fun j => by
    unfold val_main_v6 lin
    pointwise [dot_S4x8208x1024_S1024x1024_S4x8208x1024_2_0_01_1_n_n, heads_apply, wo_apply]
  unfold val_main_v22 val_main_v21 val_main_v20 val_main_v19 val_main_v18 val_main_v17 val_main_v16 val_main_v15 val_main_v14 val_main_v13 val_main_v12
    val_main_v11 val_main_v10 val_main_v9 val_main_v8 val_main_v7 mix rms cLen cEps val_main_cst val_main_cst_0 val_main_cst_1
  pointwise [hd, gains_apply]

/-- The feed-forward block's normalized input. -/
theorem norm_apply (b : Fin 4) (p : Fin 8208) (j : Fin 1024) :
    val_main_v37 (F := Ideal) x0 x1 x2 x3 (ix3 b p j)
      = rms (fun k => val_main_v22 (F := Ideal) x0 x1 x2 x3 (ix3 b p k)) (fun k => x2 (ix3 2 2 k)) j := by
  unfold val_main_v37 val_main_v36 val_main_v35 val_main_v34 val_main_v33 val_main_v32 val_main_v31 val_main_v30 val_main_v29 val_main_v28
    val_main_v27 val_main_v26 val_main_v25 val_main_v24 val_main_v23 rms cLen cEps val_main_cst_2 val_main_cst_3 val_main_cst_4
  generalize val_main_v22 (F := Ideal) x0 x1 x2 x3 = y
  pointwise [gains_apply]

/-- The feed-forward network's output. -/
theorem ff_apply (b : Fin 4) (p : Fin 8208) (j : Fin 1024) :
    val_main_v45 (F := Ideal) x0 x1 x2 x3 x4 x5 (ix3 b p j)
      = ff (fun k => val_main_v37 (F := Ideal) x0 x1 x2 x3 (ix3 b p k)) (fun k f => x4 (ix3 2 k f)) (fun f k => x5 (ix3 2 f k)) j := by
  unfold val_main_v45 val_main_v44 val_main_v43 val_main_call0_v0 val_main_call0_cst val_main_v42 val_main_v41 val_main_v40 val_main_v39 val_main_v38 ff sqrelu lin
  generalize val_main_v37 (F := Ideal) x0 x1 x2 x3 = y
  pointwise [dot_S4x8208x1024_S1024x4096_S4x8208x4096_2_0_01_1_n_n, dot_S4x8208x4096_S4096x1024_S4x8208x1024_2_0_01_1_n_n]

/-- The whole block at a batch element and a position. -/
theorem block_apply (b : Fin 4) (p : Fin 8208) (j : Fin 1024) :
    val_main_v61 (F := Ideal) x0 x1 x2 x3 x4 x5 (ix3 b p j)
      = mlp (mix (fun k => x0 (ix3 b p k)) (fun k : Fin 1024 => x1 (ix4 b (⟨k.val / 64, by omega⟩ : Fin 16) p (⟨k.val % 64, by omega⟩ : Fin 64)))
            (fun k => x2 (ix3 2 1 k)) (fun k f => x3 (ix3 0 k f)))
          (fun k => x2 (ix3 2 2 k)) (fun k => x2 (ix3 2 3 k)) (fun k f => x4 (ix3 2 k f)) (fun f k => x5 (ix3 2 f k)) j := by
  have h : val_main_v61 (F := Ideal) x0 x1 x2 x3 x4 x5 (ix3 b p j)
      = val_main_v22 (F := Ideal) x0 x1 x2 x3 (ix3 b p j)
        + rms (fun k => val_main_v45 (F := Ideal) x0 x1 x2 x3 x4 x5 (ix3 b p k)) (fun k => x2 (ix3 2 3 k)) j := by
    unfold val_main_v61 val_main_v60 val_main_v59 val_main_v58 val_main_v57 val_main_v56 val_main_v55 val_main_v54 val_main_v53 val_main_v52
      val_main_v51 val_main_v50 val_main_v49 val_main_v48 val_main_v47 val_main_v46 rms cLen cEps val_main_cst_5 val_main_cst_6 val_main_cst_7
    generalize val_main_v22 (F := Ideal) x0 x1 x2 x3 = y
    generalize val_main_v45 (F := Ideal) x0 x1 x2 x3 x4 x5 = z
    pointwise [gains_apply]
  rw [h]
  simp only [ff_apply, norm_apply, mix_apply]
  rfl

end Cert.MlpReferenceIdeal.Rows

end
-- ==== Proof.Mlp.Array.lean ====
/- The result array of the feed-forward call of the layer before the last: each point's block is the block function of its rows,
   and the blocks tile the array; its real rows are the reference's result. -/
module

public import proofs.«01_k».proof.Proof.Gen.MlpIdeal.Frame
public import proofs.«01_k».proof.Proof.Mlp.Prep
public import Idealize.ShloMosaic.Lib.Pipeline.ValueKit
public import proofs.«01_k».proof.Proof.Block
public import proofs.«01_k».proof.Proof.Mlp.Ref

@[expose] public section

noncomputable section

namespace Cert.MlpIdeal.Array

open Cert.MlpIdeal Cert.MlpIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads and of the rows it writes. -/
theorem index_facts : ∀ t : Fin grid0.N,
    (win0_0.index t 0 = t.val ∧ win0_0.index t 1 = 0)
    ∧ (win0_1.index t 0 = 0 ∧ win0_1.index t 1 = t.val ∧ win0_1.index t 2 = 0)
    ∧ (win0_6.index t 0 = t.val ∧ win0_6.index t 1 = 0) := by
  decide +kernel

/-- The windows of the gains and the weights begin at zero at every point. -/
theorem index_zero : ∀ (t : Fin grid0.N) (a : Fin 2),
    win0_2.index t a = 0 ∧ win0_3.index t a = 0 ∧ win0_4.index t a = 0 ∧ win0_5.index t a = 0 := by
  decide +kernel

/-- Row `R` of the padded hidden states. -/
def hid (R : Fin 33792) (k : Fin 1024) : EReal := V m c main_v1 (ix2 R k)
/-- Row `R` of the padded heads' outputs, head pairs side by side. -/
def heads (R : Fin 33792) (k : Fin 1024) : EReal :=
  V m c main_v7 (ix3 (⟨k.val / 128, by omega⟩ : Fin 8) R (⟨k.val % 128, by omega⟩ : Fin 128))
/-- The layer's gain row `a`. -/
def gain (a : Fin 4) (k : Fin 1024) : EReal := m ((c : Thread nD τ).loc main_arg2) (ix3 2 a k)
/-- The output projection. -/
def wo (k f : Fin 1024) : EReal := m ((c : Thread nD τ).loc main_arg3) (ix3 0 k f)
/-- The feed-forward network's first weight. -/
def w1 (k : Fin 1024) (f : Fin 4096) : EReal := m ((c : Thread nD τ).loc main_arg4) (ix3 2 k f)
/-- The feed-forward network's second weight. -/
def w2 (f : Fin 4096) (k : Fin 1024) : EReal := m ((c : Thread nD τ).loc main_arg5) (ix3 2 f k)
/-- The layer's result at row `R`. -/
def rowOut (R : Fin 33792) : Fin 1024 → EReal :=
  mlp (mix (hid m c R) (heads m c R) (gain m c 1) (wo m c)) (gain m c 2) (gain m c 3) (w1 m c) (w2 m c)

/-- Row `r` of point `t`'s block. -/
def at_ (t : Fin grid0.N) (r : Fin 512) : Fin 33792 := ⟨t.val * 512 + r.val, by have := t.isLt; have := N_0; omega⟩

/-- Point `t`'s block of the hidden states. -/
theorem hidden_block (t : Fin grid0.N) (r : Fin 512) (k : Fin 1024) : iblk m c 0 t (ix2 r k) = hid m c (at_ t r) k := by
  show V m c main_v1 ((win0_0.rect t).emb (ix2 r k)) = V m c main_v1 (ix2 (at_ t r) k)
  congr 1
  obtain ⟨⟨h0, h1⟩, -, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- An array read through point `t`'s block of the heads' outputs, at an index. -/
theorem heads_read (x : Buf (Elt Ideal) ((c : Thread nD τ).loc main_v7)) (t : Fin grid0.N) (y : S8x512x128.Idx) :
    ((cfg0.win 1).blk t).view.read (Elt Ideal) x y = x ((win0_1.rect t).emb y) := rfl

/-- Point `t`'s block of the heads' outputs. -/
theorem heads_block (t : Fin grid0.N) (r : Fin 512) (k : Fin 1024) :
    iblk m c 1 t (ix3 (⟨k.val / 128, by omega⟩ : Fin 8) r (⟨k.val % 128, by omega⟩ : Fin 128)) = heads m c (at_ t r) k := by
  have e : (win0_1.rect t).emb (ix3 (⟨k.val / 128, by omega⟩ : Fin 8) r (⟨k.val % 128, by omega⟩ : Fin 128))
      = ix3 (⟨k.val / 128, by omega⟩ : Fin 8) (at_ t r) (⟨k.val % 128, by omega⟩ : Fin 128) := by
    obtain ⟨-, ⟨h0, h1, h2⟩, -⟩ := index_facts t
    funext a
    apply Fin.ext
    rw [Pipeline.Window.rect_emb_val_off]
    fin_cases a
    · show win0_1.index t 0 * 8 + k.val / 128 = k.val / 128
      rw [h0]; omega
    · show win0_1.index t 1 * 512 + r.val = t.val * 512 + r.val
      rw [h1]
    · show win0_1.index t 2 * 128 + k.val % 128 = k.val % 128
      rw [h2]; omega
  exact (heads_read c (V m c main_v7) t _).trans (congrArg (V m c main_v7) e)

/-- Every point's block of the gains is the whole array. -/
theorem gains_block (t : Fin grid0.N) (a : Fin 4) (k : Fin 1024) :
    iblk m c 2 t (ix2 a k) = gain m c a k := by
  refine Eq.trans ?_ (Prep.gains_apply m c a k)
  show V m c main_v9 ((win0_2.rect t).emb (ix2 a k)) = _
  congr 1
  funext b
  apply Fin.ext
  rw [Pipeline.Window.rect_emb_val_of_index_zero _ _ _ (index_zero t b).1]

/-- Every point's block of the output projection is the whole array. -/
theorem wo_block (t : Fin grid0.N) (k f : Fin 1024) :
    iblk m c 3 t (ix2 k f) = wo m c k f := by
  refine Eq.trans ?_ (Prep.wo_apply m c k f)
  show V m c main_v18 ((win0_3.rect t).emb (ix2 k f)) = _
  congr 1
  funext b
  apply Fin.ext
  rw [Pipeline.Window.rect_emb_val_of_index_zero _ _ _ (index_zero t b).2.1]

/-- Every point's block of the first feed-forward weight is the whole array. -/
theorem w1_block (t : Fin grid0.N) (k : Fin 1024) (f : Fin 4096) :
    iblk m c 4 t (ix2 k f) = w1 m c k f := by
  refine Eq.trans ?_ (Prep.w1_apply m c k f)
  show V m c main_v12 ((win0_4.rect t).emb (ix2 k f)) = _
  congr 1
  funext b
  apply Fin.ext
  rw [Pipeline.Window.rect_emb_val_of_index_zero _ _ _ (index_zero t b).2.2.1]

/-- Every point's block of the second feed-forward weight is the whole array. -/
theorem w2_block (t : Fin grid0.N) (f : Fin 4096) (k : Fin 1024) :
    iblk m c 5 t (ix2 f k) = w2 m c f k := by
  refine Eq.trans ?_ (Prep.w2_apply m c f k)
  show V m c main_v15 ((win0_5.rect t).emb (ix2 f k)) = _
  congr 1
  funext b
  apply Fin.ext
  rw [Pipeline.Window.rect_emb_val_of_index_zero _ _ _ (index_zero t b).2.2.2]

/-- What the body computes of its blocks is what the last layer's body computes of them: their texts are the same. -/
theorem out_same (x0 : Vec Ideal S512x1024 .f32) (x1 : Vec Ideal S8x512x128 .bf16) (x2 : Vec Ideal S4x1024 .f32) (x3 : Vec Ideal S1024x1024 .bf16)
    (x4 : Vec Ideal S1024x4096 .bf16) (x5 : Vec Ideal S4096x1024 .bf16) :
    out0_6 x0 x1 x2 x3 x4 x5 = Cert.KernelIdeal.Gen.out0_6 (F := Ideal) x0 x1 x2 x3 x4 x5 := rfl

/-- What point `t` computes at row `r` of its block is the layer's result at that row. -/
theorem out_block (t : Fin cfg0.N) (r : Fin 512) (j : Fin 1024) :
    out0_6 (iblk m c 0 t) (iblk m c 1 t) (iblk m c 2 t) (iblk m c 3 t) (iblk m c 4 t) (iblk m c 5 t) (ix2 r j) = rowOut m c (at_ t r) j := by
  unfold rowOut
  rw [out_same]
  refine (Cert.KernelIdeal.Block.out_apply _ _ _ _ _ _ r j).trans ?_
  simp only [hidden_block, heads_block, gains_block, wo_block, w1_block, w2_block]

/-- The layer's result at every padded row. -/
def rows : Buf (Elt Ideal) ((c : Thread nD τ).loc main_v19) := fun (i : S33792x1024.Idx) => rowOut m c (i 0) (i 1)

/-- WHAT POINT `t` WRITES BACK is its block of the result. -/
theorem flushed_eq (t : Fin cfg0.N) :
    (dats m 0 c).flushed 6 t = ((cfg0.win 6).blk t).view.read (Elt Ideal) (rows m c) := by
  show (cfg0.win 6).cut (grid0.coords t) ((dats m 0 c).after 6 t) = _
  rw [after0_6]
  obtain ⟨-, -, h0, h1⟩ := index_facts t
  funext y
  obtain ⟨r, j, rfl⟩ : ∃ (r : Fin 512) (j : Fin 1024), y = ix2 r j := ⟨y 0, y 1, by funext a; fin_cases a <;> rfl⟩
  refine (out_block m c t r j).trans ?_
  show rows m c (ix2 (at_ t r) j) = rows m c ((win0_6.rect t).emb (ix2 r j))
  congr 1
  funext a
  apply Fin.ext
  rw [Pipeline.Window.rect_emb_val_off]
  fin_cases a
  · show t.val * 512 + r.val = win0_6.index t 0 * 512 + r.val
    rw [h0]
  · show j.val = win0_6.index t 1 * 1024 + j.val
    rw [h1]; omega

/-- The written blocks tile the array. -/
theorem cover (i : S33792x1024.Idx) : ∃ t : Fin cfg0.N, (cfg0.win 6).flush t = true ∧ i ∈ ((cfg0.win 6).blk t).view.set := by
  have hi : (i 0).val < 33792 := (i 0).isLt
  have hj : (i 1).val < 1024 := (i 1).isLt
  let t : Fin cfg0.N := ⟨(i 0).val / 512, by have : cfg0.N = 66 := N_0; omega⟩
  refine ⟨t, flush0_6 t, ?_⟩
  obtain ⟨-, -, h0, h1⟩ := index_facts t
  show i ∈ ((View.whole main_v19).slice ((cfg0.win 6).rect t)).set
  erw [View.set_slice_whole]
  refine (Pipeline.Window.mem_rect_iff (cfg0.win 6) t i (by rfl)).mpr fun a => ?_
  fin_cases a
  · show win0_6.index t 0 * 512 ≤ (i 0).val ∧ (i 0).val < win0_6.index t 0 * 512 + 512
    rw [h0]; show (i 0).val / 512 * 512 ≤ _ ∧ _ < (i 0).val / 512 * 512 + 512
    omega
  · show win0_6.index t 1 * 1024 ≤ (i 1).val ∧ (i 1).val < win0_6.index t 1 * 1024 + 1024
    rw [h1]; omega

/-- THE RESULT ARRAY after the run is the layer's result at every row. -/
theorem final : (dats m 0 c).arrAt 6 cfg0.N = rows m c :=
  (dats m 0 c).arrAt_eq_of_cover 6 (rows m c) (fun t _ => flushed_eq m c t) cover

end Cert.MlpIdeal.Array

end
-- ==== Proof.Mlp.Result.lean ====
/- The feed-forward call's result for the layer before the last, the real rows of its result array, is the reference's. -/
module

public import proofs.«01_k».proof.Proof.Mlp.Array
public import proofs.«01_k».proof.Proof.Mlp.Ref

@[expose] public section

noncomputable section

namespace Cert.MlpIdeal.Result

open Cert.MlpIdeal Cert.MlpIdeal.Gen Cert.MlpIdeal.Array Cert.Row Idealize.ShloMosaic Idealize.ShloMosaic.TcCoe

variable (m : (ℓ : Loc nD τ sig) → Buf (Elt Ideal) ℓ) (c : Dev nD)

/-- The reference's result of the kernel's arguments. -/
def val : Buf (Elt Ideal) ((c : Thread nD τ).loc main_v21) :=
  Cert.MlpReferenceIdeal.Read.val_main_v61 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- Position `p` of batch element `b` among the padded rows. -/
def real (b : Fin 4) (p : Fin 8208) : Fin 33792 := ⟨b.val * 8448 + (128 + p.val), by omega⟩

/-- A batch element's hidden states. -/
theorem hid_real (b : Fin 4) (p : Fin 8208) : hid m c (real b p) = fun k => m ((c : Thread nD τ).loc main_arg0) (ix3 b p k) := by
  funext k
  exact Prep.hidden_apply m c b p k

/-- A batch element's heads' outputs, concatenated along a row. -/
theorem heads_real (b : Fin 4) (p : Fin 8208) :
    heads m c (real b p) = fun k : Fin 1024 => m ((c : Thread nD τ).loc main_arg1) (ix4 b (⟨k.val / 64, by omega⟩ : Fin 16) p (⟨k.val % 64, by omega⟩ : Fin 64)) := by
  funext k
  refine (Prep.heads_apply m c b p _ _).trans ?_
  congr 2 <;> exact Fin.ext (by show _ = _; simp only; omega)

/-- The layer's result at a real row is the reference's. -/
theorem rowOut_real (b : Fin 4) (p : Fin 8208) (j : Fin 1024) : rowOut m c (real b p) j = val m c (ix3 b p j) := by
  unfold val rowOut
  rw [Cert.MlpReferenceIdeal.Rows.block_apply, hid_real, heads_real]
  rfl

/-- The real rows of an array of padded rows. -/
theorem slice_apply (x : FVec Ideal S33792x1024 .f32) (b : Fin 4) (p : Fin 8208) (j : Fin 1024) :
    extractStridedSlice S4x8208x1024 ![0, 128, 0] (shapeCast S4x8448x1024 x shapeCasts_S33792x1024_S4x8448x1024) slices_S4x8448x1024_S4x8208x1024_0_128_0 (ix3 b p j)
      = x (ix2 (real b p) j) := by
  unfold real
  pointwise

/-- THE RESULT: what the host lines after the region leave is the reference's result. -/
theorem tail_eq : Pipeline.afterTail₀ cfgs (dats m) 0 (V0 m) [hostOps1] c main_v21 = val m c := by
  have e : Pipeline.afterTail₀ cfgs (dats m) 0 (V0 m) [hostOps1] c main_v21
      = extractStridedSlice S4x8208x1024 ![0, 128, 0] (shapeCast S4x8448x1024 (rows m c) shapeCasts_S33792x1024_S4x8448x1024) slices_S4x8448x1024_S4x8208x1024_0_128_0 := by
    have h : Pipeline.withArrays spec0 c (V0 m c) (fun w => (dats m 0 c).arrAt w cfg0.N) (Proc.devRef .tc main_v19) = rows m c :=
      (Pipeline.withArrays_arr spec0 (by decide : Function.Injective (Pipeline.arrRef spec0)) c (V0 m c) (fun w => (dats m 0 c).arrAt w cfg0.N) 6).trans (final m c)
    rw [← h]
    unfold Pipeline.afterTail₀
    show StableHlo.after hostOps1 _ _ = _
    after_results_simp
    rfl
  rw [e]
  funext y
  obtain ⟨b, p, j, rfl⟩ : ∃ (b : Fin 4) (p : Fin 8208) (j : Fin 1024), y = ix3 b p j := ⟨y 0, y 1, y 2, by funext a; fin_cases a <;> rfl⟩
  exact (slice_apply (rows m c) b p j).trans (rowOut_real m c b p j)

end Cert.MlpIdeal.Result

end
-- ==== Proof.Mlp.Claims.lean ====
/- The claims about the feed-forward call of the layer before the last: its frames, its idealization's ledger, and its equality with the reference over
   the extended reals. -/
module

public import proofs.«01_k».proof.Defs
public import proofs.«01_k».proof.Proof.Mlp.Result
public import proofs.«01_k».proof.Proof.Gen.Mlp.Frame
public import proofs.«01_k».proof.Proof.Gen.MlpReferenceIdeal.Run

@[expose] public section

noncomputable section

namespace Cert.Proof.LayerTwo

open Idealize.ShloMosaic Idealize.ShloMosaic.TcCoe Idealize.SL.Sem

/-- The call terminates, leaves its arguments, and ends with every semaphore at zero. -/
theorem frame_p : Cert.quiescent_Mlp := fun m ρ _ => Cert.Mlp.Gen.frame m ρ

/-- So does its idealization. -/
theorem frame_pi : Cert.quiescent_MlpIdeal := fun m ρ _ => Cert.MlpIdeal.Gen.frame m ρ

/-- So does the reference, which has no semaphores. -/
theorem frame_ri : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The idealization replaced nothing, so there is nothing to preserve. -/
theorem preserves : Cert.preserves_Mlp_MlpIdeal := trivial

/-- On arguments that agree, the call's result and the reference's are one array of extended reals. -/
theorem algebraic : Cert.algebraic_MlpIdeal_MlpReferenceIdeal := by
  intro m ρ m' ρ' _ hagree
  refine ⟨fun c => Cert.MlpIdeal.Result.val m c, ?_, ?_⟩
  · refine (θ_run Cert.MlpIdeal.defs _ _).mono (fun r h c => ?_)
      (θ_run_and (Cert.MlpIdeal.Gen.run_main (F := Ideal) m ρ) (Cert.MlpIdeal.Gen.unchanged m ρ))
    exact ⟨((h.1 c).2 Cert.MlpIdeal.main_v21 (by decide)).trans (Cert.MlpIdeal.Result.tail_eq m c), h.2 c⟩
  · refine (θ_run Cert.MlpReferenceIdeal.defs _ _).mono (fun r h c => ?_) (Cert.MlpReferenceIdeal.Value.run (F := Ideal) m' ρ')
    refine ⟨(h c).1.trans ((Cert.MlpReferenceIdeal.Read.val_main_v61_eq (F := Ideal) m' c).trans ?_), (h c).2⟩
    obtain ⟨h0, h1, h2, h3, h4, h5, _⟩ := hagree c
    rw [h0, h1, h2, h3, h4, h5]
    rfl

end Cert.Proof.LayerTwo

end
-- ==== Proof.KeyValue.Prep.lean ====
/- The arrays the keys-and-values projection's call finds, read at an index: the hidden states between their padding rows, the gain row and the
   weights. -/
module

public import proofs.«01_k».proof.Proof.Gen.KeyValueIdeal.Frame
public import Idealize.ShloMosaic.Lib.StableHlo.Run
public import Idealize.ShloMosaic.Lib.Pointwise

@[expose] public section

noncomputable section

namespace Cert.KeyValueIdeal.Prep

open Cert.KeyValueIdeal Cert.KeyValueIdeal.Gen Idealize.ShloMosaic Idealize.ShloMosaic.TcCoe
open scoped BigOperators

variable (m : (ℓ : Loc nD τ sig) → Buf (Elt Ideal) ℓ) (c : Dev nD)

/-- The gain row. -/
theorem gain_apply (k : Fin 1024) : V m c main_v4 (ix2 (0 : Fin 1) k) = m ((c : Thread nD τ).loc main_arg1) (ix1 k) := by
  have e : V m c main_v4 = broadcastInDim S1x1024 ![1] bcast_S1024_S1x1024_1 (m ((c : Thread nD τ).loc main_arg1)) := by
    show StableHlo.after hostOps0 (fun b => m (c, b)) (Proc.devRef .tc main_v4) = _
    after_results_simp
  rw [e]
  pointwise

/-- The keys' and the values' weights, side by side. -/
def side (wk wv : FVec Ideal S1024x1024 .f32) (k : Fin 1024) (f : Fin 2048) : EReal :=
  if h : f.val < 1024 then wk (ix2 k (⟨f.val, h⟩ : Fin 1024)) else wv (ix2 k (⟨f.val - 1024, by omega⟩ : Fin 1024))

/-- The weights. -/
theorem w_apply (k : Fin 1024) (f : Fin 2048) :
    V m c main_v3 (ix2 k f) = side (m ((c : Thread nD τ).loc main_arg2)) (m ((c : Thread nD τ).loc main_arg3)) k f := by
  have e : V m c main_v3 = truncf (F := Ideal) .bf16 (concatenate S1024x2048 1 [⟨S1024x1024, m ((c : Thread nD τ).loc main_arg2)⟩, ⟨S1024x1024, m ((c : Thread nD τ).loc main_arg3)⟩] concatenates_S1024x1024_S1024x1024_S1024x2048_d1) bitsLt_bf16_f32 := by
    show StableHlo.after hostOps0 (fun b => m (c, b)) (Proc.devRef .tc main_v3) = _
    after_results_simp
    rfl
  rw [e]
  unfold side
  pointwise

/-- The padded hidden states, batch element by batch element. -/
theorem hidden_apply (b : Fin 4) (p : Fin 8208) (j : Fin 1024) :
    V m c main_v1 (ix2 (⟨b.val * 8448 + (128 + p.val), by omega⟩ : Fin 33792) j) = m ((c : Thread nD τ).loc main_arg0) (ix3 b p j) := by
  have e : V m c main_v1 = shapeCast S33792x1024 (concatenate S4x8448x1024 1
      [⟨S4x128x1024, m ((c : Thread nD τ).loc main_arg4)⟩,
        ⟨S4x8208x1024, m ((c : Thread nD τ).loc main_arg0)⟩,
        ⟨S4x112x1024, m ((c : Thread nD τ).loc main_arg5)⟩]
      concatenates_S4x128x1024_S4x8208x1024_S4x112x1024_S4x8448x1024_d1) shapeCasts_S4x8448x1024_S33792x1024 := by
    show StableHlo.after hostOps0 (fun b => m (c, b)) (Proc.devRef .tc main_v1) = _
    after_results_simp
    rfl
  rw [e]
  generalize m ((c : Thread nD τ).loc main_arg0) = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

end Cert.KeyValueIdeal.Prep

end
-- ==== Proof.KeyValue.Block.lean ====
/- What one grid point of the keys-and-values projection computes, read at a tile, a row and a lane of its block: the row's
   normalization and projection (`Cert.Row`), 128 columns to a tile. -/
module

public import proofs.«01_k».proof.Proof.Gen.KeyValueIdeal.Frame
public import proofs.«01_k».proof.Proof.Row
public import Idealize.ShloMosaic.Lib.Pointwise
public import Idealize.ShloMosaic.Lib.Pipeline.ValueKit

@[expose] public section

noncomputable section

namespace Cert.KeyValueIdeal.Block

open Cert.KeyValueIdeal Cert.KeyValueIdeal.Gen Cert.Row Idealize.ShloMosaic
open scoped BigOperators

/-- The zero offset. -/
theorem hz2 : (![0, 0] : Fin 2 → ℕ) = fun _ => 0 := by funext a; fin_cases a <;> rfl

/-- The projection of a row of the block. -/
theorem proj_apply (x0 : Vec Ideal S512x1024 .f32) (x1 : Vec Ideal S1x1024 .f32) (x2 : Vec Ideal S1024x2048 .bf16) (r : Fin 512) (f : Fin 2048) :
    k0_pay6 x0 x1 x2 (ix2 r f) = lin (rms (fun k => x0 (ix2 r k)) (fun k => x1 (ix2 0 k))) (fun k f => x2 (ix2 k f)) f := by
  unfold lin rms cLen cEps
  pointwise [k0_pay6, dot_S512x1024_S1024x2048_S512x2048_1_0_0_1_n_n]

/-- Tile `i 0` of a block of rows: 128 of its columns. -/
def tile (y : FVec Ideal S512x2048 .bf16) (i : S16x512x128.Idx) : EReal :=
  y (ix2 (⟨(i 1).val, (i 1).isLt⟩ : Fin 512) (⟨(i 0).val * 128 + (i 2).val, by have h0 : (i 0).val < 16 := (i 0).isLt; have h2 : (i 2).val < 128 := (i 2).isLt; omega⟩ : Fin 2048))

/-- A stored piece is its tile. -/
theorem piece (y : FVec Ideal S512x2048 .bf16) (q o : ℕ) (ho : o = q * 128) (hq : q < 16) (hs : S512x2048.Slices ![0, o] S512x128)
    (inb : ∀ a, (![q, 0, 0] : Fin 3 → ℕ) a + S1x512x128.size a ≤ S16x512x128.size a) (x : S1x512x128.Idx) :
    shapeCast S1x512x128 (extractStridedSlice S512x128 ![0, o] y hs) shapeCasts_S512x128_S1x512x128 x
      = tile y ((Rect.unit (s := S16x512x128) ![q, 0, 0] S1x512x128.size inb).emb x) := by
  obtain ⟨a, r, l, rfl⟩ : ∃ (a : Fin 1) (r : Fin 512) (l : Fin 128), x = ix3 a r l := ⟨x 0, x 1, x 2, by funext a; fin_cases a <;> rfl⟩
  have e : (Rect.unit (s := S16x512x128) ![q, 0, 0] S1x512x128.size inb).emb (ix3 a r l) = ix3 (⟨q, hq⟩ : Fin 16) r l := by
    funext b
    apply Fin.ext
    fin_cases b
    · show q + 1 * a.val = q
      omega
    · show 0 + 1 * r.val = r.val
      omega
    · show 0 + 1 * l.val = l.val
      omega
  rw [e]
  unfold tile
  pointwise
  subst ho
  rfl

/-- The block the body leaves: tile by tile, the projection of its rows. -/
theorem out_eq (x0 : Vec Ideal S512x1024 .f32) (x1 : Vec Ideal S1x1024 .f32) (x2 : Vec Ideal S1024x2048 .bf16) (i : S16x512x128.Idx) :
    out0_3 x0 x1 x2 i = tile (k0_pay6 x0 x1 x2) i := by
  have e0 : View.ld x0 r0_0 = x0 := View.ld_unit_zero (S := S512x1024) hz2 _ _
  have e1 : View.ld x1 r0_1 = x1 := View.ld_unit_zero (S := S1x1024) hz2 _ _
  have e2 : View.ld x2 r0_2 = x2 := View.ld_unit_zero (S := S1024x2048) hz2 _ _
  unfold out0_3 k0_pay19
  rw [e0, e1, e2]
  refine View.canon_apply_of_pieces (Val := Elt Ideal) (e := .bf16) (S := S16x512x128) (tile (k0_pay6 x0 x1 x2)) _ ?_ i (cover0_3 _ _ _ _ _ _ _ _ _ _ _ _ _ _ _ _ i)
  simp only [List.forall_mem_cons, List.forall_mem_nil, and_true]
  refine ⟨?_, ?_, ?_, ?_, ?_, ?_, ?_, ?_, ?_, ?_, ?_, ?_, ?_, ?_, ?_, ?_⟩
  · exact piece (k0_pay6 x0 x1 x2) 15 1920 rfl (by omega) slices_S512x2048_o0_1920_S512x128 inb_S16x512x128_S1x512x128_15_0_0
  · exact piece (k0_pay6 x0 x1 x2) 14 1792 rfl (by omega) slices_S512x2048_o0_1792_S512x128 inb_S16x512x128_S1x512x128_14_0_0
  · exact piece (k0_pay6 x0 x1 x2) 13 1664 rfl (by omega) slices_S512x2048_o0_1664_S512x128 inb_S16x512x128_S1x512x128_13_0_0
  · exact piece (k0_pay6 x0 x1 x2) 12 1536 rfl (by omega) slices_S512x2048_o0_1536_S512x128 inb_S16x512x128_S1x512x128_12_0_0
  · exact piece (k0_pay6 x0 x1 x2) 11 1408 rfl (by omega) slices_S512x2048_o0_1408_S512x128 inb_S16x512x128_S1x512x128_11_0_0
  · exact piece (k0_pay6 x0 x1 x2) 10 1280 rfl (by omega) slices_S512x2048_o0_1280_S512x128 inb_S16x512x128_S1x512x128_10_0_0
  · exact piece (k0_pay6 x0 x1 x2) 9 1152 rfl (by omega) slices_S512x2048_o0_1152_S512x128 inb_S16x512x128_S1x512x128_9_0_0
  · exact piece (k0_pay6 x0 x1 x2) 8 1024 rfl (by omega) slices_S512x2048_o0_1024_S512x128 inb_S16x512x128_S1x512x128_8_0_0
  · exact piece (k0_pay6 x0 x1 x2) 7 896 rfl (by omega) slices_S512x2048_o0_896_S512x128 inb_S16x512x128_S1x512x128_7_0_0
  · exact piece (k0_pay6 x0 x1 x2) 6 768 rfl (by omega) slices_S512x2048_o0_768_S512x128 inb_S16x512x128_S1x512x128_6_0_0
  · exact piece (k0_pay6 x0 x1 x2) 5 640 rfl (by omega) slices_S512x2048_o0_640_S512x128 inb_S16x512x128_S1x512x128_5_0_0
  · exact piece (k0_pay6 x0 x1 x2) 4 512 rfl (by omega) slices_S512x2048_o0_512_S512x128 inb_S16x512x128_S1x512x128_4_0_0
  · exact piece (k0_pay6 x0 x1 x2) 3 384 rfl (by omega) slices_S512x2048_o0_384_S512x128 inb_S16x512x128_S1x512x128_3_0_0
  · exact piece (k0_pay6 x0 x1 x2) 2 256 rfl (by omega) slices_S512x2048_o0_256_S512x128 inb_S16x512x128_S1x512x128_2_0_0
  · exact piece (k0_pay6 x0 x1 x2) 1 128 rfl (by omega) slices_S512x2048_o0_128_S512x128 inb_S16x512x128_S1x512x128_1_0_0
  · exact ⟨piece (k0_pay6 x0 x1 x2) 0 0 rfl (by omega) slices_S512x2048_o0_0_S512x128 inb_S16x512x128_S1x512x128_0_0_0, fun p hp => absurd hp List.not_mem_nil⟩

/-- The same at a tile, a row and a lane. -/
theorem out_apply (x0 : Vec Ideal S512x1024 .f32) (x1 : Vec Ideal S1x1024 .f32) (x2 : Vec Ideal S1024x2048 .bf16) (q : Fin 16) (r : Fin 512) (l : Fin 128) :
    out0_3 x0 x1 x2 (ix3 q r l)
      = lin (rms (fun k => x0 (ix2 r k)) (fun k => x1 (ix2 0 k))) (fun k f => x2 (ix2 k f)) (⟨q.val * 128 + l.val, by omega⟩ : Fin 2048) := by
  rw [out_eq]
  exact proj_apply x0 x1 x2 r _

end Cert.KeyValueIdeal.Block

end
-- ==== Proof.KeyValue.Array.lean ====
/- The keys-and-values projection's result array as one function of the rows it finds: each point's block is the projection of its rows, 128
   columns to a tile, and the blocks tile the array. -/
module

public import proofs.«01_k».proof.Proof.Gen.KeyValueIdeal.Frame
public import proofs.«01_k».proof.Proof.KeyValue.Prep
public import proofs.«01_k».proof.Proof.KeyValue.Block
public import Idealize.ShloMosaic.Lib.Pipeline.ValueKit

@[expose] public section

noncomputable section

namespace Cert.KeyValueIdeal.Array

open Cert.KeyValueIdeal Cert.KeyValueIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads, and block `t` of every tile it writes. -/
theorem index_facts : ∀ t : Fin grid0.N,
    (win0_0.index t 0 = t.val ∧ win0_0.index t 1 = 0) ∧ (win0_3.index t 0 = 0 ∧ win0_3.index t 1 = t.val ∧ win0_3.index t 2 = 0) := by
  decide +kernel

/-- The windows of the gain row and the weights begin at zero at every point. -/
theorem index_zero : ∀ (t : Fin grid0.N) (a : Fin 2), win0_1.index t a = 0 ∧ win0_2.index t a = 0 := by
  decide +kernel

/-- Row `R` of the padded hidden states. -/
def hid (R : Fin 33792) (k : Fin 1024) : EReal := V m c main_v1 (ix2 R k)
/-- The gain row. -/
def gain (k : Fin 1024) : EReal := m ((c : Thread nD τ).loc main_arg1) (ix1 k)
/-- The weights. -/
def wt (k : Fin 1024) (f : Fin 2048) : EReal := Prep.side (m ((c : Thread nD τ).loc main_arg2)) (m ((c : Thread nD τ).loc main_arg3)) k f
/-- The projection of row `R`. -/
def rowOut (R : Fin 33792) : Fin 2048 → EReal := lin (rms (hid m c R) (gain m c)) (wt m c)

/-- Row `r` of point `t`'s block. -/
def at_ (t : Fin grid0.N) (r : Fin 512) : Fin 33792 := ⟨t.val * 512 + r.val, by have := t.isLt; have := N_0; omega⟩

/-- Point `t`'s block of the hidden states. -/
theorem hidden_block (t : Fin grid0.N) (r : Fin 512) (k : Fin 1024) : iblk m c 0 t (ix2 r k) = hid m c (at_ t r) k := by
  show V m c main_v1 ((win0_0.rect t).emb (ix2 r k)) = V m c main_v1 (ix2 (at_ t r) k)
  congr 1
  obtain ⟨⟨h0, h1⟩, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- Every point's block of the gain row is the whole row. -/
theorem gain_block (t : Fin grid0.N) (k : Fin 1024) : iblk m c 1 t (ix2 (0 : Fin 1) k) = gain m c k := by
  refine Eq.trans ?_ (Prep.gain_apply m c k)
  show V m c main_v4 ((win0_1.rect t).emb (ix2 (0 : Fin 1) k)) = _
  congr 1
  funext b
  apply Fin.ext
  rw [Pipeline.Window.rect_emb_val_of_index_zero _ _ _ (index_zero t b).1]

/-- Every point's block of the weights is the whole array. -/
theorem w_block (t : Fin grid0.N) (k : Fin 1024) (f : Fin 2048) : iblk m c 2 t (ix2 k f) = wt m c k f := by
  refine Eq.trans ?_ (Prep.w_apply m c k f)
  show V m c main_v3 ((win0_2.rect t).emb (ix2 k f)) = _
  congr 1
  funext b
  apply Fin.ext
  rw [Pipeline.Window.rect_emb_val_of_index_zero _ _ _ (index_zero t b).2]

/-- Column `l` of tile `q`. -/
def col (q : Fin 16) (l : Fin 128) : Fin 2048 := ⟨q.val * 128 + l.val, by omega⟩

/-- What point `t` computes at a tile, a row and a lane. -/
theorem out_block (t : Fin cfg0.N) (q : Fin 16) (r : Fin 512) (l : Fin 128) :
    out0_3 (iblk m c 0 t) (iblk m c 1 t) (iblk m c 2 t) (ix3 q r l) = rowOut m c (at_ t r) (col q l) := by
  unfold rowOut col
  refine (Block.out_apply _ _ _ q r l).trans ?_
  simp only [hidden_block, gain_block, w_block]

/-- The projection of every padded row, tile by tile. -/
def tiles : Buf (Elt Ideal) ((c : Thread nD τ).loc main_v5) := fun (i : S16x33792x128.Idx) => rowOut m c (i 1) (col (i 0) (i 2))

/-- WHAT POINT `t` WRITES BACK is its block of the projection. -/
theorem flushed_eq (t : Fin cfg0.N) :
    (dats m 0 c).flushed 3 t = ((cfg0.win 3).blk t).view.read (Elt Ideal) (tiles m c) := by
  show (cfg0.win 3).cut (grid0.coords t) ((dats m 0 c).after 3 t) = _
  rw [after0_3]
  obtain ⟨-, h0, h1, h2⟩ := index_facts t
  funext y
  obtain ⟨q, r, l, rfl⟩ : ∃ (q : Fin 16) (r : Fin 512) (l : Fin 128), y = ix3 q r l := ⟨y 0, y 1, y 2, by funext a; fin_cases a <;> rfl⟩
  refine (out_block m c t q r l).trans ?_
  show tiles m c (ix3 q (at_ t r) l) = tiles m c ((win0_3.rect t).emb (ix3 q r l))
  congr 1
  funext a
  apply Fin.ext
  rw [Pipeline.Window.rect_emb_val_off]
  fin_cases a
  · show q.val = win0_3.index t 0 * 16 + q.val
    rw [h0]; omega
  · show t.val * 512 + r.val = win0_3.index t 1 * 512 + r.val
    rw [h1]
  · show l.val = win0_3.index t 2 * 128 + l.val
    rw [h2]; omega

/-- The written blocks tile the array. -/
theorem cover (i : S16x33792x128.Idx) : ∃ t : Fin cfg0.N, (cfg0.win 3).flush t = true ∧ i ∈ ((cfg0.win 3).blk t).view.set := by
  have hq : (i 0).val < 16 := (i 0).isLt
  have hi : (i 1).val < 33792 := (i 1).isLt
  have hl : (i 2).val < 128 := (i 2).isLt
  let t : Fin cfg0.N := ⟨(i 1).val / 512, by have : cfg0.N = 66 := N_0; omega⟩
  refine ⟨t, flush0_3 t, ?_⟩
  obtain ⟨-, h0, h1, h2⟩ := index_facts t
  show i ∈ ((View.whole main_v5).slice ((cfg0.win 3).rect t)).set
  erw [View.set_slice_whole]
  refine (Pipeline.Window.mem_rect_iff (cfg0.win 3) t i (by rfl)).mpr fun a => ?_
  fin_cases a
  · show win0_3.index t 0 * 16 ≤ (i 0).val ∧ (i 0).val < win0_3.index t 0 * 16 + 16
    rw [h0]; omega
  · show win0_3.index t 1 * 512 ≤ (i 1).val ∧ (i 1).val < win0_3.index t 1 * 512 + 512
    rw [h1]; show (i 1).val / 512 * 512 ≤ _ ∧ _ < (i 1).val / 512 * 512 + 512
    omega
  · show win0_3.index t 2 * 128 ≤ (i 2).val ∧ (i 2).val < win0_3.index t 2 * 128 + 128
    rw [h2]; omega

/-- THE RESULT ARRAY after the run is the projection of every row. -/
theorem final : (dats m 0 c).arrAt 3 cfg0.N = tiles m c :=
  (dats m 0 c).arrAt_eq_of_cover 3 (tiles m c) (fun t _ => flushed_eq m c t) cover

end Cert.KeyValueIdeal.Array

end
-- ==== Proof.KeyValue.Ref.lean ====
/- The keys-and-values projection's reference, read at a batch element, a head, a position and one of the head's 64 columns. -/
module

public import proofs.«01_k».proof.Proof.Gen.KeyValueReferenceIdeal.Read
public import proofs.«01_k».proof.Proof.Row
public import Idealize.ShloMosaic.Lib.Pointwise

@[expose] public section

noncomputable section

namespace Cert.KeyValueReferenceIdeal.Rows

open Cert.KeyValueReferenceIdeal Cert.KeyValueReferenceIdeal.Gen Cert.KeyValueReferenceIdeal.Read Cert.Row Idealize.ShloMosaic
open scoped BigOperators

variable (x0 : (⟨S4x8208x1024, .f32⟩ : BufTy).Contents (Elt Ideal)) (x1 : (⟨S1024, .f32⟩ : BufTy).Contents (Elt Ideal))
  (x2 : (⟨S1024x1024, .f32⟩ : BufTy).Contents (Elt Ideal)) (x3 : (⟨S1024x1024, .f32⟩ : BufTy).Contents (Elt Ideal))

/-- The normalized hidden states. -/
theorem enter_apply (b : Fin 4) (p : Fin 8208) (j : Fin 1024) :
    val_main_v12 (F := Ideal) x0 x1 (ix3 b p j) = rms (fun k => x0 (ix3 b p k)) (fun k => x1 (ix1 k)) j := by
  unfold val_main_v12 val_main_v11 val_main_v10 val_main_v9 val_main_v8 val_main_v7 val_main_v6 val_main_v5 val_main_v4 val_main_v3 val_main_v2 val_main_v1 val_main_v0 rms cLen cEps val_main_cst val_main_cst_0 val_main_cst_1
  pointwise

/-- The keys of a head: 64 columns of the projection. -/
theorem keys_apply (b : Fin 4) (h : Fin 16) (p : Fin 8208) (d : Fin 64) :
    val_main_v15 (F := Ideal) x0 x1 x2 (ix4 b h p d)
      = lin (rms (fun k => x0 (ix3 b p k)) (fun k => x1 (ix1 k))) (fun k f => x2 (ix2 k f)) (⟨h.val * 64 + d.val, by omega⟩ : Fin 1024) := by
  unfold val_main_v15 val_main_v14 val_main_v13 lin
  pointwise [dot_S4x8208x1024_S1024x1024_S4x8208x1024_2_0_01_1_n_n, enter_apply]

/-- The values of a head: 64 columns of the projection. -/
theorem values_apply (b : Fin 4) (h : Fin 16) (p : Fin 8208) (d : Fin 64) :
    val_main_v18 (F := Ideal) x0 x1 x3 (ix4 b h p d)
      = lin (rms (fun k => x0 (ix3 b p k)) (fun k => x1 (ix1 k))) (fun k f => x3 (ix2 k f)) (⟨h.val * 64 + d.val, by omega⟩ : Fin 1024) := by
  unfold val_main_v18 val_main_v17 val_main_v16 lin
  pointwise [dot_S4x8208x1024_S1024x1024_S4x8208x1024_2_0_01_1_n_n, enter_apply]

end Cert.KeyValueReferenceIdeal.Rows

end
-- ==== Proof.KeyValue.Result.lean ====
/- The keys-and-values projection's two results, the keys and the values of every head: the real rows
   of its tiles are the reference's. -/
module

public import proofs.«01_k».proof.Proof.KeyValue.Array
public import proofs.«01_k».proof.Proof.KeyValue.Ref

@[expose] public section

noncomputable section

namespace Cert.KeyValueIdeal.Result

open Cert.KeyValueIdeal Cert.KeyValueIdeal.Gen Cert.KeyValueIdeal.Array Cert.Row Idealize.ShloMosaic Idealize.ShloMosaic.TcCoe
open scoped BigOperators

variable (m : (ℓ : Loc nD τ sig) → Buf (Elt Ideal) ℓ) (c : Dev nD)

/-- Position `p` of batch element `b` among the padded rows. -/
def real (b : Fin 4) (p : Fin 8208) : Fin 33792 := ⟨b.val * 8448 + (128 + p.val), by omega⟩

/-- A batch element's hidden states. -/
theorem hid_real (b : Fin 4) (p : Fin 8208) : hid m c (real b p) = fun k => m ((c : Thread nD τ).loc main_arg0) (ix3 b p k) := by
  funext k
  exact Prep.hidden_apply m c b p k

/-- The real rows of the tiles, head by head: a tile holds two heads. -/
def heads (x : FVec Ideal S16x33792x128 .bf16) : FVec Ideal S4x32x8208x64 .bf16 :=
  shapeCast S4x32x8208x64 (transpose S4x16x2x8208x64 [1, 0, 3, 2, 4] (extractStridedSlice S16x4x8208x2x64 ![0, 0, 128, 0, 0] (shapeCast S16x4x8448x2x64 x shapeCasts_S16x33792x128_S16x4x8448x2x64) slices_S16x4x8448x2x64_S16x4x8208x2x64_0_0_128_0_0) transposes_S16x4x8208x2x64_S4x16x2x8208x64_1_0_3_2_4) shapeCasts_S4x16x2x8208x64_S4x32x8208x64

/-- A head's entry: which tile, row and lane it lies in. -/
theorem heads_apply (x : FVec Ideal S16x33792x128 .bf16) (b : Fin 4) (h : Fin 32) (p : Fin 8208) (d : Fin 64) :
    heads x (ix4 b h p d) = x (ix3 (⟨h.val / 2, by omega⟩ : Fin 16) (real b p) (⟨h.val % 2 * 64 + d.val, by omega⟩ : Fin 128)) := by
  unfold heads real
  pointwise

/-- A head's column of the tiles is its column of the projection. -/
theorem heads_tiles (b : Fin 4) (h : Fin 32) (p : Fin 8208) (d : Fin 64) :
    heads (tiles m c) (ix4 b h p d) = rowOut m c (real b p) (⟨h.val * 64 + d.val, by omega⟩ : Fin 2048) := by
  refine (heads_apply _ b h p d).trans ?_
  show rowOut m c (real b p) (col _ _) = _
  congr 1
  exact Fin.ext (by show h.val / 2 * 128 + (h.val % 2 * 64 + d.val) = h.val * 64 + d.val; omega)

/-- The reference's keys of the kernel's arguments. -/
def keys : Buf (Elt Ideal) ((c : Thread nD τ).loc main_v11) :=
  Cert.KeyValueReferenceIdeal.Read.val_main_v15 (F := Ideal) (m ((c : Thread nD τ).loc main_arg0)) (m ((c : Thread nD τ).loc main_arg1)) (m ((c : Thread nD τ).loc main_arg2))

/-- The weights' columns of the keys. -/
theorem wt_keys (h : Fin 16) (d : Fin 64) (k : Fin 1024) :
    wt m c k (⟨h.val * 64 + d.val, by omega⟩ : Fin 2048) = m ((c : Thread nD τ).loc main_arg2) (ix2 k (⟨h.val * 64 + d.val, by omega⟩ : Fin 1024)) := by
  unfold wt Prep.side
  rw [dif_pos (by show h.val * 64 + d.val < 1024; omega)]

/-- The projection's columns at a real row are the reference's keys. -/
theorem rowOut_keys (b : Fin 4) (h : Fin 16) (p : Fin 8208) (d : Fin 64) :
    rowOut m c (real b p) (⟨h.val * 64 + d.val, by omega⟩ : Fin 2048) = keys m c (ix4 b h p d) := by
  unfold keys rowOut
  rw [Cert.KeyValueReferenceIdeal.Rows.keys_apply, hid_real]
  unfold lin
  simp only [wt_keys]
  rfl

/-- The keys' heads among all heads. -/
theorem slice_keys (x : FVec Ideal S4x32x8208x64 .bf16) (b : Fin 4) (h : Fin 16) (p : Fin 8208) (d : Fin 64) :
    extf (F := Ideal) .f32 (extractStridedSlice S4x16x8208x64 ![0, 0, 0, 0] x slices_S4x32x8208x64_S4x16x8208x64_0_0_0_0) bitsLt_bf16_f32 (ix4 b h p d)
      = x (ix4 b (⟨h.val, by omega⟩ : Fin 32) p d) := by
  pointwise

/-- THE KEYS: what the host lines after the region leave in the first result are the reference's. -/
theorem tail_keys : Pipeline.afterTail₀ cfgs (dats m) 0 (V0 m) [hostOps1] c main_v11 = keys m c := by
  have e : Pipeline.afterTail₀ cfgs (dats m) 0 (V0 m) [hostOps1] c main_v11
      = extf (F := Ideal) .f32 (extractStridedSlice S4x16x8208x64 ![0, 0, 0, 0] (heads (tiles m c)) slices_S4x32x8208x64_S4x16x8208x64_0_0_0_0) bitsLt_bf16_f32 := by
    have h : Pipeline.withArrays spec0 c (V0 m c) (fun w => (dats m 0 c).arrAt w cfg0.N) (Proc.devRef .tc main_v5) = tiles m c :=
      (Pipeline.withArrays_arr spec0 (by decide : Function.Injective (Pipeline.arrRef spec0)) c (V0 m c) (fun w => (dats m 0 c).arrAt w cfg0.N) 3).trans (final m c)
    rw [← h]
    unfold Pipeline.afterTail₀
    show StableHlo.after hostOps1 _ _ = _
    after_results_simp
    rfl
  rw [e]
  funext y
  obtain ⟨b, h, p, d, rfl⟩ : ∃ (b : Fin 4) (h : Fin 16) (p : Fin 8208) (d : Fin 64), y = ix4 b h p d := ⟨y 0, y 1, y 2, y 3, by funext a; fin_cases a <;> rfl⟩
  exact (slice_keys _ b h p d).trans ((heads_tiles m c b _ p d).trans (rowOut_keys m c b h p d))

/-- The reference's values of the kernel's arguments. -/
def values : Buf (Elt Ideal) ((c : Thread nD τ).loc main_v13) :=
  Cert.KeyValueReferenceIdeal.Read.val_main_v18 (F := Ideal) (m ((c : Thread nD τ).loc main_arg0)) (m ((c : Thread nD τ).loc main_arg1)) (m ((c : Thread nD τ).loc main_arg3))

/-- The weights' columns of the values. -/
theorem wt_values (h : Fin 16) (d : Fin 64) (k : Fin 1024) :
    wt m c k (⟨(16 + h.val) * 64 + d.val, by omega⟩ : Fin 2048) = m ((c : Thread nD τ).loc main_arg3) (ix2 k (⟨h.val * 64 + d.val, by omega⟩ : Fin 1024)) := by
  unfold wt Prep.side
  rw [dif_neg (by show ¬ (16 + h.val) * 64 + d.val < 1024; omega)]
  congr 2
  exact Fin.ext (by show (16 + h.val) * 64 + d.val - 1024 = h.val * 64 + d.val; omega)

/-- The projection's columns at a real row are the reference's values. -/
theorem rowOut_values (b : Fin 4) (h : Fin 16) (p : Fin 8208) (d : Fin 64) :
    rowOut m c (real b p) (⟨(16 + h.val) * 64 + d.val, by omega⟩ : Fin 2048) = values m c (ix4 b h p d) := by
  unfold values rowOut
  rw [Cert.KeyValueReferenceIdeal.Rows.values_apply, hid_real]
  unfold lin
  simp only [wt_values]
  rfl

/-- The values' heads among all heads. -/
theorem slice_values (x : FVec Ideal S4x32x8208x64 .bf16) (b : Fin 4) (h : Fin 16) (p : Fin 8208) (d : Fin 64) :
    extf (F := Ideal) .f32 (extractStridedSlice S4x16x8208x64 ![0, 16, 0, 0] x slices_S4x32x8208x64_S4x16x8208x64_0_16_0_0) bitsLt_bf16_f32 (ix4 b h p d)
      = x (ix4 b (⟨16 + h.val, by omega⟩ : Fin 32) p d) := by
  pointwise

/-- THE VALUES: what the host lines after the region leave in the second result are the reference's. -/
theorem tail_values : Pipeline.afterTail₀ cfgs (dats m) 0 (V0 m) [hostOps1] c main_v13 = values m c := by
  have e : Pipeline.afterTail₀ cfgs (dats m) 0 (V0 m) [hostOps1] c main_v13
      = extf (F := Ideal) .f32 (extractStridedSlice S4x16x8208x64 ![0, 16, 0, 0] (heads (tiles m c)) slices_S4x32x8208x64_S4x16x8208x64_0_16_0_0) bitsLt_bf16_f32 := by
    have h : Pipeline.withArrays spec0 c (V0 m c) (fun w => (dats m 0 c).arrAt w cfg0.N) (Proc.devRef .tc main_v5) = tiles m c :=
      (Pipeline.withArrays_arr spec0 (by decide : Function.Injective (Pipeline.arrRef spec0)) c (V0 m c) (fun w => (dats m 0 c).arrAt w cfg0.N) 3).trans (final m c)
    rw [← h]
    unfold Pipeline.afterTail₀
    show StableHlo.after hostOps1 _ _ = _
    after_results_simp
    rfl
  rw [e]
  funext y
  obtain ⟨b, h, p, d, rfl⟩ : ∃ (b : Fin 4) (h : Fin 16) (p : Fin 8208) (d : Fin 64), y = ix4 b h p d := ⟨y 0, y 1, y 2, y 3, by funext a; fin_cases a <;> rfl⟩
  exact (slice_values _ b h p d).trans ((heads_tiles m c b _ p d).trans (rowOut_values m c b h p d))

end Cert.KeyValueIdeal.Result

end
-- ==== Proof.KeyValue.Claims.lean ====
/- The claims about the keys-and-values projection: its frames, its idealization's ledger, and its equality with the reference over
   the extended reals. -/
module

public import proofs.«01_k».proof.Defs
public import proofs.«01_k».proof.Proof.KeyValue.Result
public import proofs.«01_k».proof.Proof.Gen.KeyValue.Frame
public import proofs.«01_k».proof.Proof.Gen.KeyValueReferenceIdeal.Run

@[expose] public section

noncomputable section

namespace Cert.Proof.KeysValues

open Idealize.ShloMosaic Idealize.ShloMosaic.TcCoe Idealize.SL.Sem

/-- The call terminates, leaves its arguments, and ends with every semaphore at zero. -/
theorem frame_p : Cert.quiescent_KeyValue := fun m ρ _ => Cert.KeyValue.Gen.frame m ρ

/-- So does its idealization. -/
theorem frame_pi : Cert.quiescent_KeyValueIdeal := fun m ρ _ => Cert.KeyValueIdeal.Gen.frame m ρ

/-- So does the reference, which has no semaphores. -/
theorem frame_ri : Cert.quiescent_KeyValueReferenceIdeal := fun m ρ _ =>
  (θ_run Cert.KeyValueReferenceIdeal.defs _ _).mono (fun r h => ⟨fun c => (h c).2.2, sem_eq_zero_of_no_sems (by decide) r.2⟩)
    (Cert.KeyValueReferenceIdeal.Value.run (F := Ideal) m ρ)

/-- The idealization replaced nothing, so there is nothing to preserve. -/
theorem preserves : Cert.preserves_KeyValue_KeyValueIdeal := trivial

/-- On arguments that agree, the call's keys and values and the reference's are the same arrays of extended reals. -/
theorem algebraic : Cert.algebraic_KeyValueIdeal_KeyValueReferenceIdeal := by
  intro m ρ m' ρ' _ hagree
  refine ⟨fun c => Cert.KeyValueIdeal.Result.keys m c, fun c => Cert.KeyValueIdeal.Result.values m c, ?_, ?_⟩
  · refine (θ_run Cert.KeyValueIdeal.defs _ _).mono (fun r h c => ?_)
      (θ_run_and (Cert.KeyValueIdeal.Gen.run_main (F := Ideal) m ρ) (Cert.KeyValueIdeal.Gen.unchanged m ρ))
    exact ⟨((h.1 c).2 Cert.KeyValueIdeal.main_v11 (by decide)).trans (Cert.KeyValueIdeal.Result.tail_keys m c),
      ((h.1 c).2 Cert.KeyValueIdeal.main_v13 (by decide)).trans (Cert.KeyValueIdeal.Result.tail_values m c), h.2 c⟩
  · refine (θ_run Cert.KeyValueReferenceIdeal.defs _ _).mono (fun r h c => ?_) (Cert.KeyValueReferenceIdeal.Value.run (F := Ideal) m' ρ')
    obtain ⟨hk, hv, hu⟩ := h c
    obtain ⟨h0, h1, h2, h3, _⟩ := hagree c
    refine ⟨hk.trans ((Cert.KeyValueReferenceIdeal.Read.val_main_v15_eq (F := Ideal) _ _ _).trans ?_),
      hv.trans ((Cert.KeyValueReferenceIdeal.Read.val_main_v18_eq (F := Ideal) _ _ _).trans ?_), hu⟩
    · rw [h0, h1, h2]
      rfl
    · rw [h0, h1, h3]
      rfl

end Cert.Proof.KeysValues

end
-- ==== Proof.Query.Prep.lean ====
/- The arrays the query projection's call finds, read at an index: the hidden states between their padding rows, the gain row and the
   weights. -/
module

public import proofs.«01_k».proof.Proof.Gen.QueryIdeal.Frame
public import Idealize.ShloMosaic.Lib.StableHlo.Run
public import Idealize.ShloMosaic.Lib.Pointwise

@[expose] public section

noncomputable section

namespace Cert.QueryIdeal.Prep

open Cert.QueryIdeal Cert.QueryIdeal.Gen Idealize.ShloMosaic Idealize.ShloMosaic.TcCoe
open scoped BigOperators

variable (m : (ℓ : Loc nD τ sig) → Buf (Elt Ideal) ℓ) (c : Dev nD)

/-- The gain row. -/
theorem gain_apply (k : Fin 1024) : V m c main_v9 (ix2 (0 : Fin 1) k) = m ((c : Thread nD τ).loc main_arg1) (ix3 2 0 k) := by
  have e : V m c main_v9 = extractStridedSlice S1x1024 ![0, 0] (shapeCast S4x1024 (extractStridedSlice S1x4x1024 ![2, 0, 0] (m ((c : Thread nD τ).loc main_arg1)) slices_S4x4x1024_S1x4x1024_2_0_0) shapeCasts_S1x4x1024_S4x1024) slices_S4x1024_S1x1024_0_0 := by
    show StableHlo.after hostOps0 (fun b => m (c, b)) (Proc.devRef .tc main_v9) = _
    after_results_simp
    rfl
  rw [e]
  pointwise

/-- The factor the weights are scaled by. -/
def scale : EReal := Ideal.ofBits .f32 0x3E000000#32

/-- The first layer's weights, scaled. -/
def scaled (w : FVec Ideal S2x1024x1024 .f32) (k f : Fin 1024) : EReal := w (ix3 0 k f) * scale

/-- The weights. -/
theorem w_apply (k f : Fin 1024) :
    V m c main_v8 (ix2 k f) = scaled (m ((c : Thread nD τ).loc main_arg2)) k f := by
  have e : V m c main_v8 = truncf (F := Ideal) .bf16 (mulf (shapeCast S1024x1024 (extractStridedSlice S1x1024x1024 ![0, 0, 0] (m ((c : Thread nD τ).loc main_arg2)) slices_S2x1024x1024_S1x1024x1024_0_0_0) shapeCasts_S1x1024x1024_S1024x1024) (broadcastInDim S1024x1024 ![] bcast_S_S1024x1024 (constant (F := Ideal) S_ .f32 0x3E000000#32))) bitsLt_bf16_f32 := by
    show StableHlo.after hostOps0 (fun b => m (c, b)) (Proc.devRef .tc main_v8) = _
    after_results_simp
    rfl
  rw [e]
  unfold scaled scale
  pointwise

/-- The padded hidden states, batch element by batch element. -/
theorem hidden_apply (b : Fin 4) (p : Fin 8208) (j : Fin 1024) :
    V m c main_v1 (ix2 (⟨b.val * 8448 + (128 + p.val), by omega⟩ : Fin 33792) j) = m ((c : Thread nD τ).loc main_arg0) (ix3 b p j) := by
  have e : V m c main_v1 = shapeCast S33792x1024 (concatenate S4x8448x1024 1
      [⟨S4x128x1024, m ((c : Thread nD τ).loc main_arg3)⟩,
        ⟨S4x8208x1024, m ((c : Thread nD τ).loc main_arg0)⟩,
        ⟨S4x112x1024, m ((c : Thread nD τ).loc main_arg4)⟩]
      concatenates_S4x128x1024_S4x8208x1024_S4x112x1024_S4x8448x1024_d1) shapeCasts_S4x8448x1024_S33792x1024 := by
    show StableHlo.after hostOps0 (fun b => m (c, b)) (Proc.devRef .tc main_v1) = _
    after_results_simp
    rfl
  rw [e]
  generalize m ((c : Thread nD τ).loc main_arg0) = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

end Cert.QueryIdeal.Prep

end
-- ==== Proof.Query.Block.lean ====
/- What one grid point of the query projection computes, read at a tile, a row and a lane of its block: the row's
   normalization and projection (`Cert.Row`), 128 columns to a tile. -/
module

public import proofs.«01_k».proof.Proof.Gen.QueryIdeal.Frame
public import proofs.«01_k».proof.Proof.Row
public import Idealize.ShloMosaic.Lib.Pointwise
public import Idealize.ShloMosaic.Lib.Pipeline.ValueKit

@[expose] public section

noncomputable section

namespace Cert.QueryIdeal.Block

open Cert.QueryIdeal Cert.QueryIdeal.Gen Cert.Row Idealize.ShloMosaic
open scoped BigOperators

/-- The zero offset. -/
theorem hz2 : (![0, 0] : Fin 2 → ℕ) = fun _ => 0 := by funext a; fin_cases a <;> rfl

/-- The projection of a row of the block. -/
theorem proj_apply (x0 : Vec Ideal S512x1024 .f32) (x1 : Vec Ideal S1x1024 .f32) (x2 : Vec Ideal S1024x1024 .bf16) (r : Fin 512) (f : Fin 1024) :
    k0_pay6 x0 x1 x2 (ix2 r f) = lin (rms (fun k => x0 (ix2 r k)) (fun k => x1 (ix2 0 k))) (fun k f => x2 (ix2 k f)) f := by
  unfold lin rms cLen cEps
  pointwise [k0_pay6, dot_S512x1024_S1024x1024_S512x1024_1_0_0_1_n_n]

/-- Tile `i 0` of a block of rows: 128 of its columns. -/
def tile (y : FVec Ideal S512x1024 .bf16) (i : S8x512x128.Idx) : EReal :=
  y (ix2 (⟨(i 1).val, (i 1).isLt⟩ : Fin 512) (⟨(i 0).val * 128 + (i 2).val, by have h0 : (i 0).val < 8 := (i 0).isLt; have h2 : (i 2).val < 128 := (i 2).isLt; omega⟩ : Fin 1024))

/-- A stored piece is its tile. -/
theorem piece (y : FVec Ideal S512x1024 .bf16) (q o : ℕ) (ho : o = q * 128) (hq : q < 8) (hs : S512x1024.Slices ![0, o] S512x128)
    (inb : ∀ a, (![q, 0, 0] : Fin 3 → ℕ) a + S1x512x128.size a ≤ S8x512x128.size a) (x : S1x512x128.Idx) :
    shapeCast S1x512x128 (extractStridedSlice S512x128 ![0, o] y hs) shapeCasts_S512x128_S1x512x128 x
      = tile y ((Rect.unit (s := S8x512x128) ![q, 0, 0] S1x512x128.size inb).emb x) := by
  obtain ⟨a, r, l, rfl⟩ : ∃ (a : Fin 1) (r : Fin 512) (l : Fin 128), x = ix3 a r l := ⟨x 0, x 1, x 2, by funext a; fin_cases a <;> rfl⟩
  have e : (Rect.unit (s := S8x512x128) ![q, 0, 0] S1x512x128.size inb).emb (ix3 a r l) = ix3 (⟨q, hq⟩ : Fin 8) r l := by
    funext b
    apply Fin.ext
    fin_cases b
    · show q + 1 * a.val = q
      omega
    · show 0 + 1 * r.val = r.val
      omega
    · show 0 + 1 * l.val = l.val
      omega
  rw [e]
  unfold tile
  pointwise
  subst ho
  rfl

/-- The block the body leaves: tile by tile, the projection of its rows. -/
theorem out_eq (x0 : Vec Ideal S512x1024 .f32) (x1 : Vec Ideal S1x1024 .f32) (x2 : Vec Ideal S1024x1024 .bf16) (i : S8x512x128.Idx) :
    out0_3 x0 x1 x2 i = tile (k0_pay6 x0 x1 x2) i := by
  have e0 : View.ld x0 r0_0 = x0 := View.ld_unit_zero (S := S512x1024) hz2 _ _
  have e1 : View.ld x1 r0_1 = x1 := View.ld_unit_zero (S := S1x1024) hz2 _ _
  have e2 : View.ld x2 r0_2 = x2 := View.ld_unit_zero (S := S1024x1024) hz2 _ _
  unfold out0_3 k0_pay11
  rw [e0, e1, e2]
  refine View.canon_apply_of_pieces (Val := Elt Ideal) (e := .bf16) (S := S8x512x128) (tile (k0_pay6 x0 x1 x2)) _ ?_ i (cover0_3 _ _ _ _ _ _ _ _ i)
  simp only [List.forall_mem_cons, List.forall_mem_nil, and_true]
  refine ⟨?_, ?_, ?_, ?_, ?_, ?_, ?_, ?_⟩
  · exact piece (k0_pay6 x0 x1 x2) 7 896 rfl (by omega) slices_S512x1024_o0_896_S512x128 inb_S8x512x128_S1x512x128_7_0_0
  · exact piece (k0_pay6 x0 x1 x2) 6 768 rfl (by omega) slices_S512x1024_o0_768_S512x128 inb_S8x512x128_S1x512x128_6_0_0
  · exact piece (k0_pay6 x0 x1 x2) 5 640 rfl (by omega) slices_S512x1024_o0_640_S512x128 inb_S8x512x128_S1x512x128_5_0_0
  · exact piece (k0_pay6 x0 x1 x2) 4 512 rfl (by omega) slices_S512x1024_o0_512_S512x128 inb_S8x512x128_S1x512x128_4_0_0
  · exact piece (k0_pay6 x0 x1 x2) 3 384 rfl (by omega) slices_S512x1024_o0_384_S512x128 inb_S8x512x128_S1x512x128_3_0_0
  · exact piece (k0_pay6 x0 x1 x2) 2 256 rfl (by omega) slices_S512x1024_o0_256_S512x128 inb_S8x512x128_S1x512x128_2_0_0
  · exact piece (k0_pay6 x0 x1 x2) 1 128 rfl (by omega) slices_S512x1024_o0_128_S512x128 inb_S8x512x128_S1x512x128_1_0_0
  · exact ⟨piece (k0_pay6 x0 x1 x2) 0 0 rfl (by omega) slices_S512x1024_o0_0_S512x128 inb_S8x512x128_S1x512x128_0_0_0, fun p hp => absurd hp List.not_mem_nil⟩

/-- The same at a tile, a row and a lane. -/
theorem out_apply (x0 : Vec Ideal S512x1024 .f32) (x1 : Vec Ideal S1x1024 .f32) (x2 : Vec Ideal S1024x1024 .bf16) (q : Fin 8) (r : Fin 512) (l : Fin 128) :
    out0_3 x0 x1 x2 (ix3 q r l)
      = lin (rms (fun k => x0 (ix2 r k)) (fun k => x1 (ix2 0 k))) (fun k f => x2 (ix2 k f)) (⟨q.val * 128 + l.val, by omega⟩ : Fin 1024) := by
  rw [out_eq]
  exact proj_apply x0 x1 x2 r _

end Cert.QueryIdeal.Block

end
-- ==== Proof.Query.Array.lean ====
/- The query projection's result array as one function of the rows it finds: each point's block is the projection of its rows, 128
   columns to a tile, and the blocks tile the array. -/
module

public import proofs.«01_k».proof.Proof.Gen.QueryIdeal.Frame
public import proofs.«01_k».proof.Proof.Query.Prep
public import proofs.«01_k».proof.Proof.Query.Block
public import Idealize.ShloMosaic.Lib.Pipeline.ValueKit

@[expose] public section

noncomputable section

namespace Cert.QueryIdeal.Array

open Cert.QueryIdeal Cert.QueryIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads, and block `t` of every tile it writes. -/
theorem index_facts : ∀ t : Fin grid0.N,
    (win0_0.index t 0 = t.val ∧ win0_0.index t 1 = 0) ∧ (win0_3.index t 0 = 0 ∧ win0_3.index t 1 = t.val ∧ win0_3.index t 2 = 0) := by
  decide +kernel

/-- The windows of the gain row and the weights begin at zero at every point. -/
theorem index_zero : ∀ (t : Fin grid0.N) (a : Fin 2), win0_1.index t a = 0 ∧ win0_2.index t a = 0 := by
  decide +kernel

/-- Row `R` of the padded hidden states. -/
def hid (R : Fin 33792) (k : Fin 1024) : EReal := V m c main_v1 (ix2 R k)
/-- The gain row. -/
def gain (k : Fin 1024) : EReal := m ((c : Thread nD τ).loc main_arg1) (ix3 2 0 k)
/-- The weights. -/
def wt (k : Fin 1024) (f : Fin 1024) : EReal := Prep.scaled (m ((c : Thread nD τ).loc main_arg2)) k f
/-- The projection of row `R`. -/
def rowOut (R : Fin 33792) : Fin 1024 → EReal := lin (rms (hid m c R) (gain m c)) (wt m c)

/-- Row `r` of point `t`'s block. -/
def at_ (t : Fin grid0.N) (r : Fin 512) : Fin 33792 := ⟨t.val * 512 + r.val, by have := t.isLt; have := N_0; omega⟩

/-- Point `t`'s block of the hidden states. -/
theorem hidden_block (t : Fin grid0.N) (r : Fin 512) (k : Fin 1024) : iblk m c 0 t (ix2 r k) = hid m c (at_ t r) k := by
  show V m c main_v1 ((win0_0.rect t).emb (ix2 r k)) = V m c main_v1 (ix2 (at_ t r) k)
  congr 1
  obtain ⟨⟨h0, h1⟩, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- Every point's block of the gain row is the whole row. -/
theorem gain_block (t : Fin grid0.N) (k : Fin 1024) : iblk m c 1 t (ix2 (0 : Fin 1) k) = gain m c k := by
  refine Eq.trans ?_ (Prep.gain_apply m c k)
  show V m c main_v9 ((win0_1.rect t).emb (ix2 (0 : Fin 1) k)) = _
  congr 1
  funext b
  apply Fin.ext
  rw [Pipeline.Window.rect_emb_val_of_index_zero _ _ _ (index_zero t b).1]

/-- Every point's block of the weights is the whole array. -/
theorem w_block (t : Fin grid0.N) (k : Fin 1024) (f : Fin 1024) : iblk m c 2 t (ix2 k f) = wt m c k f := by
  refine Eq.trans ?_ (Prep.w_apply m c k f)
  show V m c main_v8 ((win0_2.rect t).emb (ix2 k f)) = _
  congr 1
  funext b
  apply Fin.ext
  rw [Pipeline.Window.rect_emb_val_of_index_zero _ _ _ (index_zero t b).2]

/-- Column `l` of tile `q`. -/
def col (q : Fin 8) (l : Fin 128) : Fin 1024 := ⟨q.val * 128 + l.val, by omega⟩

/-- What point `t` computes at a tile, a row and a lane. -/
theorem out_block (t : Fin cfg0.N) (q : Fin 8) (r : Fin 512) (l : Fin 128) :
    out0_3 (iblk m c 0 t) (iblk m c 1 t) (iblk m c 2 t) (ix3 q r l) = rowOut m c (at_ t r) (col q l) := by
  unfold rowOut col
  refine (Block.out_apply _ _ _ q r l).trans ?_
  simp only [hidden_block, gain_block, w_block]

/-- The projection of every padded row, tile by tile. -/
def tiles : Buf (Elt Ideal) ((c : Thread nD τ).loc main_v10) := fun (i : S8x33792x128.Idx) => rowOut m c (i 1) (col (i 0) (i 2))

/-- WHAT POINT `t` WRITES BACK is its block of the projection. -/
theorem flushed_eq (t : Fin cfg0.N) :
    (dats m 0 c).flushed 3 t = ((cfg0.win 3).blk t).view.read (Elt Ideal) (tiles m c) := by
  show (cfg0.win 3).cut (grid0.coords t) ((dats m 0 c).after 3 t) = _
  rw [after0_3]
  obtain ⟨-, h0, h1, h2⟩ := index_facts t
  funext y
  obtain ⟨q, r, l, rfl⟩ : ∃ (q : Fin 8) (r : Fin 512) (l : Fin 128), y = ix3 q r l := ⟨y 0, y 1, y 2, by funext a; fin_cases a <;> rfl⟩
  refine (out_block m c t q r l).trans ?_
  show tiles m c (ix3 q (at_ t r) l) = tiles m c ((win0_3.rect t).emb (ix3 q r l))
  congr 1
  funext a
  apply Fin.ext
  rw [Pipeline.Window.rect_emb_val_off]
  fin_cases a
  · show q.val = win0_3.index t 0 * 8 + q.val
    rw [h0]; omega
  · show t.val * 512 + r.val = win0_3.index t 1 * 512 + r.val
    rw [h1]
  · show l.val = win0_3.index t 2 * 128 + l.val
    rw [h2]; omega

/-- The written blocks tile the array. -/
theorem cover (i : S8x33792x128.Idx) : ∃ t : Fin cfg0.N, (cfg0.win 3).flush t = true ∧ i ∈ ((cfg0.win 3).blk t).view.set := by
  have hq : (i 0).val < 8 := (i 0).isLt
  have hi : (i 1).val < 33792 := (i 1).isLt
  have hl : (i 2).val < 128 := (i 2).isLt
  let t : Fin cfg0.N := ⟨(i 1).val / 512, by have : cfg0.N = 66 := N_0; omega⟩
  refine ⟨t, flush0_3 t, ?_⟩
  obtain ⟨-, h0, h1, h2⟩ := index_facts t
  show i ∈ ((View.whole main_v10).slice ((cfg0.win 3).rect t)).set
  erw [View.set_slice_whole]
  refine (Pipeline.Window.mem_rect_iff (cfg0.win 3) t i (by rfl)).mpr fun a => ?_
  fin_cases a
  · show win0_3.index t 0 * 8 ≤ (i 0).val ∧ (i 0).val < win0_3.index t 0 * 8 + 8
    rw [h0]; omega
  · show win0_3.index t 1 * 512 ≤ (i 1).val ∧ (i 1).val < win0_3.index t 1 * 512 + 512
    rw [h1]; show (i 1).val / 512 * 512 ≤ _ ∧ _ < (i 1).val / 512 * 512 + 512
    omega
  · show win0_3.index t 2 * 128 ≤ (i 2).val ∧ (i 2).val < win0_3.index t 2 * 128 + 128
    rw [h2]; omega

/-- THE RESULT ARRAY after the run is the projection of every row. -/
theorem final : (dats m 0 c).arrAt 3 cfg0.N = tiles m c :=
  (dats m 0 c).arrAt_eq_of_cover 3 (tiles m c) (fun t _ => flushed_eq m c t) cover

end Cert.QueryIdeal.Array

end
-- ==== Proof.Query.Ref.lean ====
/- The query projection's reference, read at a batch element, a head, a position and one of the head's 64 columns. -/
module

public import proofs.«01_k».proof.Proof.Gen.QueryReferenceIdeal.Read
public import proofs.«01_k».proof.Proof.Row
public import Idealize.ShloMosaic.Lib.Pointwise

@[expose] public section

noncomputable section

namespace Cert.QueryReferenceIdeal.Rows

open Cert.QueryReferenceIdeal Cert.QueryReferenceIdeal.Gen Cert.QueryReferenceIdeal.Read Cert.Row Idealize.ShloMosaic
open scoped BigOperators

variable (x0 : (⟨S4x8208x1024, .f32⟩ : BufTy).Contents (Elt Ideal)) (x1 : (⟨S4x4x1024, .f32⟩ : BufTy).Contents (Elt Ideal))
  (x2 : (⟨S2x1024x1024, .f32⟩ : BufTy).Contents (Elt Ideal))

/-- The layer's first gain row. -/
theorem gain_apply (k : Fin 1024) : val_main_v3 (F := Ideal) x1 (ix1 k) = x1 (ix3 2 0 k) := by
  unfold val_main_v3 val_main_v2 val_main_v1 val_main_v0
  pointwise

/-- The layer's weights. -/
theorem w_apply (k f : Fin 1024) : val_main_v18 (F := Ideal) x2 (ix2 k f) = x2 (ix3 0 k f) := by
  unfold val_main_v18 val_main_v17
  pointwise

/-- The normalized hidden states. -/
theorem enter_apply (b : Fin 4) (p : Fin 8208) (j : Fin 1024) :
    val_main_v16 (F := Ideal) x0 x1 (ix3 b p j) = rms (fun k => x0 (ix3 b p k)) (fun k => x1 (ix3 2 0 k)) j := by
  unfold val_main_v16 val_main_v15 val_main_v14 val_main_v13 val_main_v12 val_main_v11 val_main_v10 val_main_v9 val_main_v8 val_main_v7 val_main_v6 val_main_v5 val_main_v4 rms cLen cEps val_main_cst val_main_cst_0 val_main_cst_1
  pointwise [gain_apply]

/-- The scaled queries of a head: 64 columns of the projection. -/
theorem queries_apply (b : Fin 4) (h : Fin 16) (p : Fin 8208) (d : Fin 64) :
    val_main_v23 (F := Ideal) x0 x1 x2 (ix4 b h p d)
      = lin (rms (fun k => x0 (ix3 b p k)) (fun k => x1 (ix3 2 0 k))) (fun k f => x2 (ix3 0 k f)) (⟨h.val * 64 + d.val, by omega⟩ : Fin 1024)
          * Ideal.ofBits .f32 0x3E000000#32 := by
  unfold val_main_v23 val_main_v22 val_main_v21 val_main_v20 val_main_v19 val_main_cst_2 lin
  pointwise [dot_S4x8208x1024_S1024x1024_S4x8208x1024_2_0_01_1_n_n, enter_apply, w_apply]

end Cert.QueryReferenceIdeal.Rows

end
-- ==== Proof.Query.Result.lean ====
/- The query projection's result, the scaled queries of every head: the real rows
   of its tiles are the reference's. -/
module

public import proofs.«01_k».proof.Proof.Query.Array
public import proofs.«01_k».proof.Proof.Query.Ref

@[expose] public section

noncomputable section

namespace Cert.QueryIdeal.Result

open Cert.QueryIdeal Cert.QueryIdeal.Gen Cert.QueryIdeal.Array Cert.Row Idealize.ShloMosaic Idealize.ShloMosaic.TcCoe
open scoped BigOperators

variable (m : (ℓ : Loc nD τ sig) → Buf (Elt Ideal) ℓ) (c : Dev nD)

/-- Position `p` of batch element `b` among the padded rows. -/
def real (b : Fin 4) (p : Fin 8208) : Fin 33792 := ⟨b.val * 8448 + (128 + p.val), by omega⟩

/-- A batch element's hidden states. -/
theorem hid_real (b : Fin 4) (p : Fin 8208) : hid m c (real b p) = fun k => m ((c : Thread nD τ).loc main_arg0) (ix3 b p k) := by
  funext k
  exact Prep.hidden_apply m c b p k

/-- The real rows of the tiles, head by head: a tile holds two heads. -/
def heads (x : FVec Ideal S8x33792x128 .bf16) : FVec Ideal S4x16x8208x64 .bf16 :=
  shapeCast S4x16x8208x64 (transpose S4x8x2x8208x64 [1, 0, 3, 2, 4] (extractStridedSlice S8x4x8208x2x64 ![0, 0, 128, 0, 0] (shapeCast S8x4x8448x2x64 x shapeCasts_S8x33792x128_S8x4x8448x2x64) slices_S8x4x8448x2x64_S8x4x8208x2x64_0_0_128_0_0) transposes_S8x4x8208x2x64_S4x8x2x8208x64_1_0_3_2_4) shapeCasts_S4x8x2x8208x64_S4x16x8208x64

/-- A head's entry: which tile, row and lane it lies in. -/
theorem heads_apply (x : FVec Ideal S8x33792x128 .bf16) (b : Fin 4) (h : Fin 16) (p : Fin 8208) (d : Fin 64) :
    heads x (ix4 b h p d) = x (ix3 (⟨h.val / 2, by omega⟩ : Fin 8) (real b p) (⟨h.val % 2 * 64 + d.val, by omega⟩ : Fin 128)) := by
  unfold heads real
  pointwise

/-- A head's column of the tiles is its column of the projection. -/
theorem heads_tiles (b : Fin 4) (h : Fin 16) (p : Fin 8208) (d : Fin 64) :
    heads (tiles m c) (ix4 b h p d) = rowOut m c (real b p) (⟨h.val * 64 + d.val, by omega⟩ : Fin 1024) := by
  refine (heads_apply _ b h p d).trans ?_
  show rowOut m c (real b p) (col _ _) = _
  congr 1
  exact Fin.ext (by show h.val / 2 * 128 + (h.val % 2 * 64 + d.val) = h.val * 64 + d.val; omega)

/-- The reference's result of the kernel's arguments. -/
def val : Buf (Elt Ideal) ((c : Thread nD τ).loc main_v15) :=
  Cert.QueryReferenceIdeal.Read.val_main_v23 (F := Ideal) (m ((c : Thread nD τ).loc main_arg0)) (m ((c : Thread nD τ).loc main_arg1)) (m ((c : Thread nD τ).loc main_arg2))

/-- The scale is one eighth. -/
theorem scale_eq : Prep.scale = (((1 : ℝ) / 8 : ℝ) : EReal) := by
  unfold Prep.scale
  simp [Ideal.ofBits, Ideal.ieee, -EReal.coe_mul]
  norm_num

/-- A factor that is finite and not negative may be taken out of a product's columns. -/
theorem lin_scale (x : Fin 1024 → EReal) (w : Fin 1024 → Fin 1024 → EReal) (a : EReal) (h0 : 0 ≤ a) (ht : a ≠ ⊤) (j : Fin 1024) :
    lin x (fun k f => w k f * a) j = lin x w j * a := by
  have key : ∀ s : Finset (Fin 1024), ∑ k ∈ s, x k * (w k j * a) = (∑ k ∈ s, x k * w k j) * a := by
    intro s
    induction s using Finset.induction_on with
    | empty => simp
    | insert k s hk ih => rw [Finset.sum_insert hk, Finset.sum_insert hk, ih, EReal.right_distrib_of_nonneg_of_ne_top h0 ht, mul_assoc]
  exact key Finset.univ

/-- The projection's columns at a real row are the reference's scaled queries. -/
theorem rowOut_real (b : Fin 4) (h : Fin 16) (p : Fin 8208) (d : Fin 64) :
    rowOut m c (real b p) (⟨h.val * 64 + d.val, by omega⟩ : Fin 1024) = val m c (ix4 b h p d) := by
  unfold val rowOut
  rw [Cert.QueryReferenceIdeal.Rows.queries_apply, hid_real]
  refine (lin_scale _ (fun k f => m ((c : Thread nD τ).loc main_arg2) (ix3 0 k f)) Prep.scale ?_ ?_ _).trans rfl
  · rw [scale_eq]; exact EReal.coe_nonneg.mpr (by norm_num)
  · rw [scale_eq]; exact EReal.coe_ne_top _

/-- THE RESULT: what the host lines after the region leave is the reference's result. -/
theorem tail_eq : Pipeline.afterTail₀ cfgs (dats m) 0 (V0 m) [hostOps1] c main_v15 = val m c := by
  have e : Pipeline.afterTail₀ cfgs (dats m) 0 (V0 m) [hostOps1] c main_v15
      = extf (F := Ideal) .f32 (heads (tiles m c)) bitsLt_bf16_f32 := by
    have h : Pipeline.withArrays spec0 c (V0 m c) (fun w => (dats m 0 c).arrAt w cfg0.N) (Proc.devRef .tc main_v10) = tiles m c :=
      (Pipeline.withArrays_arr spec0 (by decide : Function.Injective (Pipeline.arrRef spec0)) c (V0 m c) (fun w => (dats m 0 c).arrAt w cfg0.N) 3).trans (final m c)
    rw [← h]
    unfold Pipeline.afterTail₀
    show StableHlo.after hostOps1 _ _ = _
    after_results_simp
    rfl
  rw [e]
  funext y
  obtain ⟨b, h, p, d, rfl⟩ : ∃ (b : Fin 4) (h : Fin 16) (p : Fin 8208) (d : Fin 64), y = ix4 b h p d := ⟨y 0, y 1, y 2, y 3, by funext a; fin_cases a <;> rfl⟩
  exact (heads_tiles m c b h p d).trans (rowOut_real m c b h p d)

end Cert.QueryIdeal.Result

end
-- ==== Proof.Query.Claims.lean ====
/- The claims about the query projection: its frames, its idealization's ledger, and its equality with the reference over
   the extended reals. -/
module

public import proofs.«01_k».proof.Defs
public import proofs.«01_k».proof.Proof.Query.Result
public import proofs.«01_k».proof.Proof.Gen.Query.Frame
public import proofs.«01_k».proof.Proof.Gen.QueryReferenceIdeal.Run

@[expose] public section

noncomputable section

namespace Cert.Proof.Queries

open Idealize.ShloMosaic Idealize.ShloMosaic.TcCoe Idealize.SL.Sem

/-- The call terminates, leaves its arguments, and ends with every semaphore at zero. -/
theorem frame_p : Cert.quiescent_Query := fun m ρ _ => Cert.Query.Gen.frame m ρ

/-- So does its idealization. -/
theorem frame_pi : Cert.quiescent_QueryIdeal := fun m ρ _ => Cert.QueryIdeal.Gen.frame m ρ

/-- So does the reference, which has no semaphores. -/
theorem frame_ri : Cert.quiescent_QueryReferenceIdeal := fun m ρ _ =>
  (θ_run Cert.QueryReferenceIdeal.defs _ _).mono (fun r h => ⟨fun c => (h c).2, sem_eq_zero_of_no_sems (by decide) r.2⟩)
    (Cert.QueryReferenceIdeal.Value.run (F := Ideal) m ρ)

/-- The idealization replaced nothing, so there is nothing to preserve. -/
theorem preserves : Cert.preserves_Query_QueryIdeal := trivial

/-- On arguments that agree, the call's result and the reference's are one array of extended reals. -/
theorem algebraic : Cert.algebraic_QueryIdeal_QueryReferenceIdeal := by
  intro m ρ m' ρ' _ hagree
  refine ⟨fun c => Cert.QueryIdeal.Result.val m c, ?_, ?_⟩
  · refine (θ_run Cert.QueryIdeal.defs _ _).mono (fun r h c => ?_)
      (θ_run_and (Cert.QueryIdeal.Gen.run_main (F := Ideal) m ρ) (Cert.QueryIdeal.Gen.unchanged m ρ))
    exact ⟨((h.1 c).2 Cert.QueryIdeal.main_v15 (by decide)).trans (Cert.QueryIdeal.Result.tail_eq m c), h.2 c⟩
  · refine (θ_run Cert.QueryReferenceIdeal.defs _ _).mono (fun r h c => ?_) (Cert.QueryReferenceIdeal.Value.run (F := Ideal) m' ρ')
    refine ⟨(h c).1.trans ((Cert.QueryReferenceIdeal.Read.val_main_v23_eq (F := Ideal) _ _ _).trans ?_), (h c).2⟩
    obtain ⟨h0, h1, h2, _⟩ := hagree c
    rw [h0, h1, h2]
    rfl

end Cert.Proof.Queries

end
-- ==== Proof.NextConv.Prep.lean ====
/- The arrays the second short-convolution call's region finds, read at an index: the hidden states between the zeros before them
   and whatever rows stand after them, and the layer's gains and weights. -/
module

public import proofs.«01_k».proof.Proof.Gen.NextConvIdeal.Frame
public import Idealize.ShloMosaic.Lib.StableHlo.Run
public import Idealize.ShloMosaic.Lib.Pointwise

@[expose] public section

noncomputable section

namespace Cert.NextConvIdeal.Prep

open Cert.NextConvIdeal Cert.NextConvIdeal.Gen Idealize.ShloMosaic Idealize.ShloMosaic.TcCoe
open scoped BigOperators

variable (m : (ℓ : Loc nD τ sig) → Buf (Elt Ideal) ℓ) (c : Dev nD)

/-- The layer's gains. -/
theorem gains_apply (k : Fin 4) (f : Fin 1024) :
    V m c main_v4 (ix2 k f) = m ((c : Thread nD τ).loc main_arg2) (ix3 1 k f) := by
  have e : V m c main_v4 = shapeCast S4x1024 (extractStridedSlice S1x4x1024 ![1, 0, 0] (m ((c : Thread nD τ).loc main_arg2)) slices_S4x4x1024_S1x4x1024_1_0_0) shapeCasts_S1x4x1024_S4x1024 := by
    show StableHlo.after hostOps0 (fun b => m (c, b)) (Proc.devRef .tc main_v4) = _
    after_results_simp
    rfl
  rw [e]
  pointwise

/-- The mixer's input projection. -/
theorem wi_apply (k : Fin 1024) (f : Fin 3072) :
    V m c main_v13 (ix2 k f) = m ((c : Thread nD τ).loc main_arg3) (ix3 1 k f) := by
  have e : V m c main_v13 = truncf (F := Ideal) .bf16 (shapeCast S1024x3072 (extractStridedSlice S1x1024x3072 ![1, 0, 0] (m ((c : Thread nD τ).loc main_arg3)) slices_S2x1024x3072_S1x1024x3072_1_0_0) shapeCasts_S1x1024x3072_S1024x3072) bitsLt_bf16_f32 := by
    show StableHlo.after hostOps0 (fun b => m (c, b)) (Proc.devRef .tc main_v13) = _
    after_results_simp
    rfl
  rw [e]
  pointwise

/-- The convolution's weights. -/
theorem cw_apply (k : Fin 3) (f : Fin 1024) :
    V m c main_v15 (ix2 k f) = m ((c : Thread nD τ).loc main_arg4) (ix3 1 k f) := by
  have e : V m c main_v15 = shapeCast S3x1024 (extractStridedSlice S1x3x1024 ![1, 0, 0] (m ((c : Thread nD τ).loc main_arg4)) slices_S2x3x1024_S1x3x1024_1_0_0) shapeCasts_S1x3x1024_S3x1024 := by
    show StableHlo.after hostOps0 (fun b => m (c, b)) (Proc.devRef .tc main_v15) = _
    after_results_simp
    rfl
  rw [e]
  pointwise

/-- The mixer's output projection. -/
theorem wo_apply (k : Fin 1024) (f : Fin 1024) :
    V m c main_v18 (ix2 k f) = m ((c : Thread nD τ).loc main_arg5) (ix3 1 k f) := by
  have e : V m c main_v18 = truncf (F := Ideal) .bf16 (shapeCast S1024x1024 (extractStridedSlice S1x1024x1024 ![1, 0, 0] (m ((c : Thread nD τ).loc main_arg5)) slices_S2x1024x1024_S1x1024x1024_1_0_0) shapeCasts_S1x1024x1024_S1024x1024) bitsLt_bf16_f32 := by
    show StableHlo.after hostOps0 (fun b => m (c, b)) (Proc.devRef .tc main_v18) = _
    after_results_simp
    rfl
  rw [e]
  pointwise

/-- The feed-forward network's first weight. -/
theorem w1_apply (k : Fin 1024) (f : Fin 4096) :
    V m c main_v7 (ix2 k f) = m ((c : Thread nD τ).loc main_arg6) (ix3 1 k f) := by
  have e : V m c main_v7 = truncf (F := Ideal) .bf16 (shapeCast S1024x4096 (extractStridedSlice S1x1024x4096 ![1, 0, 0] (m ((c : Thread nD τ).loc main_arg6)) slices_S4x1024x4096_S1x1024x4096_1_0_0) shapeCasts_S1x1024x4096_S1024x4096) bitsLt_bf16_f32 := by
    show StableHlo.after hostOps0 (fun b => m (c, b)) (Proc.devRef .tc main_v7) = _
    after_results_simp
    rfl
  rw [e]
  pointwise

/-- The feed-forward network's second weight. -/
theorem w2_apply (k : Fin 4096) (f : Fin 1024) :
    V m c main_v10 (ix2 k f) = m ((c : Thread nD τ).loc main_arg7) (ix3 1 k f) := by
  have e : V m c main_v10 = truncf (F := Ideal) .bf16 (shapeCast S4096x1024 (extractStridedSlice S1x4096x1024 ![1, 0, 0] (m ((c : Thread nD τ).loc main_arg7)) slices_S4x4096x1024_S1x4096x1024_1_0_0) shapeCasts_S1x4096x1024_S4096x1024) bitsLt_bf16_f32 := by
    show StableHlo.after hostOps0 (fun b => m (c, b)) (Proc.devRef .tc main_v10) = _
    after_results_simp
    rfl
  rw [e]
  pointwise

/-- The padded rows as one array of the hidden states and the rows after them. -/
theorem hidden_eq :
    V m c main_v2 = shapeCast S33792x1024 (concatenate S4x8448x1024 1
      [⟨S4x128x1024, broadcastInDim S4x128x1024 ![] bcast_S_S4x128x1024 (constant (F := Ideal) S_ .f32 0x00000000#32)⟩,
        ⟨S4x8208x1024, m ((c : Thread nD τ).loc main_arg0)⟩,
        ⟨S4x112x1024, m ((c : Thread nD τ).loc main_arg1)⟩]
      concatenates_S4x128x1024_S4x8208x1024_S4x112x1024_S4x8448x1024_d1) shapeCasts_S4x8448x1024_S33792x1024 := by
  show StableHlo.after hostOps0 (fun b => m (c, b)) (Proc.devRef .tc main_v2) = _
  after_results_simp
  rfl

/-- A batch element's hidden states. -/
theorem hidden_real (b : Fin 4) (p : Fin 8208) (j : Fin 1024) :
    V m c main_v2 (ix2 (⟨b.val * 8448 + (128 + p.val), by omega⟩ : Fin 33792) j) = m ((c : Thread nD τ).loc main_arg0) (ix3 b p j) := by
  rw [hidden_eq]
  generalize m ((c : Thread nD τ).loc main_arg0) = x
  generalize m ((c : Thread nD τ).loc main_arg1) = y
  pointwise
  have hp := p.isLt
  have hb := b.isLt
  rw [dif_neg (by omega), dif_pos (by omega)]
  congr 2
  exact Fin.ext (by show (b.val * 8448 + (128 + p.val)) % 8448 - 128 = p.val; omega)

/-- The rows before a batch element's hidden states are zeros. -/
theorem hidden_pad (b : Fin 4) (p : Fin 128) (j : Fin 1024) :
    V m c main_v2 (ix2 (⟨b.val * 8448 + p.val, by omega⟩ : Fin 33792) j) = (0 : EReal) := by
  rw [hidden_eq]
  generalize m ((c : Thread nD τ).loc main_arg0) = x
  generalize m ((c : Thread nD τ).loc main_arg1) = y
  pointwise
  have hp := p.isLt
  have hb := b.isLt
  rw [dif_pos (by omega)]

end Cert.NextConvIdeal.Prep

end
-- ==== Proof.NextConv.Block.lean ====
/- What the convolution kernel's payloads compute, read at a row and a column of its block: the mixer block and the
   feed-forward block of that row (`Cert.Row`), the rows before it as the scratch buffer gives them. -/
module

public import proofs.«01_k».proof.Proof.Gen.NextConvIdeal.Skeleton
public import proofs.«01_k».proof.Proof.Conv.Row
public import Idealize.ShloMosaic.Lib.Pointwise

@[expose] public section

noncomputable section

namespace Cert.NextConvIdeal.Block

open Cert.NextConvIdeal Cert.NextConvIdeal.Gen Cert.Row Idealize.ShloMosaic
open scoped BigOperators

/-- The normalized input row. -/
theorem pay3_apply (v3 : Vec Ideal S512x1024 .f32) (v5 : Vec Ideal S1x1024 .f32) (r : Fin 512) (j : Fin 1024) :
    k0_pay3 v3 v5 (ix2 r j) = rms (fun k => v3 (ix2 r k)) (fun k => v5 (ix2 0 k)) j := by
  unfold k0_pay3 k0_pay2 rms cLen cEps
  pointwise

/-- What the row puts into the convolution. -/
theorem pay4_apply (v3 : Vec Ideal S512x1024 .f32) (v5 : Vec Ideal S1x1024 .f32) (v20 v23 : Vec Ideal S1024x1024 .bf16) (r : Fin 512) (j : Fin 1024) :
    k0_pay4 v3 v5 v20 v23 (ix2 r j)
      = lin (fun k => k0_pay3 v3 v5 (ix2 r k)) (fun k f => v20 (ix2 k f)) j
        * lin (fun k => k0_pay3 v3 v5 (ix2 r k)) (fun k f => v23 (ix2 k f)) j := by
  unfold k0_pay4 lin
  generalize k0_pay3 v3 v5 = y
  pointwise [dot_S512x1024_S1024x1024_S512x1024_1_0_0_1_n_n]

/-- The same stored. -/
theorem pay5_apply (v3 : Vec Ideal S512x1024 .f32) (v5 : Vec Ideal S1x1024 .f32) (v20 v23 : Vec Ideal S1024x1024 .bf16) (r : Fin 512) (j : Fin 1024) :
    k0_pay5 v3 v5 v20 v23 (ix2 r j) = k0_pay4 v3 v5 v20 v23 (ix2 r j) := by
  unfold k0_pay5
  generalize k0_pay4 v3 v5 v20 v23 = y
  pointwise

/-- The projected mixer row. -/
def mixed (v19 : FVec Ideal S512x1024 .bf16) (v26 v34 : FVec Ideal S512x1024 .f32) (v35 : Vec Ideal S512x1024 .f32) (v36 v41 : Vec Ideal S1x1024 .f32)
    (v50 v55 : Vec Ideal S1024x1024 .bf16) (r : Fin 512) : Fin 1024 → EReal :=
  lin (fun k => lin (fun k => v19 (ix2 r k)) (fun k f => v50 (ix2 k f)) k
    * (v34 (ix2 r k) + v35 (ix2 r k) * v36 (ix2 0 k) + v26 (ix2 r k) * v41 (ix2 0 k))) (fun k f => v55 (ix2 k f))

/-- The mixer block's row. -/
theorem pay8_apply (v4 : FVec Ideal S512x1024 .f32) (v19 : FVec Ideal S512x1024 .bf16) (v26 v34 : FVec Ideal S512x1024 .f32) (v35 : Vec Ideal S512x1024 .f32)
    (v36 v41 : Vec Ideal S1x1024 .f32) (v50 v55 : Vec Ideal S1024x1024 .bf16) (v58 : Vec Ideal S1x1024 .f32) (r : Fin 512) (j : Fin 1024) :
    k0_pay8 v4 v19 v26 v34 v35 v36 v41 v50 v55 v58 (ix2 r j)
      = v4 (ix2 r j) + rms (mixed v19 v26 v34 v35 v36 v41 v50 v55 r) (fun k => v58 (ix2 0 k)) j := by
  unfold k0_pay8 mixed rms lin cLen cEps
  pointwise [dot_S512x1024_S1024x1024_S512x1024_1_0_0_1_n_n]

/-- The first tap. -/
theorem pay6_apply (v30 : Vec Ideal S512x1024 .f32) (v31 : Vec Ideal S1x1024 .f32) (r : Fin 512) (j : Fin 1024) :
    k0_pay6 v30 v31 (ix2 r j) = v30 (ix2 r j) * v31 (ix2 0 j) := by
  pointwise [k0_pay6]

/-- The normalized input of the feed-forward network. -/
theorem pay9_apply (v72 : FVec Ideal S512x1024 .f32) (v73 : Vec Ideal S1x1024 .f32) (r : Fin 512) (j : Fin 1024) :
    k0_pay9 v72 v73 (ix2 r j) = rms (fun k => v72 (ix2 r k)) (fun k => v73 (ix2 0 k)) j := by
  unfold k0_pay9 rms cLen cEps
  pointwise

/-- The first two chunks of hidden units. -/
theorem pay10_apply (v72 : FVec Ideal S512x1024 .f32) (v73 : Vec Ideal S1x1024 .f32) (v89 v96 v100 v107 : Vec Ideal S1024x1024 .bf16) (r : Fin 512) (j : Fin 1024) :
    k0_pay10 v72 v73 v89 v96 v100 v107 (ix2 r j)
      = (∑ t : Fin 1024, sqrelu (lin (fun k => k0_pay9 v72 v73 (ix2 r k)) (fun k f => v89 (ix2 k f)) t) * v96 (ix2 t j))
        + ∑ t : Fin 1024, sqrelu (lin (fun k => k0_pay9 v72 v73 (ix2 r k)) (fun k f => v100 (ix2 k f)) t) * v107 (ix2 t j) := by
  unfold k0_pay10 lin sqrelu
  generalize k0_pay9 v72 v73 = y
  pointwise [dot_S512x1024_S1024x1024_S512x1024_1_0_0_1_n_n]

/-- The sum of all four chunks. -/
def summed (v87 : FVec Ideal S512x1024 .bf16) (v110 : FVec Ideal S512x1024 .f32) (v111 v118 v122 v129 : Vec Ideal S1024x1024 .bf16) (r : Fin 512) (j : Fin 1024) : EReal :=
  (v110 (ix2 r j) + ∑ t : Fin 1024, sqrelu (lin (fun k => v87 (ix2 r k)) (fun k f => v111 (ix2 k f)) t) * v118 (ix2 t j))
    + ∑ t : Fin 1024, sqrelu (lin (fun k => v87 (ix2 r k)) (fun k f => v122 (ix2 k f)) t) * v129 (ix2 t j)

/-- The kernel's stored value. -/
theorem pay11_apply (v72 : FVec Ideal S512x1024 .f32) (v87 : FVec Ideal S512x1024 .bf16) (v110 : FVec Ideal S512x1024 .f32)
    (v111 v118 v122 v129 : Vec Ideal S1024x1024 .bf16) (v133 : Vec Ideal S1x1024 .f32) (r : Fin 512) (j : Fin 1024) :
    k0_pay11 v72 v87 v110 v111 v118 v122 v129 v133 (ix2 r j)
      = v72 (ix2 r j) + rms (summed v87 v110 v111 v118 v122 v129 r) (fun k => v133 (ix2 0 k)) j := by
  unfold k0_pay11 summed rms lin sqrelu cLen cEps
  pointwise [dot_S512x1024_S1024x1024_S512x1024_1_0_0_1_n_n]

end Cert.NextConvIdeal.Block

end
-- ==== Proof.NextConv.Body.lean ====
/- What one grid point of the convolution kernel leaves: its output block's rows as the mixer and feed-forward blocks of the
   input rows, and the eight scratch rows it hands to the next point. -/
module

public import proofs.«01_k».proof.Proof.Gen.NextConvIdeal.Frame
public import proofs.«01_k».proof.Proof.NextConv.Block
public import Idealize.ShloMosaic.Lib.Pipeline.ValueKit
public import Idealize.ShloMosaic.Lib.VecWindow
public import Idealize.ShloMosaic.Lib.WritesUnit

@[expose] public section

noncomputable section

namespace Cert.NextConvIdeal.Body

open Cert.NextConvIdeal Cert.NextConvIdeal.Gen Cert.Row Idealize.ShloMosaic
open scoped BigOperators

theorem hz2 : (![0, 0] : Fin 2 → ℕ) = fun _ => 0 := by funext a; fin_cases a <;> rfl

/-- What a block's rows put into the convolution, as stored. -/
def gates (x0 : Vec Ideal S512x1024 .f32) (x1 : Vec Ideal S4x1024 .f32) (x2 : Vec Ideal S1024x3072 .bf16) : FVec Ideal S512x1024 .f32 :=
  k0_pay5 x0 (View.ld x1 (Rect.unit ![0, 0] S1x1024.size inb_S4x1024_S1x1024_0_0))
    (View.ld x2 (Rect.unit ![0, 1024] S1024x1024.size inb_S1024x3072_S1024x1024_0_1024))
    (View.ld x2 (Rect.unit ![0, 2048] S1024x1024.size inb_S1024x3072_S1024x1024_0_2048))

/-- The residual mixer block as computed, `a` and `b` the scratch read two rows and one row back. -/
def mixer (x0 : Vec Ideal S512x1024 .f32) (x1 : Vec Ideal S4x1024 .f32) (x2 : Vec Ideal S1024x3072 .bf16) (x3 : Vec Ideal S3x1024 .f32)
    (x4 : Vec Ideal S1024x1024 .bf16) (a b : Vec Ideal S512x1024 .f32) : FVec Ideal S512x1024 .f32 :=
  k0_pay8 (k0_pay2 x0) (k0_pay3 x0 (View.ld x1 (Rect.unit ![0, 0] S1x1024.size inb_S4x1024_S1x1024_0_0)))
    (k0_pay4 x0 (View.ld x1 (Rect.unit ![0, 0] S1x1024.size inb_S4x1024_S1x1024_0_0))
      (View.ld x2 (Rect.unit ![0, 1024] S1024x1024.size inb_S1024x3072_S1024x1024_0_1024))
      (View.ld x2 (Rect.unit ![0, 2048] S1024x1024.size inb_S1024x3072_S1024x1024_0_2048)))
    (k0_pay6 a (View.ld x3 (Rect.unit ![0, 0] S1x1024.size inb_S3x1024_S1x1024_0_0))) b
    (View.ld x3 (Rect.unit ![1, 0] S1x1024.size inb_S3x1024_S1x1024_1_0))
    (View.ld x3 (Rect.unit ![2, 0] S1x1024.size inb_S3x1024_S1x1024_2_0))
    (View.ld x2 (Rect.unit ![0, 0] S1024x1024.size inb_S1024x3072_S1024x1024_0_0)) x4
    (View.ld x1 (Rect.unit ![1, 0] S1x1024.size inb_S4x1024_S1x1024_1_0))

/-- The stored block as computed. -/
def stored (x0 : Vec Ideal S512x1024 .f32) (x1 : Vec Ideal S4x1024 .f32) (x2 : Vec Ideal S1024x3072 .bf16) (x3 : Vec Ideal S3x1024 .f32)
    (x4 : Vec Ideal S1024x1024 .bf16) (x5 : Vec Ideal S1024x4096 .bf16) (x6 : Vec Ideal S4096x1024 .bf16) (a b : Vec Ideal S512x1024 .f32) :
    FVec Ideal S512x1024 .f32 :=
  k0_pay11 (mixer x0 x1 x2 x3 x4 a b)
    (k0_pay9 (mixer x0 x1 x2 x3 x4 a b) (View.ld x1 (Rect.unit ![2, 0] S1x1024.size inb_S4x1024_S1x1024_2_0)))
    (k0_pay10 (mixer x0 x1 x2 x3 x4 a b) (View.ld x1 (Rect.unit ![2, 0] S1x1024.size inb_S4x1024_S1x1024_2_0))
      (View.ld x5 (Rect.unit ![0, 0] S1024x1024.size inb_S1024x4096_S1024x1024_0_0))
      (View.ld x6 (Rect.unit ![0, 0] S1024x1024.size inb_S4096x1024_S1024x1024_0_0))
      (View.ld x5 (Rect.unit ![0, 1024] S1024x1024.size inb_S1024x4096_S1024x1024_0_1024))
      (View.ld x6 (Rect.unit ![1024, 0] S1024x1024.size inb_S4096x1024_S1024x1024_1024_0)))
    (View.ld x5 (Rect.unit ![0, 2048] S1024x1024.size inb_S1024x4096_S1024x1024_0_2048))
    (View.ld x6 (Rect.unit ![2048, 0] S1024x1024.size inb_S4096x1024_S1024x1024_2048_0))
    (View.ld x5 (Rect.unit ![0, 3072] S1024x1024.size inb_S1024x4096_S1024x1024_0_3072))
    (View.ld x6 (Rect.unit ![3072, 0] S1024x1024.size inb_S4096x1024_S1024x1024_3072_0))
    (View.ld x1 (Rect.unit ![3, 0] S1x1024.size inb_S4x1024_S1x1024_3_0))

section rows

variable (x0 : Vec Ideal S512x1024 .f32) (x1 : Vec Ideal S4x1024 .f32) (x2 : Vec Ideal S1024x3072 .bf16) (x3 : Vec Ideal S3x1024 .f32)
  (x4 : Vec Ideal S1024x1024 .bf16) (x5 : Vec Ideal S1024x4096 .bf16) (x6 : Vec Ideal S4096x1024 .bf16) (a b : Vec Ideal S512x1024 .f32)

/-- A row of the gains' array loaded on its own. -/
theorem ld_x1 (k : Fin 1024) :
    View.ld x1 (Rect.unit ![0, 0] S1x1024.size inb_S4x1024_S1x1024_0_0) (ix2 0 k) = x1 (ix2 0 k)
    ∧ View.ld x1 (Rect.unit ![1, 0] S1x1024.size inb_S4x1024_S1x1024_1_0) (ix2 0 k) = x1 (ix2 1 k)
    ∧ View.ld x1 (Rect.unit ![2, 0] S1x1024.size inb_S4x1024_S1x1024_2_0) (ix2 0 k) = x1 (ix2 2 k)
    ∧ View.ld x1 (Rect.unit ![3, 0] S1x1024.size inb_S4x1024_S1x1024_3_0) (ix2 0 k) = x1 (ix2 3 k) := by
  refine ⟨?_, ?_, ?_, ?_⟩ <;> pointwise

/-- A row of the convolution's weights loaded on its own. -/
theorem ld_x3 (k : Fin 1024) :
    View.ld x3 (Rect.unit ![0, 0] S1x1024.size inb_S3x1024_S1x1024_0_0) (ix2 0 k) = x3 (ix2 0 k)
    ∧ View.ld x3 (Rect.unit ![1, 0] S1x1024.size inb_S3x1024_S1x1024_1_0) (ix2 0 k) = x3 (ix2 1 k)
    ∧ View.ld x3 (Rect.unit ![2, 0] S1x1024.size inb_S3x1024_S1x1024_2_0) (ix2 0 k) = x3 (ix2 2 k) := by
  refine ⟨?_, ?_, ?_⟩ <;> pointwise

/-- A third of the input projection loaded on its own. -/
theorem ld_x2 (k f : Fin 1024) :
    View.ld x2 (Rect.unit ![0, 0] S1024x1024.size inb_S1024x3072_S1024x1024_0_0) (ix2 k f) = third (fun k f => x2 (ix2 k f)) 0 (by omega) k f
    ∧ View.ld x2 (Rect.unit ![0, 1024] S1024x1024.size inb_S1024x3072_S1024x1024_0_1024) (ix2 k f) = third (fun k f => x2 (ix2 k f)) 1024 (by omega) k f
    ∧ View.ld x2 (Rect.unit ![0, 2048] S1024x1024.size inb_S1024x3072_S1024x1024_0_2048) (ix2 k f) = third (fun k f => x2 (ix2 k f)) 2048 (by omega) k f := by
  unfold third
  refine ⟨?_, ?_, ?_⟩
  · pointwise
  · pointwise
  · pointwise

/-- A block of the network's first matrix loaded on its own. -/
theorem ld_x5 (k f : Fin 1024) :
    View.ld x5 (Rect.unit ![0, 0] S1024x1024.size inb_S1024x4096_S1024x1024_0_0) (ix2 k f) = x5 (ix2 k (⟨f.val, by omega⟩ : Fin 4096))
    ∧ View.ld x5 (Rect.unit ![0, 1024] S1024x1024.size inb_S1024x4096_S1024x1024_0_1024) (ix2 k f) = x5 (ix2 k (⟨1024 + f.val, by omega⟩ : Fin 4096))
    ∧ View.ld x5 (Rect.unit ![0, 2048] S1024x1024.size inb_S1024x4096_S1024x1024_0_2048) (ix2 k f) = x5 (ix2 k (⟨2048 + f.val, by omega⟩ : Fin 4096))
    ∧ View.ld x5 (Rect.unit ![0, 3072] S1024x1024.size inb_S1024x4096_S1024x1024_0_3072) (ix2 k f) = x5 (ix2 k (⟨3072 + f.val, by omega⟩ : Fin 4096)) := by
  refine ⟨?_, ?_, ?_, ?_⟩ <;> pointwise

/-- A block of the network's second matrix loaded on its own. -/
theorem ld_x6 (f k : Fin 1024) :
    View.ld x6 (Rect.unit ![0, 0] S1024x1024.size inb_S4096x1024_S1024x1024_0_0) (ix2 f k) = x6 (ix2 (⟨f.val, by omega⟩ : Fin 4096) k)
    ∧ View.ld x6 (Rect.unit ![1024, 0] S1024x1024.size inb_S4096x1024_S1024x1024_1024_0) (ix2 f k) = x6 (ix2 (⟨1024 + f.val, by omega⟩ : Fin 4096) k)
    ∧ View.ld x6 (Rect.unit ![2048, 0] S1024x1024.size inb_S4096x1024_S1024x1024_2048_0) (ix2 f k) = x6 (ix2 (⟨2048 + f.val, by omega⟩ : Fin 4096) k)
    ∧ View.ld x6 (Rect.unit ![3072, 0] S1024x1024.size inb_S4096x1024_S1024x1024_3072_0) (ix2 f k) = x6 (ix2 (⟨3072 + f.val, by omega⟩ : Fin 4096) k) := by
  refine ⟨?_, ?_, ?_, ?_⟩ <;> pointwise

/-- A row of what the block puts into the convolution. -/
theorem gates_apply (r : Fin 512) (j : Fin 1024) :
    gates x0 x1 x2 (ix2 r j) = gated (fun k => x0 (ix2 r k)) (fun k => x1 (ix2 0 k)) (fun k f => x2 (ix2 k f)) j := by
  unfold gates gated
  rw [Block.pay5_apply, Block.pay4_apply]
  simp only [Block.pay3_apply, (ld_x1 x1 _).1, (ld_x2 x2 _ _).2.1, (ld_x2 x2 _ _).2.2]

/-- A row of the mixer block. -/
theorem mixer_apply (r : Fin 512) (j : Fin 1024) :
    mixer x0 x1 x2 x3 x4 a b (ix2 r j)
      = mix (fun k => x0 (ix2 r k)) (convRow (fun k => x0 (ix2 r k)) (fun k => a (ix2 r k)) (fun k => b (ix2 r k)) (fun k => x1 (ix2 0 k))
          (fun k f => x2 (ix2 k f)) (fun c k => x3 (ix2 c k))) (fun k => x1 (ix2 1 k)) (fun k f => x4 (ix2 k f)) j := by
  have h : k0_pay2 x0 (ix2 r j) = x0 (ix2 r j) := by unfold k0_pay2; pointwise
  unfold mixer mix convRow
  rw [Block.pay8_apply, h]
  unfold Block.mixed taps gated
  simp only [Block.pay6_apply, Block.pay4_apply, Block.pay3_apply, (ld_x1 x1 _).1, (ld_x1 x1 _).2.1, (ld_x2 x2 _ _).1, (ld_x2 x2 _ _).2.1, (ld_x2 x2 _ _).2.2,
    (ld_x3 x3 _).1, (ld_x3 x3 _).2.1, (ld_x3 x3 _).2.2]

/-- A row of the stored block: the mixer block, then the feed-forward block. -/
theorem stored_apply (r : Fin 512) (j : Fin 1024) :
    stored x0 x1 x2 x3 x4 x5 x6 a b (ix2 r j)
      = mlp (mix (fun k => x0 (ix2 r k)) (convRow (fun k => x0 (ix2 r k)) (fun k => a (ix2 r k)) (fun k => b (ix2 r k)) (fun k => x1 (ix2 0 k))
          (fun k f => x2 (ix2 k f)) (fun c k => x3 (ix2 c k))) (fun k => x1 (ix2 1 k)) (fun k f => x4 (ix2 k f)))
          (fun k => x1 (ix2 2 k)) (fun k => x1 (ix2 3 k)) (fun k f => x5 (ix2 k f)) (fun f k => x6 (ix2 f k)) j := by
  unfold stored mlp
  rw [Block.pay11_apply, mixer_apply]
  congr 2
  · funext k
    rw [ff_four]
    unfold Block.summed
    simp only [Block.pay10_apply, Block.pay9_apply, mixer_apply, (ld_x1 x1 _).2.2.1, (ld_x5 x5 _ _).1, (ld_x5 x5 _ _).2.1, (ld_x5 x5 _ _).2.2.1,
      (ld_x5 x5 _ _).2.2.2, (ld_x6 x6 _ _).1, (ld_x6 x6 _ _).2.1, (ld_x6 x6 _ _).2.2.1, (ld_x6 x6 _ _).2.2.2]
    rfl
  · funext k; exact (ld_x1 x1 k).2.2.2

end rows

/-! ## The run's pieces -/

/-- A load through a whole memref held at the contents that read `x` is a load of `x`. -/
theorem load_unread {κ : Kind} {sp : Space} {s : Shape} {e : EltTy} {mr : Memref sig κ sp s e} (h : mr.IsWhole) (x : Vec Ideal s e) (R : Rect s) :
    View.readAt (Elt Ideal) mr.view R.toLoadRect (h.unread x) = View.ld x R := by
  rw [View.readAt_eq_ld, h.read_unread]

section scratch

variable {κ : Kind} {sp : Space} (v : View sig κ sp S520x1024 .f32) (u : Vec Ideal S512x1024 .f32)

/-- The scratch after the block's rows are stored from row 8 on: those rows. -/
theorem canon_block (L : List (View.Piece (Elt Ideal) S520x1024 .f32)) (r : Fin 512) (k : Fin 1024) :
    View.canon (⟨Rect.unit (s := S520x1024) ![8, 0] S512x1024.size inb_S520x1024_S512x1024_8_0, u⟩ :: L) (ix2 ⟨8 + r.val, by omega⟩ k) = u (ix2 r k) := by
  have e : (Rect.unit (s := S520x1024) ![8, 0] S512x1024.size inb_S520x1024_S512x1024_8_0).emb (ix2 r k) = ix2 (⟨8 + r.val, by omega⟩ : Fin 520) k := by
    funext a; apply Fin.ext; fin_cases a
    · show 8 + 1 * r.val = 8 + r.val; omega
    · show 0 + 1 * k.val = k.val; omega
  rw [← e]
  exact View.canon_cons_emb _ _ _ _

/-- The eight rows copied to the top are the block's last eight. -/
theorem carried (L : List (View.Piece (Elt Ideal) S520x1024 .f32)) (r : Fin 8) (k : Fin 1024) :
    View.canon (⟨Rect.unit (s := S520x1024) ![0, 0] S8x1024.size inb_S520x1024_S8x1024_0_0,
        k0_pay7 (v.readCov (⟨Rect.unit (s := S520x1024) ![8, 0] S512x1024.size inb_S520x1024_S512x1024_8_0, u⟩ :: L)
          (Rect.unit (s := S520x1024) ![512, 0] S8x1024.size inb_S520x1024_S8x1024_512_0).toLoadRect)⟩
        :: (⟨Rect.unit (s := S520x1024) ![8, 0] S512x1024.size inb_S520x1024_S512x1024_8_0, u⟩ :: L)) (ix2 ⟨r.val, by omega⟩ k)
      = u (ix2 ⟨504 + r.val, by omega⟩ k) := by
  have e : (Rect.unit (s := S520x1024) ![0, 0] S8x1024.size inb_S520x1024_S8x1024_0_0).emb (ix2 r k) = ix2 (⟨r.val, by omega⟩ : Fin 520) k := by
    funext a; apply Fin.ext; fin_cases a
    · show 0 + 1 * r.val = r.val; omega
    · show 0 + 1 * k.val = k.val; omega
  have e2 : (Rect.unit (s := S520x1024) ![512, 0] S8x1024.size inb_S520x1024_S8x1024_512_0).toLoadRect.idx (ix2 r k)
      = ix2 (⟨8 + (⟨504 + r.val, by omega⟩ : Fin 512).val, by show 8 + (504 + r.val) < 520; omega⟩ : Fin 520) k := by
    funext a; apply Fin.ext; fin_cases a
    · show 512 + 1 * r.val = 8 + (504 + r.val); omega
    · show 0 + 1 * k.val = k.val; omega
  have e3 : ∀ y : Vec Ideal S8x1024 .f32, k0_pay7 y (ix2 r k) = y (ix2 r k) := fun y => by unfold k0_pay7; pointwise
  rw [← e]
  refine (View.canon_cons_emb _ _ _ _).trans ((e3 _).trans ?_)
  rw [View.readCov_eq_canon']
  show View.canon _ ((Rect.unit (s := S520x1024) ![512, 0] S8x1024.size inb_S520x1024_S8x1024_512_0).toLoadRect.idx (ix2 r k)) = _
  rw [e2]
  exact canon_block u L _ k

/-- The scratch read at or past row 8 after the block's rows are stored from row 8 on, whatever it held: the block's row. -/
theorem read_block (f : v.ty.Contents (Elt Ideal)) (L : List (View.Piece (Elt Ideal) S520x1024 .f32)) (q : Fin 520) (k : Fin 1024) (hq : 8 ≤ q.val) :
    v.read (Elt Ideal) (v.writes (Elt Ideal) f (⟨Rect.unit (s := S520x1024) ![8, 0] S512x1024.size inb_S520x1024_S512x1024_8_0, u⟩ :: L)) (ix2 q k)
      = u (ix2 ⟨q.val - 8, by omega⟩ k) :=
  View.read_writes_cons_rows_of_mem (o := 8) v f inb_S520x1024_S512x1024_8_0 u L (ix2 q k) (ix2 ⟨q.val - 8, by omega⟩ k) rfl
    (by show q.val = 8 + (q.val - 8); omega) rfl

/-- Before row 8 it reads what it held. -/
theorem read_before (f : v.ty.Contents (Elt Ideal)) (L : List (View.Piece (Elt Ideal) S520x1024 .f32)) (q : Fin 520) (k : Fin 1024) (hq : q.val < 8) :
    v.read (Elt Ideal) (v.writes (Elt Ideal) f (⟨Rect.unit (s := S520x1024) ![8, 0] S512x1024.size inb_S520x1024_S512x1024_8_0, u⟩ :: L)) (ix2 q k)
      = v.read (Elt Ideal) (v.writes (Elt Ideal) f L) (ix2 q k) :=
  View.read_writes_cons_rows_of_not_mem (o := 8) (W := 512) v f inb_S520x1024_S512x1024_8_0 u L (ix2 q k) rfl rfl (.inl hq)

/-- The zero fill's rows read zero. -/
theorem read_zeros (f : v.ty.Contents (Elt Ideal)) (q : Fin 520) (k : Fin 1024) (hq : q.val < 8) :
    v.read (Elt Ideal) (v.writes (Elt Ideal) f [⟨Rect.unit (s := S520x1024) ![0, 0] S8x1024.size inb_S520x1024_S8x1024_0_0, (k0_pay1 (F := Ideal))⟩]) (ix2 q k) = 0 := by
  refine (View.read_writes_cons_rows_of_mem (o := 0) v f inb_S520x1024_S8x1024_0_0 (k0_pay1 (F := Ideal)) [] (ix2 q k) (ix2 ⟨q.val, hq⟩ k) rfl
    (by show q.val = 0 + q.val; omega) rfl).trans ?_
  pointwise [k0_pay1]

/-- A load of 512 rows from row `o` on reads row `o + r`. -/
theorem load_rows (f : v.ty.Contents (Elt Ideal)) (o : ℕ) (inb : ∀ a, (![o, 0] : Fin 2 → ℕ) a + S512x1024.size a ≤ S520x1024.size a) (ho : o ≤ 8) (r : Fin 512) (k : Fin 1024) :
    View.readAt (Elt Ideal) v (Rect.unit (s := S520x1024) ![o, 0] S512x1024.size inb).toLoadRect f (ix2 r k)
      = v.read (Elt Ideal) f (ix2 (⟨o + r.val, by omega⟩ : Fin 520) k) := by
  rw [View.readAt_apply]
  congr 1
  funext a; apply Fin.ext; fin_cases a
  · show o + 1 * r.val = o + r.val; omega
  · show 0 + 1 * k.val = k.val; omega

end scratch

/-- The row `d` rows before row `r` of a block, as the scratch gives it: the rows `top` handed over where it lies before the block. -/
def back (top : Fin 8 → Fin 1024 → EReal) (u : Fin 512 → Fin 1024 → EReal) (d : ℕ) (hd : d ≤ 8) (r : Fin 512) : Fin 1024 → EReal :=
  if h : r.val < d then top ⟨8 + r.val - d, by omega⟩ else u ⟨r.val - d, by omega⟩

section pieces

variable (c : Dev nD) (i : grid0.Coords) (arg1 : Memref sig .tc .vmem S512x1024 .f32) (harg1 : arg1.IsWhole) (arg2 : Memref sig .tc .vmem S4x1024 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S512x1024 .f32) (harg8 : arg8.IsWhole) (arg9 : Memref sig .tc .vmem S520x1024 .f32) (harg9 : arg9.IsWhole)
  (x0 : Vec Ideal S512x1024 .f32) (x1 : Vec Ideal S4x1024 .f32) (x2 : Vec Ideal S1024x3072 .bf16) (x3 : Vec Ideal S3x1024 .f32) (x4 : Vec Ideal S1024x1024 .bf16) (x5 : Vec Ideal S1024x4096 .bf16) (x6 : Vec Ideal S4096x1024 .bf16) (xs0 : Vec Ideal S520x1024 .f32)

/-- The block a later point leaves is the stored block with the scratch rows read before and after the block's own store. -/
theorem out_B (hc0 : ¬cond0_0 i) :
    out0_B_7 c i arg1 harg1 arg2 harg2 arg3 harg3 arg4 harg4 arg5 harg5 arg6 harg6 arg7 harg7 arg8 harg8 arg9 harg9 hc0 x0 x1 x2 x3 x4 x5 x6 xs0
      = stored x0 x1 x2 x3 x4 x5 x6
          (View.readAt (Elt Ideal) arg9.view (Rect.unit (s := S520x1024) ![6, 0] S512x1024.size inb_S520x1024_S512x1024_6_0).toLoadRect
            (arg9.view.writes (Elt Ideal) (harg9.unread xs0) [⟨Rect.unit (s := S520x1024) ![8, 0] S512x1024.size inb_S520x1024_S512x1024_8_0, gates x0 x1 x2⟩]))
          (View.readAt (Elt Ideal) arg9.view (Rect.unit (s := S520x1024) ![7, 0] S512x1024.size inb_S520x1024_S512x1024_7_0).toLoadRect
            (arg9.view.writes (Elt Ideal) (harg9.unread xs0) [⟨Rect.unit (s := S520x1024) ![8, 0] S512x1024.size inb_S520x1024_S512x1024_8_0, gates x0 x1 x2⟩])) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  rw [View.canon_unit_zero hz2]
  unfold kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  unfold stored mixer gates kernelRun0_B.sl.HS0_1
  simp only [load_unread, View.ld_unit_zero (S := S512x1024) hz2, View.ld_unit_zero (S := S1024x1024) hz2]

/-- The block the first point leaves is the stored block with the scratch rows read after the zero fill and the block's own store. -/
theorem out_A (hc0 : cond0_0 i) :
    out0_A_7 c i arg1 harg1 arg2 harg2 arg3 harg3 arg4 harg4 arg5 harg5 arg6 harg6 arg7 harg7 arg8 harg8 arg9 harg9 hc0 x0 x1 x2 x3 x4 x5 x6
      = stored x0 x1 x2 x3 x4 x5 x6
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![6, 0] S512x1024.size inb_S520x1024_S512x1024_6_0).toLoadRect)
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![7, 0] S512x1024.size inb_S520x1024_S512x1024_7_0).toLoadRect) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  rw [View.canon_unit_zero hz2]
  have hg : kernelRun0_A.sl.HS0_2 c arg1 harg1 arg2 harg2 arg3 harg3 x0 x1 x2
      = [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩] := by
    unfold kernelRun0_A.sl.HS0_2 gates
    simp only [load_unread, View.ld_unit_zero (S := S512x1024) hz2, View.ld_unit_zero (S := S1024x1024) hz2]
  have hm : kernelRun0_A.sl.r_4 c arg1 harg1 arg2 harg2 arg3 harg3 arg4 harg4 arg5 harg5 arg9 x0 x1 x2 x3 x4
      = mixer x0 x1 x2 x3 x4
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![6, 0] S512x1024.size inb_S520x1024_S512x1024_6_0).toLoadRect)
          (arg9.view.readCov [⟨Rect.unit (s := S520x1024) ![8, 0] S512x1024.size inb_S520x1024_S512x1024_8_0, gates x0 x1 x2⟩, ⟨Rect.unit (s := S520x1024) ![0, 0] S8x1024.size inb_S520x1024_S8x1024_0_0, (k0_pay1 (F := Ideal))⟩]
            (Rect.unit (s := S520x1024) ![7, 0] S512x1024.size inb_S520x1024_S512x1024_7_0).toLoadRect) := by
    unfold kernelRun0_A.sl.r_4 kernelRun0_A.sl.r_3 kernelRun0_A.sl.r_2 kernelRun0_A.sl.r_1 kernelRun0_A.sl.r kernelRun0_A.sl.v30 kernelRun0_A.sl.v35
    rw [hg]
    generalize arg9.view.readCov (Val := Elt Ideal) _ (Rect.unit (s := S520x1024) ![6, 0] S512x1024.size inb_S520x1024_S512x1024_6_0).toLoadRect = a
    generalize arg9.view.readCov (Val := Elt Ideal) _ (Rect.unit (s := S520x1024) ![7, 0] S512x1024.size inb_S520x1024_S512x1024_7_0).toLoadRect = b
    unfold mixer
    simp only [load_unread, View.ld_unit_zero (S := S512x1024) hz2, View.ld_unit_zero (S := S1024x1024) hz2]
  unfold kernelRun0_A.sl.r_7 kernelRun0_A.sl.r_6 kernelRun0_A.sl.r_5
  rw [hm]
  unfold stored
  generalize mixer x0 x1 x2 x3 x4 _ _ = y
  simp only [load_unread, View.ld_unit_zero (S := S512x1024) hz2, View.ld_unit_zero (S := S1024x1024) hz2]

/-- The last scratch rows a point leaves at the top are the last rows its block put into the convolution. -/
theorem sout_B (hc0 : ¬cond0_0 i) (r : Fin 8) (k : Fin 1024) :
    sout0_B_0 c i arg1 harg1 arg2 harg2 arg3 harg3 arg4 harg4 arg5 harg5 arg6 harg6 arg7 harg7 arg8 harg8 arg9 harg9 hc0 x0 x1 x2 x3 x4 x5 x6 xs0 (ix2 ⟨r.val, by omega⟩ k)
      = gates x0 x1 x2 (ix2 ⟨504 + r.val, by omega⟩ k) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  unfold kernelRun0_B.sl.v46 kernelRun0_B.sl.HS0_1
  simp only [load_unread, View.ld_unit_zero (S := S512x1024) hz2, View.ld_unit_zero (S := S1024x1024) hz2]
  exact carried arg9.view (gates x0 x1 x2) _ r k

/-- The same at the first point. -/
theorem sout_A (hc0 : cond0_0 i) (r : Fin 8) (k : Fin 1024) :
    sout0_A_0 c i arg1 harg1 arg2 harg2 arg3 harg3 arg4 harg4 arg5 harg5 arg6 harg6 arg7 harg7 arg8 harg8 arg9 harg9 hc0 x0 x1 x2 x3 x4 x5 x6 (ix2 ⟨r.val, by omega⟩ k)
      = gates x0 x1 x2 (ix2 ⟨504 + r.val, by omega⟩ k) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  unfold kernelRun0_A.sl.v46 kernelRun0_A.sl.HS0_2
  simp only [load_unread, View.ld_unit_zero (S := S512x1024) hz2, View.ld_unit_zero (S := S1024x1024) hz2]
  exact carried arg9.view (gates x0 x1 x2) _ r k

/-- A load `d` rows back at a later point. -/
theorem load_B (o d : ℕ) (hd : d ≤ 8) (hod : o + d = 8) (inb : ∀ a, (![o, 0] : Fin 2 → ℕ) a + S512x1024.size a ≤ S520x1024.size a) (u : Vec Ideal S512x1024 .f32)
    (r : Fin 512) (k : Fin 1024) :
    View.readAt (Elt Ideal) arg9.view (Rect.unit (s := S520x1024) ![o, 0] S512x1024.size inb).toLoadRect
        (arg9.view.writes (Elt Ideal) (harg9.unread xs0) [⟨Rect.unit (s := S520x1024) ![8, 0] S512x1024.size inb_S520x1024_S512x1024_8_0, u⟩]) (ix2 r k)
      = back (fun q k => xs0 (ix2 ⟨q.val, by omega⟩ k)) (fun r k => u (ix2 r k)) d hd r k := by
  rw [load_rows arg9.view _ o inb (by omega)]
  unfold back
  by_cases h : r.val < d
  · rw [dif_pos h, read_before arg9.view u _ _ _ _ (by show o + r.val < 8; omega), View.writes_nil, harg9.read_unread]
    congr 2; exact Fin.ext (by show o + r.val = 8 + r.val - d; omega)
  · rw [dif_neg h, read_block arg9.view u _ _ _ _ (by show 8 ≤ o + r.val; omega)]
    congr 2; exact Fin.ext (by show o + r.val - 8 = r.val - d; omega)

/-- A load `d` rows back at the first point. -/
theorem load_A (o d : ℕ) (hd : d ≤ 8) (hod : o + d = 8) (inb : ∀ a, (![o, 0] : Fin 2 → ℕ) a + S512x1024.size a ≤ S520x1024.size a) (u : Vec Ideal S512x1024 .f32)
    (r : Fin 512) (k : Fin 1024) :
    arg9.view.readCov (Val := Elt Ideal) [⟨Rect.unit (s := S520x1024) ![8, 0] S512x1024.size inb_S520x1024_S512x1024_8_0, u⟩, ⟨Rect.unit (s := S520x1024) ![0, 0] S8x1024.size inb_S520x1024_S8x1024_0_0, (k0_pay1 (F := Ideal))⟩]
        (Rect.unit (s := S520x1024) ![o, 0] S512x1024.size inb).toLoadRect (ix2 r k)
      = back (fun _ _ => 0) (fun r k => u (ix2 r k)) d hd r k := by
  refine (load_rows arg9.view _ o inb (by omega) r k).trans ?_
  unfold back
  by_cases h : r.val < d
  · rw [dif_pos h, read_before arg9.view u _ _ _ _ (by show o + r.val < 8; omega), read_zeros arg9.view _ _ _ (by show o + r.val < 8; omega)]
  · rw [dif_neg h, read_block arg9.view u _ _ _ _ (by show 8 ≤ o + r.val; omega)]
    congr 2; exact Fin.ext (by show o + r.val - 8 = r.val - d; omega)

/-- The row the kernel stores: `top` the eight rows handed over from the point before. -/
def outRow (x0 : Vec Ideal S512x1024 .f32) (x1 : Vec Ideal S4x1024 .f32) (x2 : Vec Ideal S1024x3072 .bf16) (x3 : Vec Ideal S3x1024 .f32) (x4 : Vec Ideal S1024x1024 .bf16)
    (x5 : Vec Ideal S1024x4096 .bf16) (x6 : Vec Ideal S4096x1024 .bf16) (top : Fin 8 → Fin 1024 → EReal) (r : Fin 512) : Fin 1024 → EReal :=
  mlp (mix (fun k => x0 (ix2 r k)) (convRow (fun k => x0 (ix2 r k)) (back top (fun r k => gates x0 x1 x2 (ix2 r k)) 2 (by omega) r)
        (back top (fun r k => gates x0 x1 x2 (ix2 r k)) 1 (by omega) r) (fun k => x1 (ix2 0 k))
          (fun k f => x2 (ix2 k f)) (fun c k => x3 (ix2 c k))) (fun k => x1 (ix2 1 k)) (fun k f => x4 (ix2 k f)))
          (fun k => x1 (ix2 2 k)) (fun k => x1 (ix2 3 k)) (fun k f => x5 (ix2 k f)) (fun f k => x6 (ix2 f k))

/-- A later point's output block, row by row. -/
theorem out_B_apply (hc0 : ¬cond0_0 i) (r : Fin 512) (j : Fin 1024) :
    out0_B_7 c i arg1 harg1 arg2 harg2 arg3 harg3 arg4 harg4 arg5 harg5 arg6 harg6 arg7 harg7 arg8 harg8 arg9 harg9 hc0 x0 x1 x2 x3 x4 x5 x6 xs0 (ix2 r j)
      = outRow x0 x1 x2 x3 x4 x5 x6 (fun q k => xs0 (ix2 ⟨q.val, by omega⟩ k)) r j := by
  rw [out_B, stored_apply]
  simp only [load_B arg9 harg9 xs0 6 2 (by omega) rfl, load_B arg9 harg9 xs0 7 1 (by omega) rfl]
  rfl

/-- The first point's output block, row by row: zeros stand before the block. -/
theorem out_A_apply (hc0 : cond0_0 i) (r : Fin 512) (j : Fin 1024) :
    out0_A_7 c i arg1 harg1 arg2 harg2 arg3 harg3 arg4 harg4 arg5 harg5 arg6 harg6 arg7 harg7 arg8 harg8 arg9 harg9 hc0 x0 x1 x2 x3 x4 x5 x6 (ix2 r j)
      = outRow x0 x1 x2 x3 x4 x5 x6 (fun _ _ => 0) r j := by
  rw [out_A, stored_apply]
  simp only [load_A arg9 6 2 (by omega) rfl, load_A arg9 7 1 (by omega) rfl]
  rfl

end pieces

end Cert.NextConvIdeal.Body

end
-- ==== Proof.NextConv.Array.lean ====
/- The second short-convolution call's result array as one function of the rows it finds: each point's block is the block function of
   its rows, what a point leaves for the next is what its last eight rows put into the convolution, and the blocks tile the array. -/
module

public import proofs.«01_k».proof.Proof.Gen.NextConvIdeal.Frame
public import proofs.«01_k».proof.Proof.NextConv.Prep
public import proofs.«01_k».proof.Proof.NextConv.Body
public import Idealize.ShloMosaic.Lib.Pipeline.ValueKit

@[expose] public section

noncomputable section

namespace Cert.NextConvIdeal.Array

open Cert.NextConvIdeal Cert.NextConvIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads and of the rows it writes. -/
theorem index_facts : ∀ t : Fin grid0.N,
    (win0_0.index t 0 = t.val ∧ win0_0.index t 1 = 0) ∧ (win0_7.index t 0 = t.val ∧ win0_7.index t 1 = 0) := by
  decide +kernel

/-- The windows of the gains and the weights begin at zero at every point. -/
theorem index_zero : ∀ (t : Fin grid0.N) (a : Fin 2),
    win0_1.index t a = 0 ∧ win0_2.index t a = 0 ∧ win0_3.index t a = 0 ∧ win0_4.index t a = 0 ∧ win0_5.index t a = 0 ∧ win0_6.index t a = 0 := by
  decide +kernel

/-- Row `R` of the padded rows. -/
def hid (R : Fin 33792) (k : Fin 1024) : EReal := V m c main_v2 (ix2 R k)
/-- The layer's gain row `a`. -/
def gain (a : Fin 4) (k : Fin 1024) : EReal := m ((c : Thread nD τ).loc main_arg2) (ix3 1 a k)
/-- The mixer's input projection. -/
def wi (k : Fin 1024) (f : Fin 3072) : EReal := m ((c : Thread nD τ).loc main_arg3) (ix3 1 k f)
/-- The convolution's weights. -/
def cw (a : Fin 3) (k : Fin 1024) : EReal := m ((c : Thread nD τ).loc main_arg4) (ix3 1 a k)
/-- The mixer's output projection. -/
def wo (k f : Fin 1024) : EReal := m ((c : Thread nD τ).loc main_arg5) (ix3 1 k f)
/-- The feed-forward network's first weight. -/
def w1 (k : Fin 1024) (f : Fin 4096) : EReal := m ((c : Thread nD τ).loc main_arg6) (ix3 1 k f)
/-- The feed-forward network's second weight. -/
def w2 (f : Fin 4096) (k : Fin 1024) : EReal := m ((c : Thread nD τ).loc main_arg7) (ix3 1 f k)
/-- What row `R` puts into the convolution. -/
def ent (R : Fin 33792) : Fin 1024 → EReal := gated (hid m c R) (gain m c 0) (wi m c)
/-- What the row `d` before row `R` puts into it, zeros standing before the first row. -/
def prev (d : ℕ) (R : Fin 33792) (k : Fin 1024) : EReal := if d ≤ R.val then ent m c ⟨R.val - d, by omega⟩ k else 0
/-- The layer's result at row `R`. -/
def rowOut (R : Fin 33792) : Fin 1024 → EReal :=
  mlp (mix (hid m c R) (convRow (hid m c R) (prev m c 2 R) (prev m c 1 R) (gain m c 0) (wi m c) (cw m c)) (gain m c 1) (wo m c))
    (gain m c 2) (gain m c 3) (w1 m c) (w2 m c)

/-- Row `r` of point `t`'s block. -/
def at_ (t : Fin grid0.N) (r : Fin 512) : Fin 33792 := ⟨t.val * 512 + r.val, by have := t.isLt; have := N_0; omega⟩

/-- Point `t`'s block of the rows. -/
theorem hidden_block (t : Fin grid0.N) (r : Fin 512) (k : Fin 1024) : iblk m c 0 t (ix2 r k) = hid m c (at_ t r) k := by
  show V m c main_v2 ((win0_0.rect t).emb (ix2 r k)) = V m c main_v2 (ix2 (at_ t r) k)
  congr 1
  obtain ⟨⟨h0, h1⟩, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- Every point's block of the gains is the whole array. -/
theorem gains_block (t : Fin grid0.N) (a : Fin 4) (k : Fin 1024) : iblk m c 1 t (ix2 a k) = gain m c a k := by
  refine Eq.trans ?_ (Prep.gains_apply m c _ _)
  show V m c main_v4 ((win0_1.rect t).emb (ix2 a k)) = _
  congr 1
  funext b
  apply Fin.ext
  rw [Pipeline.Window.rect_emb_val_of_index_zero _ _ _ (index_zero t b).1]

/-- Every point's block of the input projection is the whole array. -/
theorem wi_block (t : Fin grid0.N) (k : Fin 1024) (f : Fin 3072) : iblk m c 2 t (ix2 k f) = wi m c k f := by
  refine Eq.trans ?_ (Prep.wi_apply m c _ _)
  show V m c main_v13 ((win0_2.rect t).emb (ix2 k f)) = _
  congr 1
  funext b
  apply Fin.ext
  rw [Pipeline.Window.rect_emb_val_of_index_zero _ _ _ (index_zero t b).2.1]

/-- Every point's block of the convolution weights is the whole array. -/
theorem cw_block (t : Fin grid0.N) (a : Fin 3) (k : Fin 1024) : iblk m c 3 t (ix2 a k) = cw m c a k := by
  refine Eq.trans ?_ (Prep.cw_apply m c _ _)
  show V m c main_v15 ((win0_3.rect t).emb (ix2 a k)) = _
  congr 1
  funext b
  apply Fin.ext
  rw [Pipeline.Window.rect_emb_val_of_index_zero _ _ _ (index_zero t b).2.2.1]

/-- Every point's block of the output projection is the whole array. -/
theorem wo_block (t : Fin grid0.N) (k f : Fin 1024) : iblk m c 4 t (ix2 k f) = wo m c k f := by
  refine Eq.trans ?_ (Prep.wo_apply m c _ _)
  show V m c main_v18 ((win0_4.rect t).emb (ix2 k f)) = _
  congr 1
  funext b
  apply Fin.ext
  rw [Pipeline.Window.rect_emb_val_of_index_zero _ _ _ (index_zero t b).2.2.2.1]

/-- Every point's block of the first feed-forward weight is the whole array. -/
theorem w1_block (t : Fin grid0.N) (k : Fin 1024) (f : Fin 4096) : iblk m c 5 t (ix2 k f) = w1 m c k f := by
  refine Eq.trans ?_ (Prep.w1_apply m c _ _)
  show V m c main_v7 ((win0_5.rect t).emb (ix2 k f)) = _
  congr 1
  funext b
  apply Fin.ext
  rw [Pipeline.Window.rect_emb_val_of_index_zero _ _ _ (index_zero t b).2.2.2.2.1]

/-- Every point's block of the second feed-forward weight is the whole array. -/
theorem w2_block (t : Fin grid0.N) (f : Fin 4096) (k : Fin 1024) : iblk m c 6 t (ix2 f k) = w2 m c f k := by
  refine Eq.trans ?_ (Prep.w2_apply m c _ _)
  show V m c main_v10 ((win0_6.rect t).emb (ix2 f k)) = _
  congr 1
  funext b
  apply Fin.ext
  rw [Pipeline.Window.rect_emb_val_of_index_zero _ _ _ (index_zero t b).2.2.2.2.2]

/-- What point `t`'s rows put into the convolution. -/
theorem gates_block (t : Fin grid0.N) (r : Fin 512) (k : Fin 1024) :
    Body.gates (iblk m c 0 t) (iblk m c 1 t) (iblk m c 2 t) (ix2 r k) = ent m c (at_ t r) k := by
  rw [Body.gates_apply]
  simp only [hidden_block, gains_block, wi_block]
  rfl

/-- What point `t` leaves for the next: what its last eight rows put into the convolution. -/
theorem carried_block (t : Fin cfg0.N) (q : Fin 8) (k : Fin 1024) :
    (outsAt0 m c t.val t.isLt).2 (ix2 (⟨q.val, by omega⟩ : Fin 520) k) = ent m c (at_ t ⟨504 + q.val, by omega⟩) k := by
  by_cases h0 : t.val % 66 = 0
  · rw [outsAt0_A m c t h0]
    dsimp only
    rw [Body.sout_A, gates_block]
  · rw [outsAt0_B m c t h0]
    dsimp only
    rw [Body.sout_B, gates_block]

/-- Rows back from point `t`'s rows, the first point having zeros before it. -/
theorem back_first (t : Fin cfg0.N) (h0 : t.val = 0) (d : ℕ) (hd : d ≤ 8) (r : Fin 512) :
    Body.back (fun _ _ => 0) (fun r k => Body.gates (iblk m c 0 t) (iblk m c 1 t) (iblk m c 2 t) (ix2 r k)) d hd r = prev m c d (at_ t r) := by
  funext k
  unfold Body.back prev
  by_cases h : r.val < d
  · rw [dif_pos h, if_neg (by show ¬d ≤ t.val * 512 + r.val; omega)]
  · rw [dif_neg h, if_pos (by show d ≤ t.val * 512 + r.val; omega)]
    dsimp only
    rw [gates_block]
    congr 1
    exact Fin.ext (by show t.val * 512 + (r.val - d) = t.val * 512 + r.val - d; omega)

/-- Rows back from a later point's rows, the point before having left what its last rows put in. -/
theorem back_later (t : Fin cfg0.N) (h0 : t.val ≠ 0) (ht : t.val - 1 < cfg0.N) (d : ℕ) (hd : d ≤ 8) (r : Fin 512) :
    Body.back (fun q k => (outsAt0 m c (t.val - 1) ht).2 (ix2 (⟨q.val, by omega⟩ : Fin 520) k))
      (fun r k => Body.gates (iblk m c 0 t) (iblk m c 1 t) (iblk m c 2 t) (ix2 r k)) d hd r = prev m c d (at_ t r) := by
  funext k
  unfold Body.back prev
  rw [if_pos (by show d ≤ t.val * 512 + r.val; omega)]
  by_cases h : r.val < d
  · rw [dif_pos h]
    refine (carried_block m c ⟨t.val - 1, ht⟩ ⟨8 + r.val - d, by omega⟩ k).trans ?_
    congr 1
    exact Fin.ext (by show (t.val - 1) * 512 + (504 + (8 + r.val - d)) = t.val * 512 + r.val - d; omega)
  · rw [dif_neg h]
    dsimp only
    rw [gates_block]
    congr 1
    exact Fin.ext (by show t.val * 512 + (r.val - d) = t.val * 512 + r.val - d; omega)

/-- What point `t` writes at row `r` of its block is the layer's result at that row. -/
theorem out_block (t : Fin cfg0.N) (r : Fin 512) (j : Fin 1024) :
    (outsAt0 m c t.val t.isLt).1 (ix2 r j) = rowOut m c (at_ t r) j := by
  have hN : cfg0.N = 66 := N_0
  by_cases h0 : t.val % 66 = 0
  · rw [outsAt0_A m c t h0]
    dsimp only
    rw [Body.out_A_apply]
    have ht : t.val = 0 := by have := t.isLt; omega
    unfold Body.outRow rowOut
    rw [back_first m c t ht, back_first m c t ht]
    simp only [hidden_block, gains_block, wi_block, cw_block, wo_block, w1_block, w2_block]
  · rw [outsAt0_B m c t h0]
    dsimp only
    rw [Body.out_B_apply]
    have ht : t.val ≠ 0 := by omega
    unfold Body.outRow rowOut
    rw [back_later m c t ht, back_later m c t ht]
    simp only [hidden_block, gains_block, wi_block, cw_block, wo_block, w1_block, w2_block]

/-- The layer's result at every padded row. -/
def rows : Buf (Elt Ideal) ((c : Thread nD τ).loc main_v19) := fun (i : S33792x1024.Idx) => rowOut m c (i 0) (i 1)

/-- WHAT POINT `t` WRITES BACK is its block of the result. -/
theorem flushed_eq (t : Fin cfg0.N) :
    (dats m 0 c).flushed 7 t = ((cfg0.win 7).blk t).view.read (Elt Ideal) (rows m c) := by
  show (cfg0.win 7).cut (grid0.coords t) ((dats m 0 c).after 7 t) = _
  rw [after0_7]
  obtain ⟨-, h0, h1⟩ := index_facts t
  funext y
  obtain ⟨r, j, rfl⟩ : ∃ (r : Fin 512) (j : Fin 1024), y = ix2 r j := ⟨y 0, y 1, by funext a; fin_cases a <;> rfl⟩
  refine (out_block m c t r j).trans ?_
  show rows m c (ix2 (at_ t r) j) = rows m c ((win0_7.rect t).emb (ix2 r j))
  congr 1
  funext a
  apply Fin.ext
  rw [Pipeline.Window.rect_emb_val_off]
  fin_cases a
  · show t.val * 512 + r.val = win0_7.index t 0 * 512 + r.val
    rw [h0]
  · show j.val = win0_7.index t 1 * 1024 + j.val
    rw [h1]; omega

/-- The written blocks tile the array. -/
theorem cover (i : S33792x1024.Idx) : ∃ t : Fin cfg0.N, (cfg0.win 7).flush t = true ∧ i ∈ ((cfg0.win 7).blk t).view.set := by
  have hi : (i 0).val < 33792 := (i 0).isLt
  have hj : (i 1).val < 1024 := (i 1).isLt
  let t : Fin cfg0.N := ⟨(i 0).val / 512, by have : cfg0.N = 66 := N_0; omega⟩
  refine ⟨t, flush0_7 t, ?_⟩
  obtain ⟨-, h0, h1⟩ := index_facts t
  show i ∈ ((View.whole main_v19).slice ((cfg0.win 7).rect t)).set
  erw [View.set_slice_whole]
  refine (Pipeline.Window.mem_rect_iff (cfg0.win 7) t i (by rfl)).mpr fun a => ?_
  fin_cases a
  · show win0_7.index t 0 * 512 ≤ (i 0).val ∧ (i 0).val < win0_7.index t 0 * 512 + 512
    rw [h0]; show (i 0).val / 512 * 512 ≤ _ ∧ _ < (i 0).val / 512 * 512 + 512
    omega
  · show win0_7.index t 1 * 1024 ≤ (i 1).val ∧ (i 1).val < win0_7.index t 1 * 1024 + 1024
    rw [h1]; omega

/-- THE RESULT ARRAY after the run is the layer's result at every row. -/
theorem final : (dats m 0 c).arrAt 7 cfg0.N = rows m c :=
  (dats m 0 c).arrAt_eq_of_cover 7 (rows m c) (fun t _ => flushed_eq m c t) cover

end Cert.NextConvIdeal.Array

end
-- ==== Proof.NextConv.Ref.lean ====
/- The second short-convolution reference's result, read at a batch element, a position and a column: the mixer block and the
   feed-forward block (`Cert.Row`) of the position's row and of the two rows before it. -/
module

public import proofs.«01_k».proof.Proof.Gen.NextConvReferenceIdeal.Read
public import proofs.«01_k».proof.Proof.Conv.Row
public import Idealize.ShloMosaic.Lib.Pointwise

@[expose] public section

noncomputable section

namespace Cert.NextConvReferenceIdeal.Rows

open Cert.NextConvReferenceIdeal Cert.NextConvReferenceIdeal.Gen Cert.NextConvReferenceIdeal.Read Cert.Row Idealize.ShloMosaic
open scoped BigOperators

variable (x0 : (⟨S4x8208x1024, .f32⟩ : BufTy).Contents (Elt Ideal))
  (x2 : (⟨S4x4x1024, .f32⟩ : BufTy).Contents (Elt Ideal)) (x3 : (⟨S2x1024x3072, .f32⟩ : BufTy).Contents (Elt Ideal))
  (x4 : (⟨S2x3x1024, .f32⟩ : BufTy).Contents (Elt Ideal)) (x5 : (⟨S2x1024x1024, .f32⟩ : BufTy).Contents (Elt Ideal))
  (x6 : (⟨S4x1024x4096, .f32⟩ : BufTy).Contents (Elt Ideal)) (x7 : (⟨S4x4096x1024, .f32⟩ : BufTy).Contents (Elt Ideal))

/-- A row of the hidden states. -/
def seq (b : Fin 4) (p : Fin 8208) (k : Fin 1024) : EReal := x0 (ix3 b p k)

/-- The layer's four gain rows. -/
theorem gains_apply (a : Fin 4) (k : Fin 1024) : val_main_v1 (F := Ideal) x2 (ix2 a k) = x2 (ix3 1 a k) := by
  unfold val_main_v1 val_main_v0
  pointwise

/-- The input projection. -/
theorem wi_apply (k : Fin 1024) (f : Fin 3072) : val_main_v18 (F := Ideal) x3 (ix2 k f) = x3 (ix3 1 k f) := by
  unfold val_main_v18 val_main_v17
  pointwise

/-- The convolution's weights. -/
theorem cw_apply (a : Fin 3) (k : Fin 1024) : val_main_v20 (F := Ideal) x4 (ix2 a k) = x4 (ix3 1 a k) := by
  unfold val_main_v20 val_main_v19
  pointwise

/-- The output projection. -/
theorem wo_apply (k f : Fin 1024) : val_main_v22 (F := Ideal) x5 (ix2 k f) = x5 (ix3 1 k f) := by
  unfold val_main_v22 val_main_v21
  pointwise

/-- The mixer's normalized input. -/
theorem enter_apply (b : Fin 4) (p : Fin 8208) (j : Fin 1024) :
    val_main_v16 (F := Ideal) x0 x2 (ix3 b p j) = rms (seq x0 b p) (fun k => x2 (ix3 1 0 k)) j := by
  unfold val_main_v16 val_main_v15 val_main_v14 val_main_v13 val_main_v12 val_main_v11 val_main_v10 val_main_v9 val_main_v8 val_main_v7 val_main_v6 val_main_v5 val_main_v4 val_main_v3 val_main_v2 rms cLen cEps val_main_cst val_main_cst_0 val_main_cst_1
  pointwise [gains_apply]
  rfl

/-- The input projection of a row, at any of its 3072 columns. -/
theorem project_apply (b : Fin 4) (p : Fin 8208) (f : Fin 3072) :
    val_main_v23 (F := Ideal) x0 x2 x3 (ix3 b p f) = lin (rms (seq x0 b p) (fun k => x2 (ix3 1 0 k))) (fun k f => x3 (ix3 1 k f)) f := by
  unfold val_main_v23 lin
  pointwise [dot_S4x8208x1024_S1024x3072_S4x8208x3072_2_0_01_1_n_n, enter_apply, wi_apply]

/-- What a row puts into the convolution. -/
theorem gated_apply (b : Fin 4) (p : Fin 8208) (j : Fin 1024) :
    val_main_v27 (F := Ideal) x0 x2 x3 (ix3 b p j) = gated (seq x0 b p) (fun k => x2 (ix3 1 0 k)) (fun k f => x3 (ix3 1 k f)) j := by
  unfold val_main_v27 val_main_v26 val_main_v25
  pointwise [project_apply]
  rfl

/-- What the row `d` before puts into the convolution, zeros standing before the first row. -/
def before (d : ℕ) (b : Fin 4) (p : Fin 8208) (j : Fin 1024) : EReal :=
  if d ≤ p.val then gated (seq x0 b ⟨p.val - d, by omega⟩) (fun k => x2 (ix3 1 0 k)) (fun k f => x3 (ix3 1 k f)) j else 0

/-- The convolution's input with two rows of zeros put before it. -/
theorem padded_apply (b : Fin 4) (q : Fin 8210) (j : Fin 1024) :
    val_main_v28 (F := Ideal) x0 x2 x3 (ix3 b q j)
      = if h : 2 ≤ q.val then gated (seq x0 b ⟨q.val - 2, by omega⟩) (fun k => x2 (ix3 1 0 k)) (fun k f => x3 (ix3 1 k f)) j else 0 := by
  unfold val_main_v28 val_main_call0_v0 val_main_c
  pointwise [gated_apply]
  have hz : (FloatOps.sitofp (F := Ideal) FTy.f32 0#32 : EReal) = 0 := by
    show (((0#32 : BitVec 32).toInt : ℝ) : EReal) = 0
    simp
  have hq := q.isLt
  by_cases h : 2 ≤ q.val
  · rw [dif_pos h, dif_pos ⟨h, by omega⟩]
  · rw [dif_neg h, dif_neg (fun h' => h h'.1)]
    exact hz

/-- The gate times the convolution. -/
theorem conv_apply (b : Fin 4) (p : Fin 8208) (j : Fin 1024) :
    val_main_v49 (F := Ideal) x0 x2 x3 x4 (ix3 b p j)
      = convRow (seq x0 b p) (before x0 x2 x3 2 b p) (before x0 x2 x3 1 b p) (fun k => x2 (ix3 1 0 k))
          (fun k f => x3 (ix3 1 k f)) (fun a k => x4 (ix3 1 a k)) j := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v24
  pointwise [project_apply, padded_apply, cw_apply]
  have e2 : (if h : 2 ≤ p.val then gated (seq x0 b ⟨p.val - 2, by omega⟩) (fun k => x2 (ix3 1 0 k)) (fun k f => x3 (ix3 1 k f)) j else 0)
      = before x0 x2 x3 2 b p j := rfl
  have e1 : (if h : 2 ≤ 1 + p.val then gated (seq x0 b ⟨1 + p.val - 2, by omega⟩) (fun k => x2 (ix3 1 0 k)) (fun k f => x3 (ix3 1 k f)) j else 0)
      = before x0 x2 x3 1 b p j := by
    unfold before
    by_cases h : 1 ≤ p.val
    · rw [dif_pos (by omega), if_pos h]
      congr 2
      exact Fin.ext (by show 1 + p.val - 2 = p.val - 1; omega)
    · rw [dif_neg (by omega), if_neg h]
  rw [e2, e1]
  unfold convRow taps lin third
  simp only [Nat.zero_add]

/-- The mixer block. -/
theorem mix_apply (b : Fin 4) (p : Fin 8208) (j : Fin 1024) :
    val_main_v66 (F := Ideal) x0 x2 x3 x4 x5 (ix3 b p j)
      = mix (seq x0 b p) (convRow (seq x0 b p) (before x0 x2 x3 2 b p) (before x0 x2 x3 1 b p) (fun k => x2 (ix3 1 0 k))
          (fun k f => x3 (ix3 1 k f)) (fun a k => x4 (ix3 1 a k))) (fun k => x2 (ix3 1 1 k)) (fun k f => x5 (ix3 1 k f)) j := by
  have hd : ∀ j, val_main_v50 (F := Ideal) x0 x2 x3 x4 x5 (ix3 b p j) = lin (convRow (seq x0 b p) (before x0 x2 x3 2 b p) (before x0 x2 x3 1 b p)
      (fun k => x2 (ix3 1 0 k)) (fun k f => x3 (ix3 1 k f)) (fun a k => x4 (ix3 1 a k))) (fun k f => x5 (ix3 1 k f)) j := fun j => by
    unfold val_main_v50 lin
    pointwise [dot_S4x8208x1024_S1024x1024_S4x8208x1024_2_0_01_1_n_n, conv_apply, wo_apply]
  unfold val_main_v66 val_main_v65 val_main_v64 val_main_v63 val_main_v62 val_main_v61 val_main_v60 val_main_v59 val_main_v58 val_main_v57 val_main_v56 val_main_v55 val_main_v54 val_main_v53 val_main_v52 val_main_v51 mix rms cLen cEps val_main_cst_2 val_main_cst_3 val_main_cst_4
  pointwise [hd, gains_apply]
  rfl

/-- The feed-forward block's normalized input. -/
theorem norm_apply (b : Fin 4) (p : Fin 8208) (j : Fin 1024) :
    val_main_v81 (F := Ideal) x0 x2 x3 x4 x5 (ix3 b p j)
      = rms (fun k => val_main_v66 (F := Ideal) x0 x2 x3 x4 x5 (ix3 b p k)) (fun k => x2 (ix3 1 2 k)) j := by
  unfold val_main_v81 val_main_v80 val_main_v79 val_main_v78 val_main_v77 val_main_v76 val_main_v75 val_main_v74 val_main_v73 val_main_v72 val_main_v71 val_main_v70 val_main_v69 val_main_v68 val_main_v67 rms cLen cEps val_main_cst_5 val_main_cst_6 val_main_cst_7
  generalize val_main_v66 (F := Ideal) x0 x2 x3 x4 x5 = y
  pointwise [gains_apply]

/-- The feed-forward network's output. -/
theorem ff_apply (b : Fin 4) (p : Fin 8208) (j : Fin 1024) :
    val_main_v89 (F := Ideal) x0 x2 x3 x4 x5 x6 x7 (ix3 b p j)
      = ff (fun k => val_main_v81 (F := Ideal) x0 x2 x3 x4 x5 (ix3 b p k)) (fun k f => x6 (ix3 1 k f)) (fun f k => x7 (ix3 1 f k)) j := by
  unfold val_main_v89 val_main_v88 val_main_v87 val_main_v86 val_main_v85 val_main_v84 val_main_v83 val_main_v82 val_main_call1_v0 val_main_call1_cst ff sqrelu lin
  generalize val_main_v81 (F := Ideal) x0 x2 x3 x4 x5 = y
  pointwise [dot_S4x8208x1024_S1024x4096_S4x8208x4096_2_0_01_1_n_n, dot_S4x8208x4096_S4096x1024_S4x8208x1024_2_0_01_1_n_n]

/-- The result at a batch element and a position. -/
theorem block_apply (b : Fin 4) (p : Fin 8208) (j : Fin 1024) :
    val_main_v105 (F := Ideal) x0 x2 x3 x4 x5 x6 x7 (ix3 b p j)
      = mlp (mix (seq x0 b p) (convRow (seq x0 b p) (before x0 x2 x3 2 b p) (before x0 x2 x3 1 b p) (fun k => x2 (ix3 1 0 k))
            (fun k f => x3 (ix3 1 k f)) (fun a k => x4 (ix3 1 a k))) (fun k => x2 (ix3 1 1 k)) (fun k f => x5 (ix3 1 k f)))
          (fun k => x2 (ix3 1 2 k)) (fun k => x2 (ix3 1 3 k)) (fun k f => x6 (ix3 1 k f)) (fun f k => x7 (ix3 1 f k)) j := by
  have h : val_main_v105 (F := Ideal) x0 x2 x3 x4 x5 x6 x7 (ix3 b p j)
      = val_main_v66 (F := Ideal) x0 x2 x3 x4 x5 (ix3 b p j)
        + rms (fun k => val_main_v89 (F := Ideal) x0 x2 x3 x4 x5 x6 x7 (ix3 b p k)) (fun k => x2 (ix3 1 3 k)) j := by
    unfold val_main_v105 val_main_v104 val_main_v103 val_main_v102 val_main_v101 val_main_v100 val_main_v99 val_main_v98 val_main_v97 val_main_v96 val_main_v95 val_main_v94 val_main_v93 val_main_v92 val_main_v91 val_main_v90 rms cLen cEps val_main_cst_8 val_main_cst_9 val_main_cst_10
    generalize val_main_v66 (F := Ideal) x0 x2 x3 x4 x5 = y
    generalize val_main_v89 (F := Ideal) x0 x2 x3 x4 x5 x6 x7 = z
    pointwise [gains_apply]
  rw [h]
  simp only [ff_apply, norm_apply, mix_apply]
  rfl

end Cert.NextConvReferenceIdeal.Rows

end
-- ==== Proof.NextConv.Result.lean ====
/- The second short-convolution call's result, the real rows of its result array, is the reference's. -/
module

public import proofs.«01_k».proof.Proof.NextConv.Array
public import proofs.«01_k».proof.Proof.NextConv.Ref

@[expose] public section

noncomputable section

namespace Cert.NextConvIdeal.Result

open Cert.NextConvIdeal Cert.NextConvIdeal.Gen Cert.NextConvIdeal.Array Cert.Row Idealize.ShloMosaic Idealize.ShloMosaic.TcCoe

variable (m : (ℓ : Loc nD τ sig) → Buf (Elt Ideal) ℓ) (c : Dev nD)

/-- The reference's result of the kernel's arguments. -/
def val : Buf (Elt Ideal) ((c : Thread nD τ).loc main_v21) :=
  Cert.NextConvReferenceIdeal.Read.val_main_v105 (F := Ideal) (m ((c : Thread nD τ).loc main_arg0))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))

/-- Position `p` of batch element `b` among the padded rows. -/
def real (b : Fin 4) (p : Fin 8208) : Fin 33792 := ⟨b.val * 8448 + (128 + p.val), by omega⟩

/-- A batch element's rows of the hidden states. -/
theorem hid_real (b : Fin 4) (p : Fin 8208) :
    hid m c (real b p) = Cert.NextConvReferenceIdeal.Rows.seq (m ((c : Thread nD τ).loc main_arg0)) b p := by
  funext k
  exact Prep.hidden_real m c b p k

/-- The rows back from a position, within its batch element: the rows before the first one are zeros and put zeros in. -/
theorem prev_real (d : ℕ) (hd : d ≤ 2) (b : Fin 4) (p : Fin 8208) :
    prev m c d (real b p) = Cert.NextConvReferenceIdeal.Rows.before (m ((c : Thread nD τ).loc main_arg0))
      (m ((c : Thread nD τ).loc main_arg2)) (m ((c : Thread nD τ).loc main_arg3)) d b p := by
  funext k
  unfold prev Cert.NextConvReferenceIdeal.Rows.before
  rw [if_pos (by show d ≤ b.val * 8448 + (128 + p.val); omega)]
  by_cases h : d ≤ p.val
  · rw [if_pos h, ← hid_real]
    have e : (⟨(real b p).val - d, by omega⟩ : Fin 33792) = real b ⟨p.val - d, by omega⟩ :=
      Fin.ext (by show b.val * 8448 + (128 + p.val) - d = b.val * 8448 + (128 + (p.val - d)); omega)
    rw [e]
    rfl
  · rw [if_neg h]
    have e : hid m c (⟨(real b p).val - d, by omega⟩ : Fin 33792) = fun _ => 0 := by
      funext k
      refine Eq.trans ?_ (Prep.hidden_pad m c b ⟨128 + p.val - d, by omega⟩ k)
      show V m c main_v2 _ = V m c main_v2 _
      congr 2
      exact Fin.ext (by show b.val * 8448 + (128 + p.val) - d = b.val * 8448 + (128 + p.val - d); omega)
    unfold ent
    rw [e, gated_zero]

/-- The layer's result at a real row is the reference's. -/
theorem rowOut_real (b : Fin 4) (p : Fin 8208) (j : Fin 1024) : rowOut m c (real b p) j = val m c (ix3 b p j) := by
  unfold val rowOut
  rw [Cert.NextConvReferenceIdeal.Rows.block_apply, hid_real, prev_real m c 2 (by omega), prev_real m c 1 (by omega)]
  rfl

/-- The real rows of an array of padded rows. -/
theorem slice_apply (x : FVec Ideal S33792x1024 .f32) (b : Fin 4) (p : Fin 8208) (j : Fin 1024) :
    extractStridedSlice S4x8208x1024 ![0, 128, 0] (shapeCast S4x8448x1024 x shapeCasts_S33792x1024_S4x8448x1024) slices_S4x8448x1024_S4x8208x1024_0_128_0 (ix3 b p j)
      = x (ix2 (real b p) j) := by
  unfold real
  pointwise

/-- THE RESULT: what the host lines after the region leave is the reference's result. -/
theorem tail_eq : Pipeline.afterTail₀ cfgs (dats m) 0 (V0 m) [hostOps1] c main_v21 = val m c := by
  have e : Pipeline.afterTail₀ cfgs (dats m) 0 (V0 m) [hostOps1] c main_v21
      = extractStridedSlice S4x8208x1024 ![0, 128, 0] (shapeCast S4x8448x1024 (rows m c) shapeCasts_S33792x1024_S4x8448x1024) slices_S4x8448x1024_S4x8208x1024_0_128_0 := by
    have h : Pipeline.withArrays spec0 c (V0 m c) (fun w => (dats m 0 c).arrAt w cfg0.N) (Proc.devRef .tc main_v19) = rows m c :=
      (Pipeline.withArrays_arr spec0 (by decide : Function.Injective (Pipeline.arrRef spec0)) c (V0 m c) (fun w => (dats m 0 c).arrAt w cfg0.N) 7).trans (final m c)
    rw [← h]
    unfold Pipeline.afterTail₀
    show StableHlo.after hostOps1 _ _ = _
    after_results_simp
    rfl
  rw [e]
  funext y
  obtain ⟨b, p, j, rfl⟩ : ∃ (b : Fin 4) (p : Fin 8208) (j : Fin 1024), y = ix3 b p j := ⟨y 0, y 1, y 2, by funext a; fin_cases a <;> rfl⟩
  exact (slice_apply (rows m c) b p j).trans (rowOut_real m c b p j)

end Cert.NextConvIdeal.Result

end
-- ==== Proof.NextConv.Claims.lean ====
/- The claims about the second short-convolution call: its frames, its idealization's ledger, and its equality with the reference over
   the extended reals. -/
module

public import proofs.«01_k».proof.Defs
public import proofs.«01_k».proof.Proof.NextConv.Result
public import proofs.«01_k».proof.Proof.Gen.NextConv.Frame
public import proofs.«01_k».proof.Proof.Gen.NextConvReferenceIdeal.Run

@[expose] public section

noncomputable section

namespace Cert.Proof.NextShortConv

open Idealize.ShloMosaic Idealize.ShloMosaic.TcCoe Idealize.SL.Sem

/-- The call terminates, leaves its arguments, and ends with every semaphore at zero. -/
theorem frame_p : Cert.quiescent_NextConv := fun m ρ _ => Cert.NextConv.Gen.frame m ρ

/-- So does its idealization. -/
theorem frame_pi : Cert.quiescent_NextConvIdeal := fun m ρ _ => Cert.NextConvIdeal.Gen.frame m ρ

/-- So does the reference, which has no semaphores. -/
theorem frame_ri : Cert.quiescent_NextConvReferenceIdeal := fun m ρ _ =>
  (θ_run Cert.NextConvReferenceIdeal.defs _ _).mono (fun r h => ⟨fun c => (h c).2, sem_eq_zero_of_no_sems (by decide) r.2⟩)
    (Cert.NextConvReferenceIdeal.Value.run (F := Ideal) m ρ)

/-- The idealization replaced nothing, so there is nothing to preserve. -/
theorem preserves : Cert.preserves_NextConv_NextConvIdeal := trivial

/-- On arguments that agree, the call's result and the reference's are one array of extended reals. -/
theorem algebraic : Cert.algebraic_NextConvIdeal_NextConvReferenceIdeal := by
  intro m ρ m' ρ' _ hagree
  refine ⟨fun c => Cert.NextConvIdeal.Result.val m c, ?_, ?_⟩
  · refine (θ_run Cert.NextConvIdeal.defs _ _).mono (fun r h c => ?_)
      (θ_run_and (Cert.NextConvIdeal.Gen.run_main (F := Ideal) m ρ) (Cert.NextConvIdeal.Gen.unchanged m ρ))
    exact ⟨((h.1 c).2 Cert.NextConvIdeal.main_v21 (by decide)).trans (Cert.NextConvIdeal.Result.tail_eq m c), h.2 c⟩
  · refine (θ_run Cert.NextConvReferenceIdeal.defs _ _).mono (fun r h c => ?_) (Cert.NextConvReferenceIdeal.Value.run (F := Ideal) m' ρ')
    refine ⟨(h c).1.trans ((Cert.NextConvReferenceIdeal.Read.val_main_v105_eq (F := Ideal) (fun b => m' (c, b))).trans ?_), (h c).2⟩
    obtain ⟨h0, h1, h2, h3, h4, h5, h6, h7⟩ := hagree c
    rw [h0, h2, h3, h4, h5, h6, h7]
    rfl

end Cert.Proof.NextShortConv

end
-- ==== Proof.LastQuery.Prep.lean ====
/- The arrays the last layer's query projection's call finds, read at an index: the hidden states between their padding rows, the gain row and the
   weights. -/
module

public import proofs.«01_k».proof.Proof.Gen.LastQueryIdeal.Frame
public import Idealize.ShloMosaic.Lib.StableHlo.Run
public import Idealize.ShloMosaic.Lib.Pointwise

@[expose] public section

noncomputable section

namespace Cert.LastQueryIdeal.Prep

open Cert.LastQueryIdeal Cert.LastQueryIdeal.Gen Idealize.ShloMosaic Idealize.ShloMosaic.TcCoe
open scoped BigOperators

variable (m : (ℓ : Loc nD τ sig) → Buf (Elt Ideal) ℓ) (c : Dev nD)

/-- The gain row. -/
theorem gain_apply (k : Fin 1024) : V m c main_v9 (ix2 (0 : Fin 1) k) = m ((c : Thread nD τ).loc main_arg1) (ix3 3 0 k) := by
  have e : V m c main_v9 = extractStridedSlice S1x1024 ![0, 0] (shapeCast S4x1024 (extractStridedSlice S1x4x1024 ![3, 0, 0] (m ((c : Thread nD τ).loc main_arg1)) slices_S4x4x1024_S1x4x1024_3_0_0) shapeCasts_S1x4x1024_S4x1024) slices_S4x1024_S1x1024_0_0 := by
    show StableHlo.after hostOps0 (fun b => m (c, b)) (Proc.devRef .tc main_v9) = _
    after_results_simp
    rfl
  rw [e]
  pointwise

/-- The factor the weights are scaled by. -/
def scale : EReal := Ideal.ofBits .f32 0x3E000000#32

/-- The first layer's weights, scaled. -/
def scaled (w : FVec Ideal S2x1024x1024 .f32) (k f : Fin 1024) : EReal := w (ix3 1 k f) * scale

/-- The weights. -/
theorem w_apply (k f : Fin 1024) :
    V m c main_v8 (ix2 k f) = scaled (m ((c : Thread nD τ).loc main_arg2)) k f := by
  have e : V m c main_v8 = truncf (F := Ideal) .bf16 (mulf (shapeCast S1024x1024 (extractStridedSlice S1x1024x1024 ![1, 0, 0] (m ((c : Thread nD τ).loc main_arg2)) slices_S2x1024x1024_S1x1024x1024_1_0_0) shapeCasts_S1x1024x1024_S1024x1024) (broadcastInDim S1024x1024 ![] bcast_S_S1024x1024 (constant (F := Ideal) S_ .f32 0x3E000000#32))) bitsLt_bf16_f32 := by
    show StableHlo.after hostOps0 (fun b => m (c, b)) (Proc.devRef .tc main_v8) = _
    after_results_simp
    rfl
  rw [e]
  unfold scaled scale
  pointwise

/-- The padded hidden states, batch element by batch element. -/
theorem hidden_apply (b : Fin 4) (p : Fin 8208) (j : Fin 1024) :
    V m c main_v1 (ix2 (⟨b.val * 8448 + (128 + p.val), by omega⟩ : Fin 33792) j) = m ((c : Thread nD τ).loc main_arg0) (ix3 b p j) := by
  have e : V m c main_v1 = shapeCast S33792x1024 (concatenate S4x8448x1024 1
      [⟨S4x128x1024, m ((c : Thread nD τ).loc main_arg3)⟩,
        ⟨S4x8208x1024, m ((c : Thread nD τ).loc main_arg0)⟩,
        ⟨S4x112x1024, m ((c : Thread nD τ).loc main_arg4)⟩]
      concatenates_S4x128x1024_S4x8208x1024_S4x112x1024_S4x8448x1024_d1) shapeCasts_S4x8448x1024_S33792x1024 := by
    show StableHlo.after hostOps0 (fun b => m (c, b)) (Proc.devRef .tc main_v1) = _
    after_results_simp
    rfl
  rw [e]
  generalize m ((c : Thread nD τ).loc main_arg0) = x
  pointwise
  have hp := p.isLt
  have hb := b.isLt
  have e1 : (b.val * 8448 + (128 + p.val)) % 8448 = 128 + p.val := by omega
  rw [dif_neg (by omega), dif_pos (by omega)]
  congr 2
  exact Fin.ext (by show (b.val * 8448 + (128 + p.val)) % 8448 - 128 = p.val; omega)

end Cert.LastQueryIdeal.Prep

end
-- ==== Proof.LastQuery.Block.lean ====
/- What one grid point of the last layer's query projection computes, read at a tile, a row and a lane of its block: the row's
   normalization and projection (`Cert.Row`), 128 columns to a tile. -/
module

public import proofs.«01_k».proof.Proof.Gen.LastQueryIdeal.Frame
public import proofs.«01_k».proof.Proof.Row
public import Idealize.ShloMosaic.Lib.Pointwise
public import Idealize.ShloMosaic.Lib.Pipeline.ValueKit

@[expose] public section

noncomputable section

namespace Cert.LastQueryIdeal.Block

open Cert.LastQueryIdeal Cert.LastQueryIdeal.Gen Cert.Row Idealize.ShloMosaic
open scoped BigOperators

/-- The zero offset. -/
theorem hz2 : (![0, 0] : Fin 2 → ℕ) = fun _ => 0 := by funext a; fin_cases a <;> rfl

/-- The projection of a row of the block. -/
theorem proj_apply (x0 : Vec Ideal S512x1024 .f32) (x1 : Vec Ideal S1x1024 .f32) (x2 : Vec Ideal S1024x1024 .bf16) (r : Fin 512) (f : Fin 1024) :
    k0_pay6 x0 x1 x2 (ix2 r f) = lin (rms (fun k => x0 (ix2 r k)) (fun k => x1 (ix2 0 k))) (fun k f => x2 (ix2 k f)) f := by
  unfold lin rms cLen cEps
  pointwise [k0_pay6, dot_S512x1024_S1024x1024_S512x1024_1_0_0_1_n_n]

/-- Tile `i 0` of a block of rows: 128 of its columns. -/
def tile (y : FVec Ideal S512x1024 .bf16) (i : S8x512x128.Idx) : EReal :=
  y (ix2 (⟨(i 1).val, (i 1).isLt⟩ : Fin 512) (⟨(i 0).val * 128 + (i 2).val, by have h0 : (i 0).val < 8 := (i 0).isLt; have h2 : (i 2).val < 128 := (i 2).isLt; omega⟩ : Fin 1024))

/-- A stored piece is its tile. -/
theorem piece (y : FVec Ideal S512x1024 .bf16) (q o : ℕ) (ho : o = q * 128) (hq : q < 8) (hs : S512x1024.Slices ![0, o] S512x128)
    (inb : ∀ a, (![q, 0, 0] : Fin 3 → ℕ) a + S1x512x128.size a ≤ S8x512x128.size a) (x : S1x512x128.Idx) :
    shapeCast S1x512x128 (extractStridedSlice S512x128 ![0, o] y hs) shapeCasts_S512x128_S1x512x128 x
      = tile y ((Rect.unit (s := S8x512x128) ![q, 0, 0] S1x512x128.size inb).emb x) := by
  obtain ⟨a, r, l, rfl⟩ : ∃ (a : Fin 1) (r : Fin 512) (l : Fin 128), x = ix3 a r l := ⟨x 0, x 1, x 2, by funext a; fin_cases a <;> rfl⟩
  have e : (Rect.unit (s := S8x512x128) ![q, 0, 0] S1x512x128.size inb).emb (ix3 a r l) = ix3 (⟨q, hq⟩ : Fin 8) r l := by
    funext b
    apply Fin.ext
    fin_cases b
    · show q + 1 * a.val = q
      omega
    · show 0 + 1 * r.val = r.val
      omega
    · show 0 + 1 * l.val = l.val
      omega
  rw [e]
  unfold tile
  pointwise
  subst ho
  rfl

/-- The block the body leaves: tile by tile, the projection of its rows. -/
theorem out_eq (x0 : Vec Ideal S512x1024 .f32) (x1 : Vec Ideal S1x1024 .f32) (x2 : Vec Ideal S1024x1024 .bf16) (i : S8x512x128.Idx) :
    out0_3 x0 x1 x2 i = tile (k0_pay6 x0 x1 x2) i := by
  have e0 : View.ld x0 r0_0 = x0 := View.ld_unit_zero (S := S512x1024) hz2 _ _
  have e1 : View.ld x1 r0_1 = x1 := View.ld_unit_zero (S := S1x1024) hz2 _ _
  have e2 : View.ld x2 r0_2 = x2 := View.ld_unit_zero (S := S1024x1024) hz2 _ _
  unfold out0_3 k0_pay11
  rw [e0, e1, e2]
  refine View.canon_apply_of_pieces (Val := Elt Ideal) (e := .bf16) (S := S8x512x128) (tile (k0_pay6 x0 x1 x2)) _ ?_ i (cover0_3 _ _ _ _ _ _ _ _ i)
  simp only [List.forall_mem_cons, List.forall_mem_nil, and_true]
  refine ⟨?_, ?_, ?_, ?_, ?_, ?_, ?_, ?_⟩
  · exact piece (k0_pay6 x0 x1 x2) 7 896 rfl (by omega) slices_S512x1024_o0_896_S512x128 inb_S8x512x128_S1x512x128_7_0_0
  · exact piece (k0_pay6 x0 x1 x2) 6 768 rfl (by omega) slices_S512x1024_o0_768_S512x128 inb_S8x512x128_S1x512x128_6_0_0
  · exact piece (k0_pay6 x0 x1 x2) 5 640 rfl (by omega) slices_S512x1024_o0_640_S512x128 inb_S8x512x128_S1x512x128_5_0_0
  · exact piece (k0_pay6 x0 x1 x2) 4 512 rfl (by omega) slices_S512x1024_o0_512_S512x128 inb_S8x512x128_S1x512x128_4_0_0
  · exact piece (k0_pay6 x0 x1 x2) 3 384 rfl (by omega) slices_S512x1024_o0_384_S512x128 inb_S8x512x128_S1x512x128_3_0_0
  · exact piece (k0_pay6 x0 x1 x2) 2 256 rfl (by omega) slices_S512x1024_o0_256_S512x128 inb_S8x512x128_S1x512x128_2_0_0
  · exact piece (k0_pay6 x0 x1 x2) 1 128 rfl (by omega) slices_S512x1024_o0_128_S512x128 inb_S8x512x128_S1x512x128_1_0_0
  · exact ⟨piece (k0_pay6 x0 x1 x2) 0 0 rfl (by omega) slices_S512x1024_o0_0_S512x128 inb_S8x512x128_S1x512x128_0_0_0, fun p hp => absurd hp List.not_mem_nil⟩

/-- The same at a tile, a row and a lane. -/
theorem out_apply (x0 : Vec Ideal S512x1024 .f32) (x1 : Vec Ideal S1x1024 .f32) (x2 : Vec Ideal S1024x1024 .bf16) (q : Fin 8) (r : Fin 512) (l : Fin 128) :
    out0_3 x0 x1 x2 (ix3 q r l)
      = lin (rms (fun k => x0 (ix2 r k)) (fun k => x1 (ix2 0 k))) (fun k f => x2 (ix2 k f)) (⟨q.val * 128 + l.val, by omega⟩ : Fin 1024) := by
  rw [out_eq]
  exact proj_apply x0 x1 x2 r _

end Cert.LastQueryIdeal.Block

end
-- ==== Proof.LastQuery.Array.lean ====
/- The last layer's query projection's result array as one function of the rows it finds: each point's block is the projection of its rows, 128
   columns to a tile, and the blocks tile the array. -/
module

public import proofs.«01_k».proof.Proof.Gen.LastQueryIdeal.Frame
public import proofs.«01_k».proof.Proof.LastQuery.Prep
public import proofs.«01_k».proof.Proof.LastQuery.Block
public import Idealize.ShloMosaic.Lib.Pipeline.ValueKit

@[expose] public section

noncomputable section

namespace Cert.LastQueryIdeal.Array

open Cert.LastQueryIdeal Cert.LastQueryIdeal.Gen Cert.Row Idealize.ShloMosaic Idealize.ShloMosaic.TcCoe
open Idealize.ShloMosaic.Pipeline (Dat)

variable (m : (ℓ : Loc nD τ sig) → Buf (Elt Ideal) ℓ) (c : Dev nD)

/-- Where point `t`'s blocks of rows lie: block `t` of the rows it reads, and block `t` of every tile it writes. -/
theorem index_facts : ∀ t : Fin grid0.N,
    (win0_0.index t 0 = t.val ∧ win0_0.index t 1 = 0) ∧ (win0_3.index t 0 = 0 ∧ win0_3.index t 1 = t.val ∧ win0_3.index t 2 = 0) := by
  decide +kernel

/-- The windows of the gain row and the weights begin at zero at every point. -/
theorem index_zero : ∀ (t : Fin grid0.N) (a : Fin 2), win0_1.index t a = 0 ∧ win0_2.index t a = 0 := by
  decide +kernel

/-- Row `R` of the padded hidden states. -/
def hid (R : Fin 33792) (k : Fin 1024) : EReal := V m c main_v1 (ix2 R k)
/-- The gain row. -/
def gain (k : Fin 1024) : EReal := m ((c : Thread nD τ).loc main_arg1) (ix3 3 0 k)
/-- The weights. -/
def wt (k : Fin 1024) (f : Fin 1024) : EReal := Prep.scaled (m ((c : Thread nD τ).loc main_arg2)) k f
/-- The projection of row `R`. -/
def rowOut (R : Fin 33792) : Fin 1024 → EReal := lin (rms (hid m c R) (gain m c)) (wt m c)

/-- Row `r` of point `t`'s block. -/
def at_ (t : Fin grid0.N) (r : Fin 512) : Fin 33792 := ⟨t.val * 512 + r.val, by have := t.isLt; have := N_0; omega⟩

/-- Point `t`'s block of the hidden states. -/
theorem hidden_block (t : Fin grid0.N) (r : Fin 512) (k : Fin 1024) : iblk m c 0 t (ix2 r k) = hid m c (at_ t r) k := by
  show V m c main_v1 ((win0_0.rect t).emb (ix2 r k)) = V m c main_v1 (ix2 (at_ t r) k)
  congr 1
  obtain ⟨⟨h0, h1⟩, -⟩ := index_facts t
  funext a
  apply Fin.ext
  rw [Pipeline.Window.rect_emb_val_off]
  fin_cases a
  · show win0_0.index t 0 * 512 + r.val = t.val * 512 + r.val
    rw [h0]
  · show win0_0.index t 1 * 1024 + k.val = k.val
    rw [h1]; omega

/-- Every point's block of the gain row is the whole row. -/
theorem gain_block (t : Fin grid0.N) (k : Fin 1024) : iblk m c 1 t (ix2 (0 : Fin 1) k) = gain m c k := by
  refine Eq.trans ?_ (Prep.gain_apply m c k)
  show V m c main_v9 ((win0_1.rect t).emb (ix2 (0 : Fin 1) k)) = _
  congr 1
  funext b
  apply Fin.ext
  rw [Pipeline.Window.rect_emb_val_of_index_zero _ _ _ (index_zero t b).1]

/-- Every point's block of the weights is the whole array. -/
theorem w_block (t : Fin grid0.N) (k : Fin 1024) (f : Fin 1024) : iblk m c 2 t (ix2 k f) = wt m c k f := by
  refine Eq.trans ?_ (Prep.w_apply m c k f)
  show V m c main_v8 ((win0_2.rect t).emb (ix2 k f)) = _
  congr 1
  funext b
  apply Fin.ext
  rw [Pipeline.Window.rect_emb_val_of_index_zero _ _ _ (index_zero t b).2]

/-- Column `l` of tile `q`. -/
def col (q : Fin 8) (l : Fin 128) : Fin 1024 := ⟨q.val * 128 + l.val, by omega⟩

/-- What point `t` computes at a tile, a row and a lane. -/
theorem out_block (t : Fin cfg0.N) (q : Fin 8) (r : Fin 512) (l : Fin 128) :
    out0_3 (iblk m c 0 t) (iblk m c 1 t) (iblk m c 2 t) (ix3 q r l) = rowOut m c (at_ t r) (col q l) := by
  unfold rowOut col
  refine (Block.out_apply _ _ _ q r l).trans ?_
  simp only [hidden_block, gain_block, w_block]

/-- The projection of every padded row, tile by tile. -/
def tiles : Buf (Elt Ideal) ((c : Thread nD τ).loc main_v10) := fun (i : S8x33792x128.Idx) => rowOut m c (i 1) (col (i 0) (i 2))

/-- WHAT POINT `t` WRITES BACK is its block of the projection. -/
theorem flushed_eq (t : Fin cfg0.N) :
    (dats m 0 c).flushed 3 t = ((cfg0.win 3).blk t).view.read (Elt Ideal) (tiles m c) := by
  show (cfg0.win 3).cut (grid0.coords t) ((dats m 0 c).after 3 t) = _
  rw [after0_3]
  obtain ⟨-, h0, h1, h2⟩ := index_facts t
  funext y
  obtain ⟨q, r, l, rfl⟩ : ∃ (q : Fin 8) (r : Fin 512) (l : Fin 128), y = ix3 q r l := ⟨y 0, y 1, y 2, by funext a; fin_cases a <;> rfl⟩
  refine (out_block m c t q r l).trans ?_
  show tiles m c (ix3 q (at_ t r) l) = tiles m c ((win0_3.rect t).emb (ix3 q r l))
  congr 1
  funext a
  apply Fin.ext
  rw [Pipeline.Window.rect_emb_val_off]
  fin_cases a
  · show q.val = win0_3.index t 0 * 8 + q.val
    rw [h0]; omega
  · show t.val * 512 + r.val = win0_3.index t 1 * 512 + r.val
    rw [h1]
  · show l.val = win0_3.index t 2 * 128 + l.val
    rw [h2]; omega

/-- The written blocks tile the array. -/
theorem cover (i : S8x33792x128.Idx) : ∃ t : Fin cfg0.N, (cfg0.win 3).flush t = true ∧ i ∈ ((cfg0.win 3).blk t).view.set := by
  have hq : (i 0).val < 8 := (i 0).isLt
  have hi : (i 1).val < 33792 := (i 1).isLt
  have hl : (i 2).val < 128 := (i 2).isLt
  let t : Fin cfg0.N := ⟨(i 1).val / 512, by have : cfg0.N = 66 := N_0; omega⟩
  refine ⟨t, flush0_3 t, ?_⟩
  obtain ⟨-, h0, h1, h2⟩ := index_facts t
  show i ∈ ((View.whole main_v10).slice ((cfg0.win 3).rect t)).set
  erw [View.set_slice_whole]
  refine (Pipeline.Window.mem_rect_iff (cfg0.win 3) t i (by rfl)).mpr fun a => ?_
  fin_cases a
  · show win0_3.index t 0 * 8 ≤ (i 0).val ∧ (i 0).val < win0_3.index t 0 * 8 + 8
    rw [h0]; omega
  · show win0_3.index t 1 * 512 ≤ (i 1).val ∧ (i 1).val < win0_3.index t 1 * 512 + 512
    rw [h1]; show (i 1).val / 512 * 512 ≤ _ ∧ _ < (i 1).val / 512 * 512 + 512
    omega
  · show win0_3.index t 2 * 128 ≤ (i 2).val ∧ (i 2).val < win0_3.index t 2 * 128 + 128
    rw [h2]; omega

/-- THE RESULT ARRAY after the run is the projection of every row. -/
theorem final : (dats m 0 c).arrAt 3 cfg0.N = tiles m c :=
  (dats m 0 c).arrAt_eq_of_cover 3 (tiles m c) (fun t _ => flushed_eq m c t) cover

end Cert.LastQueryIdeal.Array

end
-- ==== Proof.LastQuery.Ref.lean ====
/- The last layer's query projection's reference, read at a batch element, a head, a position and one of the head's 64 columns. -/
module

public import proofs.«01_k».proof.Proof.Gen.LastQueryReferenceIdeal.Read
public import proofs.«01_k».proof.Proof.Row
public import Idealize.ShloMosaic.Lib.Pointwise

@[expose] public section

noncomputable section

namespace Cert.LastQueryReferenceIdeal.Rows

open Cert.LastQueryReferenceIdeal Cert.LastQueryReferenceIdeal.Gen Cert.LastQueryReferenceIdeal.Read Cert.Row Idealize.ShloMosaic
open scoped BigOperators

variable (x0 : (⟨S4x8208x1024, .f32⟩ : BufTy).Contents (Elt Ideal)) (x1 : (⟨S4x4x1024, .f32⟩ : BufTy).Contents (Elt Ideal))
  (x2 : (⟨S2x1024x1024, .f32⟩ : BufTy).Contents (Elt Ideal))

/-- The layer's first gain row. -/
theorem gain_apply (k : Fin 1024) : val_main_v3 (F := Ideal) x1 (ix1 k) = x1 (ix3 3 0 k) := by
  unfold val_main_v3 val_main_v2 val_main_v1 val_main_v0
  pointwise

/-- The layer's weights. -/
theorem w_apply (k f : Fin 1024) : val_main_v18 (F := Ideal) x2 (ix2 k f) = x2 (ix3 1 k f) := by
  unfold val_main_v18 val_main_v17
  pointwise

/-- The normalized hidden states. -/
theorem enter_apply (b : Fin 4) (p : Fin 8208) (j : Fin 1024) :
    val_main_v16 (F := Ideal) x0 x1 (ix3 b p j) = rms (fun k => x0 (ix3 b p k)) (fun k => x1 (ix3 3 0 k)) j := by
  unfold val_main_v16 val_main_v15 val_main_v14 val_main_v13 val_main_v12 val_main_v11 val_main_v10 val_main_v9 val_main_v8 val_main_v7 val_main_v6 val_main_v5 val_main_v4 rms cLen cEps val_main_cst val_main_cst_0 val_main_cst_1
  pointwise [gain_apply]

/-- The scaled queries of a head: 64 columns of the projection. -/
theorem queries_apply (b : Fin 4) (h : Fin 16) (p : Fin 8208) (d : Fin 64) :
    val_main_v23 (F := Ideal) x0 x1 x2 (ix4 b h p d)
      = lin (rms (fun k => x0 (ix3 b p k)) (fun k => x1 (ix3 3 0 k))) (fun k f => x2 (ix3 1 k f)) (⟨h.val * 64 + d.val, by omega⟩ : Fin 1024)
          * Ideal.ofBits .f32 0x3E000000#32 := by
  unfold val_main_v23 val_main_v22 val_main_v21 val_main_v20 val_main_v19 val_main_cst_2 lin
  pointwise [dot_S4x8208x1024_S1024x1024_S4x8208x1024_2_0_01_1_n_n, enter_apply, w_apply]

end Cert.LastQueryReferenceIdeal.Rows

end
-- ==== Proof.LastQuery.Result.lean ====
/- The last layer's query projection's result, the scaled queries of every head: the real rows
   of its tiles are the reference's. -/
module

public import proofs.«01_k».proof.Proof.LastQuery.Array
public import proofs.«01_k».proof.Proof.LastQuery.Ref

@[expose] public section

noncomputable section

namespace Cert.LastQueryIdeal.Result

open Cert.LastQueryIdeal Cert.LastQueryIdeal.Gen Cert.LastQueryIdeal.Array Cert.Row Idealize.ShloMosaic Idealize.ShloMosaic.TcCoe
open scoped BigOperators

variable (m : (ℓ : Loc nD τ sig) → Buf (Elt Ideal) ℓ) (c : Dev nD)

/-- Position `p` of batch element `b` among the padded rows. -/
def real (b : Fin 4) (p : Fin 8208) : Fin 33792 := ⟨b.val * 8448 + (128 + p.val), by omega⟩

/-- A batch element's hidden states. -/
theorem hid_real (b : Fin 4) (p : Fin 8208) : hid m c (real b p) = fun k => m ((c : Thread nD τ).loc main_arg0) (ix3 b p k) := by
  funext k
  exact Prep.hidden_apply m c b p k

/-- The real rows of the tiles, head by head: a tile holds two heads. -/
def heads (x : FVec Ideal S8x33792x128 .bf16) : FVec Ideal S4x16x8208x64 .bf16 :=
  shapeCast S4x16x8208x64 (transpose S4x8x2x8208x64 [1, 0, 3, 2, 4] (extractStridedSlice S8x4x8208x2x64 ![0, 0, 128, 0, 0] (shapeCast S8x4x8448x2x64 x shapeCasts_S8x33792x128_S8x4x8448x2x64) slices_S8x4x8448x2x64_S8x4x8208x2x64_0_0_128_0_0) transposes_S8x4x8208x2x64_S4x8x2x8208x64_1_0_3_2_4) shapeCasts_S4x8x2x8208x64_S4x16x8208x64

/-- A head's entry: which tile, row and lane it lies in. -/
theorem heads_apply (x : FVec Ideal S8x33792x128 .bf16) (b : Fin 4) (h : Fin 16) (p : Fin 8208) (d : Fin 64) :
    heads x (ix4 b h p d) = x (ix3 (⟨h.val / 2, by omega⟩ : Fin 8) (real b p) (⟨h.val % 2 * 64 + d.val, by omega⟩ : Fin 128)) := by
  unfold heads real
  pointwise

/-- A head's column of the tiles is its column of the projection. -/
theorem heads_tiles (b : Fin 4) (h : Fin 16) (p : Fin 8208) (d : Fin 64) :
    heads (tiles m c) (ix4 b h p d) = rowOut m c (real b p) (⟨h.val * 64 + d.val, by omega⟩ : Fin 1024) := by
  refine (heads_apply _ b h p d).trans ?_
  show rowOut m c (real b p) (col _ _) = _
  congr 1
  exact Fin.ext (by show h.val / 2 * 128 + (h.val % 2 * 64 + d.val) = h.val * 64 + d.val; omega)

/-- The reference's result of the kernel's arguments. -/
def val : Buf (Elt Ideal) ((c : Thread nD τ).loc main_v15) :=
  Cert.LastQueryReferenceIdeal.Read.val_main_v23 (F := Ideal) (m ((c : Thread nD τ).loc main_arg0)) (m ((c : Thread nD τ).loc main_arg1)) (m ((c : Thread nD τ).loc main_arg2))

/-- The scale is one eighth. -/
theorem scale_eq : Prep.scale = (((1 : ℝ) / 8 : ℝ) : EReal) := by
  unfold Prep.scale
  simp [Ideal.ofBits, Ideal.ieee, -EReal.coe_mul]
  norm_num

/-- A factor that is finite and not negative may be taken out of a product's columns. -/
theorem lin_scale (x : Fin 1024 → EReal) (w : Fin 1024 → Fin 1024 → EReal) (a : EReal) (h0 : 0 ≤ a) (ht : a ≠ ⊤) (j : Fin 1024) :
    lin x (fun k f => w k f * a) j = lin x w j * a := by
  have key : ∀ s : Finset (Fin 1024), ∑ k ∈ s, x k * (w k j * a) = (∑ k ∈ s, x k * w k j) * a := by
    intro s
    induction s using Finset.induction_on with
    | empty => simp
    | insert k s hk ih => rw [Finset.sum_insert hk, Finset.sum_insert hk, ih, EReal.right_distrib_of_nonneg_of_ne_top h0 ht, mul_assoc]
  exact key Finset.univ

/-- The projection's columns at a real row are the reference's scaled queries. -/
theorem rowOut_real (b : Fin 4) (h : Fin 16) (p : Fin 8208) (d : Fin 64) :
    rowOut m c (real b p) (⟨h.val * 64 + d.val, by omega⟩ : Fin 1024) = val m c (ix4 b h p d) := by
  unfold val rowOut
  rw [Cert.LastQueryReferenceIdeal.Rows.queries_apply, hid_real]
  refine (lin_scale _ (fun k f => m ((c : Thread nD τ).loc main_arg2) (ix3 1 k f)) Prep.scale ?_ ?_ _).trans rfl
  · rw [scale_eq]; exact EReal.coe_nonneg.mpr (by norm_num)
  · rw [scale_eq]; exact EReal.coe_ne_top _

/-- THE RESULT: what the host lines after the region leave is the reference's result. -/
theorem tail_eq : Pipeline.afterTail₀ cfgs (dats m) 0 (V0 m) [hostOps1] c main_v15 = val m c := by
  have e : Pipeline.afterTail₀ cfgs (dats m) 0 (V0 m) [hostOps1] c main_v15
      = extf (F := Ideal) .f32 (heads (tiles m c)) bitsLt_bf16_f32 := by
    have h : Pipeline.withArrays spec0 c (V0 m c) (fun w => (dats m 0 c).arrAt w cfg0.N) (Proc.devRef .tc main_v10) = tiles m c :=
      (Pipeline.withArrays_arr spec0 (by decide : Function.Injective (Pipeline.arrRef spec0)) c (V0 m c) (fun w => (dats m 0 c).arrAt w cfg0.N) 3).trans (final m c)
    rw [← h]
    unfold Pipeline.afterTail₀
    show StableHlo.after hostOps1 _ _ = _
    after_results_simp
    rfl
  rw [e]
  funext y
  obtain ⟨b, h, p, d, rfl⟩ : ∃ (b : Fin 4) (h : Fin 16) (p : Fin 8208) (d : Fin 64), y = ix4 b h p d := ⟨y 0, y 1, y 2, y 3, by funext a; fin_cases a <;> rfl⟩
  exact (heads_tiles m c b h p d).trans (rowOut_real m c b h p d)

end Cert.LastQueryIdeal.Result

end
-- ==== Proof.LastQuery.Claims.lean ====
/- The claims about the last layer's query projection: its frames, its idealization's ledger, and its equality with the reference over
   the extended reals. -/
module

public import proofs.«01_k».proof.Defs
public import proofs.«01_k».proof.Proof.LastQuery.Result
public import proofs.«01_k».proof.Proof.Gen.LastQuery.Frame
public import proofs.«01_k».proof.Proof.Gen.LastQueryReferenceIdeal.Run

@[expose] public section

noncomputable section

namespace Cert.Proof.LastQueries

open Idealize.ShloMosaic Idealize.ShloMosaic.TcCoe Idealize.SL.Sem

/-- The call terminates, leaves its arguments, and ends with every semaphore at zero. -/
theorem frame_p : Cert.quiescent_LastQuery := fun m ρ _ => Cert.LastQuery.Gen.frame m ρ

/-- So does its idealization. -/
theorem frame_pi : Cert.quiescent_LastQueryIdeal := fun m ρ _ => Cert.LastQueryIdeal.Gen.frame m ρ

/-- So does the reference, which has no semaphores. -/
theorem frame_ri : Cert.quiescent_LastQueryReferenceIdeal := fun m ρ _ =>
  (θ_run Cert.LastQueryReferenceIdeal.defs _ _).mono (fun r h => ⟨fun c => (h c).2, sem_eq_zero_of_no_sems (by decide) r.2⟩)
    (Cert.LastQueryReferenceIdeal.Value.run (F := Ideal) m ρ)

/-- The idealization replaced nothing, so there is nothing to preserve. -/
theorem preserves : Cert.preserves_LastQuery_LastQueryIdeal := trivial

/-- On arguments that agree, the call's result and the reference's are one array of extended reals. -/
theorem algebraic : Cert.algebraic_LastQueryIdeal_LastQueryReferenceIdeal := by
  intro m ρ m' ρ' _ hagree
  refine ⟨fun c => Cert.LastQueryIdeal.Result.val m c, ?_, ?_⟩
  · refine (θ_run Cert.LastQueryIdeal.defs _ _).mono (fun r h c => ?_)
      (θ_run_and (Cert.LastQueryIdeal.Gen.run_main (F := Ideal) m ρ) (Cert.LastQueryIdeal.Gen.unchanged m ρ))
    exact ⟨((h.1 c).2 Cert.LastQueryIdeal.main_v15 (by decide)).trans (Cert.LastQueryIdeal.Result.tail_eq m c), h.2 c⟩
  · refine (θ_run Cert.LastQueryReferenceIdeal.defs _ _).mono (fun r h c => ?_) (Cert.LastQueryReferenceIdeal.Value.run (F := Ideal) m' ρ')
    refine ⟨(h c).1.trans ((Cert.LastQueryReferenceIdeal.Read.val_main_v23_eq (F := Ideal) _ _ _).trans ?_), (h c).2⟩
    obtain ⟨h0, h1, h2, _⟩ := hagree c
    rw [h0, h1, h2]
    rfl

end Cert.Proof.LastQueries

end
-- ==== Proof.lean ====
module

public import proofs.«01_k».proof.Defs
public import proofs.«01_k».proof.Proof.Claims
public import proofs.«01_k».proof.Proof.Conv.Claims
public import proofs.«01_k».proof.Proof.Mlp.Claims
public import proofs.«01_k».proof.Proof.KeyValue.Claims
public import proofs.«01_k».proof.Proof.Query.Claims
public import proofs.«01_k».proof.Proof.NextConv.Claims
public import proofs.«01_k».proof.Proof.LastQuery.Claims
public import proofs.«01_k».proof.Proof.Gen.Kernel
public import proofs.«01_k».proof.Proof.Gen.KernelIdeal
public import proofs.«01_k».proof.Proof.Gen.ReferenceIdeal
public import proofs.«01_k».proof.Proof.Gen.Conv
public import proofs.«01_k».proof.Proof.Gen.ConvIdeal
public import proofs.«01_k».proof.Proof.Gen.ConvReferenceIdeal
public import proofs.«01_k».proof.Proof.Gen.Mlp
public import proofs.«01_k».proof.Proof.Gen.MlpIdeal
public import proofs.«01_k».proof.Proof.Gen.MlpReferenceIdeal
public import proofs.«01_k».proof.Proof.Gen.KeyValue
public import proofs.«01_k».proof.Proof.Gen.KeyValueIdeal
public import proofs.«01_k».proof.Proof.Gen.KeyValueReferenceIdeal
public import proofs.«01_k».proof.Proof.Gen.Query
public import proofs.«01_k».proof.Proof.Gen.QueryIdeal
public import proofs.«01_k».proof.Proof.Gen.QueryReferenceIdeal
public import proofs.«01_k».proof.Proof.Gen.NextConv
public import proofs.«01_k».proof.Proof.Gen.NextConvIdeal
public import proofs.«01_k».proof.Proof.Gen.NextConvReferenceIdeal
public import proofs.«01_k».proof.Proof.Gen.LastQuery
public import proofs.«01_k».proof.Proof.Gen.LastQueryIdeal
public import proofs.«01_k».proof.Proof.Gen.LastQueryReferenceIdeal

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts,
  Cert.Conv.Gen.facts, Cert.ConvIdeal.Gen.facts, Cert.ConvReferenceIdeal.Gen.facts,
  Cert.Mlp.Gen.facts, Cert.MlpIdeal.Gen.facts, Cert.MlpReferenceIdeal.Gen.facts,
  Cert.KeyValue.Gen.facts, Cert.KeyValueIdeal.Gen.facts, Cert.KeyValueReferenceIdeal.Gen.facts,
  Cert.Query.Gen.facts, Cert.QueryIdeal.Gen.facts, Cert.QueryReferenceIdeal.Gen.facts,
  Cert.NextConv.Gen.facts, Cert.NextConvIdeal.Gen.facts, Cert.NextConvReferenceIdeal.Gen.facts,
  Cert.LastQuery.Gen.facts, Cert.LastQueryIdeal.Gen.facts, Cert.LastQueryReferenceIdeal.Gen.facts,
  RealRows.frame_p, RealRows.frame_pi, RealRows.frame_ri,
  ShortConv.frame_p, ShortConv.frame_pi, ShortConv.frame_ri,
  LayerTwo.frame_p, LayerTwo.frame_pi, LayerTwo.frame_ri,
  KeysValues.frame_p, KeysValues.frame_pi, KeysValues.frame_ri,
  Queries.frame_p, Queries.frame_pi, Queries.frame_ri,
  NextShortConv.frame_p, NextShortConv.frame_pi, NextShortConv.frame_ri,
  LastQueries.frame_p, LastQueries.frame_pi, LastQueries.frame_ri,
  RealRows.preserves, RealRows.algebraic,
  ShortConv.preserves, ShortConv.algebraic,
  LayerTwo.preserves, LayerTwo.algebraic,
  KeysValues.preserves, KeysValues.algebraic,
  Queries.preserves, Queries.algebraic,
  NextShortConv.preserves, NextShortConv.algebraic,
  LastQueries.preserves, LastQueries.algebraic⟩

end Cert.Proof

end
